-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_two_classes [hPre_two_classes : Cert.Pre_two_classes.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_two_classes.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_two_classes [hPre_two_classes : Cert.Pre_two_classes.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_two_classes.fn (F := Ideal) (m ((c.tc : Thread Cert.Reference2Ideal.nD Cert.Reference2Ideal.τ).loc Cert.Reference2Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_two_classes [hKernel2Ideal : Cert.Kernel2Ideal.Facts] [hPre_two_classes : Cert.Pre_two_classes.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_two_classes m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_two_classes [hReference2Ideal : Cert.Reference2Ideal.Facts] [hPre_two_classes : Cert.Pre_two_classes.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_two_classes m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v393) = v0 c
          ∧ r.2.mem ((c.tc : Thread Cert.ReferenceIdeal.nD Cert.ReferenceIdeal.τ).loc Cert.ReferenceIdeal.main_v406) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel2_Kernel2Ideal : Prop :=
  True

def algebraic_Kernel2Ideal_Reference2Ideal_pre_two_classes [hKernel2Ideal : Cert.Kernel2Ideal.Facts] [hReference2Ideal : Cert.Reference2Ideal.Facts] [hPre_two_classes : Cert.Pre_two_classes.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_two_classes m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v62)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v62) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v160) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_boxes : Cert.Pre_finite_boxes.Facts) (hPre_two_classes : Cert.Pre_two_classes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ quiescent_Kernel2 (hKernel2 := hKernel2)
    ∧ quiescent_Kernel2Ideal (hKernel2Ideal := hKernel2Ideal)
    ∧ quiescent_Kernel2Ideal_pre_two_classes (hKernel2Ideal := hKernel2Ideal) (hPre_two_classes := hPre_two_classes)
    ∧ quiescent_Reference2Ideal (hReference2Ideal := hReference2Ideal)
    ∧ quiescent_Reference2Ideal_pre_two_classes (hReference2Ideal := hReference2Ideal) (hPre_two_classes := hPre_two_classes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
    ∧ preserves_Kernel2_Kernel2Ideal
    ∧ algebraic_Kernel2Ideal_Reference2Ideal_pre_two_classes (hKernel2Ideal := hKernel2Ideal) (hReference2Ideal := hReference2Ideal) (hPre_two_classes := hPre_two_classes)
-- ==== Pre_finite_boxes.lean ====
abbrev S100x6 : Shape := ⟨2, ![100, 6]⟩
abbrev S1x64x128x128 : Shape := ⟨4, ![1, 64, 128, 128]⟩
abbrev S256x64x3x3 : Shape := ⟨4, ![256, 64, 3, 3]⟩
abbrev S256 : Shape := ⟨1, ![256]⟩
abbrev S256x256x3x3 : Shape := ⟨4, ![256, 256, 3, 3]⟩
abbrev S256x256x2x2 : Shape := ⟨4, ![256, 256, 2, 2]⟩
abbrev S1x256x1x1 : Shape := ⟨4, ![1, 256, 1, 1]⟩
abbrev S1 : Shape := ⟨1, ![1]⟩
abbrev S2x256x1x1 : Shape := ⟨4, ![2, 256, 1, 1]⟩
abbrev S2 : Shape := ⟨1, ![2]⟩
abbrev S100x4 : Shape := ⟨2, ![100, 4]⟩
abbrev S_ : Shape := ⟨0, ![]⟩

class Facts : Prop where
  slices_S100x6_S100x4_0_0 : S100x6.Slices ![0, 0] S100x4
  bcast_S_S100x4 : S_.BroadcastsInDim S100x4 (![] : Fin 0 → Fin S100x4.rank)
  reducesTo_S100x4_S_d0_1 : S100x4.ReducesTo [0, 1] S_
  h_S_ : 0 < S_.numel

variable [Facts]

def fn {F : FTy → Type} [FloatOps F] (main_arg0 : FVec F S100x6 .f32) (main_arg1 : FVec F S1x64x128x128 .f32) (main_arg2 : FVec F S256x64x3x3 .f32) (main_arg3 : FVec F S256 .f32) (main_arg4 : FVec F S256x256x3x3 .f32) (main_arg5 : FVec F S256 .f32) (main_arg6 : FVec F S256x256x3x3 .f32) (main_arg7 : FVec F S256 .f32) (main_arg8 : FVec F S256x256x3x3 .f32) (main_arg9 : FVec F S256 .f32) (main_arg10 : FVec F S256x256x2x2 .f32) (main_arg11 : FVec F S256 .f32) (main_arg12 : FVec F S1x256x1x1 .f32) (main_arg13 : FVec F S1 .f32) (main_arg14 : FVec F S256x256x2x2 .f32) (main_arg15 : FVec F S256 .f32) (main_arg16 : FVec F S2x256x1x1 .f32) (main_arg17 : FVec F S2 .f32) : IVec S_ 1 :=
  let main_v0 : FVec F S100x4 .f32 := (extractStridedSlice S100x4 ![0, 0] · slices_S100x6_S100x4_0_0) main_arg0
  let main_v1 : FVec F S100x4 .f32 := Host.absf main_v0
  let main_cst : FVec F S_ .f32 := constant S_ .f32 0x7F800000#32
  let main_v2 : FVec F S100x4 .f32 := broadcastInDim S100x4 ![] bcast_S_S100x4 main_cst
  let main_v3 : IVec S100x4 1 := cmpf .olt main_v1 main_v2
  let main_c : IVec S_ 1 := constantI S_ 1 1#1
  let main_v4 : IVec S_ 1 := (fun x v => Host.reduce IntOp.andi x v reducesTo_S100x4_S_d0_1 h_S_) main_v3 main_c
  main_v4
-- ==== Pre_two_classes.lean ====
abbrev S1x5000x6 : Shape := ⟨3, ![1, 5000, 6]⟩
abbrev S1x5000x1 : Shape := ⟨3, ![1, 5000, 1]⟩
abbrev S5000 : Shape := ⟨1, ![5000]⟩
abbrev S_ : Shape := ⟨0, ![]⟩

class Facts : Prop where
  slices_S1x5000x6_S1x5000x1_0_0_5 : S1x5000x6.Slices ![0, 0, 5] S1x5000x1
  shapeCasts_S1x5000x1_S5000 : S1x5000x1.ShapeCasts S5000
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : FVec F S1x5000x6 .f32) : IVec S_ 1 :=
  let main_v0 : FVec F S1x5000x1 .f32 := (extractStridedSlice S1x5000x1 ![0, 0, 5] · slices_S1x5000x6_S1x5000x1_0_0_5) main_arg0
  let main_v1 : FVec F S5000 .f32 := shapeCast S5000 main_v0 shapeCasts_S1x5000x1_S5000
  let main_cst : FVec F S_ .f32 := constant S_ .f32 0x00000000#32
  let main_v2 : FVec F S5000 .f32 := broadcastInDim S5000 ![] bcast_S_S5000 main_cst
  let main_v3 : IVec S5000 1 := cmpf .oeq main_v1 main_v2
  let main_v4 : FVec F S1x5000x1 .f32 := (extractStridedSlice S1x5000x1 ![0, 0, 5] · slices_S1x5000x6_S1x5000x1_0_0_5) main_arg0
  let main_v5 : FVec F S5000 .f32 := shapeCast S5000 main_v4 shapeCasts_S1x5000x1_S5000
  let main_cst_0 : FVec F S_ .f32 := constant S_ .f32 0x3F800000#32
  let main_v6 : FVec F S5000 .f32 := broadcastInDim S5000 ![] bcast_S_S5000 main_cst_0
  let main_v7 : IVec S5000 1 := cmpf .oeq main_v5 main_v6
  let main_v8 : IVec S5000 1 := ori main_v3 main_v7
  let main_c : IVec S_ 1 := constantI S_ 1 1#1
  let main_v9 : IVec S_ 1 := (fun x v => Host.reduce IntOp.andi x v reducesTo_S5000_S_d0 h_S_) main_v8 main_c
  main_v9
-- ==== Kernel.lean ====
abbrev S100x6 : Shape := ⟨2, ![100, 6]⟩
abbrev S1x64x128x128 : Shape := ⟨4, ![1, 64, 128, 128]⟩
abbrev S256x64x3x3 : Shape := ⟨4, ![256, 64, 3, 3]⟩
abbrev S256 : Shape := ⟨1, ![256]⟩
abbrev S256x256x3x3 : Shape := ⟨4, ![256, 256, 3, 3]⟩
abbrev S256x256x2x2 : Shape := ⟨4, ![256, 256, 2, 2]⟩
abbrev S1x256x1x1 : Shape := ⟨4, ![1, 256, 1, 1]⟩
abbrev S1 : Shape := ⟨1, ![1]⟩
abbrev S2x256x1x1 : Shape := ⟨4, ![2, 256, 1, 1]⟩
abbrev S2 : Shape := ⟨1, ![2]⟩
abbrev S64x128x128 : Shape := ⟨3, ![64, 128, 128]⟩
abbrev S128x64x128 : Shape := ⟨3, ![128, 64, 128]⟩
abbrev S128x8192 : Shape := ⟨2, ![128, 8192]⟩
abbrev S100x4 : Shape := ⟨2, ![100, 4]⟩
abbrev S4x25x4 : Shape := ⟨3, ![4, 25, 4]⟩
abbrev S3x3x64x256 : Shape := ⟨4, ![3, 3, 64, 256]⟩
abbrev S3x3x256x256 : Shape := ⟨4, ![3, 3, 256, 256]⟩
abbrev S2x2x256x256 : Shape := ⟨4, ![2, 2, 256, 256]⟩
abbrev S1x256 : Shape := ⟨2, ![1, 256]⟩
abbrev S256x1 : Shape := ⟨2, ![256, 1]⟩
abbrev S2x256 : Shape := ⟨2, ![2, 256]⟩
abbrev S256x2 : Shape := ⟨2, ![256, 2]⟩
abbrev S1x1 : Shape := ⟨2, ![1, 1]⟩
abbrev S1x2 : Shape := ⟨2, ![1, 2]⟩
abbrev S100x4x7x7 : Shape := ⟨4, ![100, 4, 7, 7]⟩
abbrev S100x4x7x7x2 : Shape := ⟨5, ![100, 4, 7, 7, 2]⟩
abbrev S1x25x4 : Shape := ⟨3, ![1, 25, 4]⟩
abbrev S25x4x7x7 : Shape := ⟨4, ![25, 4, 7, 7]⟩
abbrev S25x4x7x7x2 : Shape := ⟨5, ![25, 4, 7, 7, 2]⟩
abbrev S25x4 : Shape := ⟨2, ![25, 4]⟩
abbrev S25x1 : Shape := ⟨2, ![25, 1]⟩
abbrev S25x7 : Shape := ⟨2, ![25, 7]⟩
abbrev S25x7x128 : Shape := ⟨3, ![25, 7, 128]⟩
abbrev S25x7x1 : Shape := ⟨3, ![25, 7, 1]⟩
abbrev S175x128 : Shape := ⟨2, ![175, 128]⟩
abbrev S175x8192 : Shape := ⟨2, ![175, 8192]⟩
abbrev S25x448x128 : Shape := ⟨3, ![25, 448, 128]⟩
abbrev S25x448x7 : Shape := ⟨3, ![25, 448, 7]⟩
abbrev S25x7x64x7 : Shape := ⟨4, ![25, 7, 64, 7]⟩
abbrev S25x7x7x64 : Shape := ⟨4, ![25, 7, 7, 64]⟩
abbrev S25x1x7x64 : Shape := ⟨4, ![25, 1, 7, 64]⟩
abbrev S25x9x7x64 : Shape := ⟨4, ![25, 9, 7, 64]⟩
abbrev S25x9x1x64 : Shape := ⟨4, ![25, 9, 1, 64]⟩
abbrev S25x9x9x64 : Shape := ⟨4, ![25, 9, 9, 64]⟩
abbrev S1225x64 : Shape := ⟨2, ![1225, 64]⟩
abbrev S1x1x64x256 : Shape := ⟨4, ![1, 1, 64, 256]⟩
abbrev S64x256 : Shape := ⟨2, ![64, 256]⟩
abbrev S1225x256 : Shape := ⟨2, ![1225, 256]⟩
abbrev S25x7x7x256 : Shape := ⟨4, ![25, 7, 7, 256]⟩
abbrev S25x1x7x256 : Shape := ⟨4, ![25, 1, 7, 256]⟩
abbrev S25x9x7x256 : Shape := ⟨4, ![25, 9, 7, 256]⟩
abbrev S25x9x1x256 : Shape := ⟨4, ![25, 9, 1, 256]⟩
abbrev S25x9x9x256 : Shape := ⟨4, ![25, 9, 9, 256]⟩
abbrev S1x1x256x256 : Shape := ⟨4, ![1, 1, 256, 256]⟩
abbrev S256x256 : Shape := ⟨2, ![256, 256]⟩
abbrev S1225x1 : Shape := ⟨2, ![1225, 1]⟩
abbrev S25x7x7 : Shape := ⟨3, ![25, 7, 7]⟩
abbrev S25x1x7x7 : Shape := ⟨4, ![25, 1, 7, 7]⟩
abbrev S1225x2 : Shape := ⟨2, ![1225, 2]⟩
abbrev S25x7x7x2 : Shape := ⟨4, ![25, 7, 7, 2]⟩
abbrev S25x1x7x7x2 : Shape := ⟨5, ![25, 1, 7, 7, 2]⟩
abbrev S100x2x2x7x7 : Shape := ⟨5, ![100, 2, 2, 7, 7]⟩
abbrev S100x7x2x7x2 : Shape := ⟨5, ![100, 7, 2, 7, 2]⟩
abbrev S100x14x14 : Shape := ⟨3, ![100, 14, 14]⟩
abbrev S100x1x14x14 : Shape := ⟨4, ![100, 1, 14, 14]⟩
abbrev S100x2x2x7x7x2 : Shape := ⟨6, ![100, 2, 2, 7, 7, 2]⟩
abbrev S100x2x7x2x7x2 : Shape := ⟨6, ![100, 2, 7, 2, 7, 2]⟩
abbrev S100x2x14x14 : Shape := ⟨4, ![100, 2, 14, 14]⟩

abbrev nBuf : Space → Nat
  | .hbm => 52
  | .vmem => 23
  | .smem => 0
  | _ => 0

abbrev bufTy : (tb : Table) → Fin (tcTables nBuf tb) → BufTy
  | .hbm, ⟨0, _⟩ => ⟨S100x6, .f32⟩
  | .hbm, ⟨1, _⟩ => ⟨S1x64x128x128, .f32⟩
  | .hbm, ⟨2, _⟩ => ⟨S256x64x3x3, .f32⟩
  | .hbm, ⟨3, _⟩ => ⟨S256, .f32⟩
  | .hbm, ⟨4, _⟩ => ⟨S256x256x3x3, .f32⟩
  | .hbm, ⟨5, _⟩ => ⟨S256, .f32⟩
  | .hbm, ⟨6, _⟩ => ⟨S256x256x3x3, .f32⟩
  | .hbm, ⟨7, _⟩ => ⟨S256, .f32⟩
  | .hbm, ⟨8, _⟩ => ⟨S256x256x3x3, .f32⟩
  | .hbm, ⟨9, _⟩ => ⟨S256, .f32⟩
  | .hbm, ⟨10, _⟩ => ⟨S256x256x2x2, .f32⟩
  | .hbm, ⟨11, _⟩ => ⟨S256, .f32⟩
  | .hbm, ⟨12, _⟩ => ⟨S1x256x1x1, .f32⟩
  | .hbm, ⟨13, _⟩ => ⟨S1, .f32⟩
  | .hbm, ⟨14, _⟩ => ⟨S256x256x2x2, .f32⟩
  | .hbm, ⟨15, _⟩ => ⟨S256, .f32⟩
  | .hbm, ⟨16, _⟩ => ⟨S2x256x1x1, .f32⟩
  | .hbm, ⟨17, _⟩ => ⟨S2, .f32⟩
  | .hbm, ⟨18, _⟩ => ⟨S64x128x128, .f32⟩
  | .hbm, ⟨19, _⟩ => ⟨S128x64x128, .f32⟩
  | .hbm, ⟨20, _⟩ => ⟨S128x8192, .f32⟩
  | .hbm, ⟨21, _⟩ => ⟨S100x4, .f32⟩
  | .hbm, ⟨22, _⟩ => ⟨S4x25x4, .f32⟩
  | .hbm, ⟨23, _⟩ => ⟨S3x3x64x256, .f32⟩
  | .hbm, ⟨24, _⟩ => ⟨S3x3x256x256, .f32⟩
  | .hbm, ⟨25, _⟩ => ⟨S3x3x256x256, .f32⟩
  | .hbm, ⟨26, _⟩ => ⟨S3x3x256x256, .f32⟩
  | .hbm, ⟨27, _⟩ => ⟨S2x2x256x256, .f32⟩
  | .hbm, ⟨28, _⟩ => ⟨S2x2x256x256, .f32⟩
  | .hbm, ⟨29, _⟩ => ⟨S2x2x256x256, .f32⟩
  | .hbm, ⟨30, _⟩ => ⟨S2x2x256x256, .f32⟩
  | .hbm, ⟨31, _⟩ => ⟨S1x256, .f32⟩
  | .hbm, ⟨32, _⟩ => ⟨S256x1, .f32⟩
  | .hbm, ⟨33, _⟩ => ⟨S2x256, .f32⟩
  | .hbm, ⟨34, _⟩ => ⟨S256x2, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x1, .f32⟩
  | .hbm, ⟨41, _⟩ => ⟨S1x256, .f32⟩
  | .hbm, ⟨42, _⟩ => ⟨S1x2, .f32⟩
  | .hbm, ⟨43, _⟩ => ⟨S100x4x7x7, .f32⟩
  | .hbm, ⟨44, _⟩ => ⟨S100x4x7x7x2, .f32⟩
  | .hbm, ⟨45, _⟩ => ⟨S100x2x2x7x7, .f32⟩
  | .hbm, ⟨46, _⟩ => ⟨S100x7x2x7x2, .f32⟩
  | .hbm, ⟨47, _⟩ => ⟨S100x14x14, .f32⟩
  | .hbm, ⟨48, _⟩ => ⟨S100x1x14x14, .f32⟩
  | .hbm, ⟨49, _⟩ => ⟨S100x2x2x7x7x2, .f32⟩
  | .hbm, ⟨50, _⟩ => ⟨S100x2x7x2x7x2, .f32⟩
  | .hbm, ⟨51, _⟩ => ⟨S100x2x14x14, .f32⟩
  | .local _ .vmem, ⟨0, _⟩ => ⟨S1x25x4, .f32⟩
  | .local _ .vmem, ⟨1, _⟩ => ⟨S1x25x4, .f32⟩
  | .local _ .vmem, ⟨2, _⟩ => ⟨S128x8192, .f32⟩
  | .local _ .vmem, ⟨3, _⟩ => ⟨S3x3x64x256, .f32⟩
  | .local _ .vmem, ⟨4, _⟩ => ⟨S1x256, .f32⟩
  | .local _ .vmem, ⟨5, _⟩ => ⟨S3x3x256x256, .f32⟩
  | .local _ .vmem, ⟨6, _⟩ => ⟨S1x256, .f32⟩
  | .local _ .vmem, ⟨7, _⟩ => ⟨S3x3x256x256, .f32⟩
  | .local _ .vmem, ⟨8, _⟩ => ⟨S1x256, .f32⟩
  | .local _ .vmem, ⟨9, _⟩ => ⟨S3x3x256x256, .f32⟩
  | .local _ .vmem, ⟨10, _⟩ => ⟨S1x256, .f32⟩
  | .local _ .vmem, ⟨11, _⟩ => ⟨S2x2x256x256, .f32⟩
  | .local _ .vmem, ⟨12, _⟩ => ⟨S1x256, .f32⟩
  | .local _ .vmem, ⟨13, _⟩ => ⟨S256x1, .f32⟩
  | .local _ .vmem, ⟨14, _⟩ => ⟨S1x1, .f32⟩
  | .local _ .vmem, ⟨15, _⟩ => ⟨S2x2x256x256, .f32⟩
  | .local _ .vmem, ⟨16, _⟩ => ⟨S1x256, .f32⟩
  | .local _ .vmem, ⟨17, _⟩ => ⟨S256x2, .f32⟩
  | .local _ .vmem, ⟨18, _⟩ => ⟨S1x2, .f32⟩
  | .local _ .vmem, ⟨19, _⟩ => ⟨S25x4x7x7, .f32⟩
  | .local _ .vmem, ⟨20, _⟩ => ⟨S25x4x7x7, .f32⟩
  | .local _ .vmem, ⟨21, _⟩ => ⟨S25x4x7x7x2, .f32⟩
  | .local _ .vmem, ⟨22, _⟩ => ⟨S25x4x7x7x2, .f32⟩
  | _, _ => ⟨S100x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x25x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x3x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x2x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S25x4x7x7 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S25x4x7x7x2 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S100x6 : Shape := ⟨2, ![100, 6]⟩
abbrev S1x64x128x128 : Shape := ⟨4, ![1, 64, 128, 128]⟩
abbrev S256x64x3x3 : Shape := ⟨4, ![256, 64, 3, 3]⟩
abbrev S256 : Shape := ⟨1, ![256]⟩
abbrev S256x256x3x3 : Shape := ⟨4, ![256, 256, 3, 3]⟩
abbrev S256x256x2x2 : Shape := ⟨4, ![256, 256, 2, 2]⟩
abbrev S1x256x1x1 : Shape := ⟨4, ![1, 256, 1, 1]⟩
abbrev S1 : Shape := ⟨1, ![1]⟩
abbrev S2x256x1x1 : Shape := ⟨4, ![2, 256, 1, 1]⟩
abbrev S2 : Shape := ⟨1, ![2]⟩
abbrev S64x128x128 : Shape := ⟨3, ![64, 128, 128]⟩
abbrev S100x4 : Shape := ⟨2, ![100, 4]⟩
abbrev S100x1 : Shape := ⟨2, ![100, 1]⟩
abbrev S100 : Shape := ⟨1, ![100]⟩
abbrev S_ : Shape := ⟨0, ![]⟩
abbrev S7 : Shape := ⟨1, ![7]⟩
abbrev S1x7 : Shape := ⟨2, ![1, 7]⟩
abbrev S100x7 : Shape := ⟨2, ![100, 7]⟩
abbrev S100x7x7 : Shape := ⟨3, ![100, 7, 7]⟩
abbrev S100x7x7x1 : Shape := ⟨4, ![100, 7, 7, 1]⟩
abbrev S100x7x7x2 : Shape := ⟨4, ![100, 7, 7, 2]⟩
abbrev S100x64x7x7 : Shape := ⟨4, ![100, 64, 7, 7]⟩
abbrev S100x1x7x7 : Shape := ⟨4, ![100, 1, 7, 7]⟩
abbrev S100x64x9x9 : Shape := ⟨4, ![100, 64, 9, 9]⟩
abbrev S256x64x1x1 : Shape := ⟨4, ![256, 64, 1, 1]⟩
abbrev S256x64 : Shape := ⟨2, ![256, 64]⟩
abbrev S256x100x7x7 : Shape := ⟨4, ![256, 100, 7, 7]⟩
abbrev S100x256x7x7 : Shape := ⟨4, ![100, 256, 7, 7]⟩
abbrev S100x256x9x9 : Shape := ⟨4, ![100, 256, 9, 9]⟩
abbrev S256x256x1x1 : Shape := ⟨4, ![256, 256, 1, 1]⟩
abbrev S256x256 : Shape := ⟨2, ![256, 256]⟩
abbrev S256x2x2x100x7x7 : Shape := ⟨6, ![256, 2, 2, 100, 7, 7]⟩
abbrev S100x256x7x2x7x2 : Shape := ⟨6, ![100, 256, 7, 2, 7, 2]⟩
abbrev S100x256x14x14 : Shape := ⟨4, ![100, 256, 14, 14]⟩
abbrev S1x256 : Shape := ⟨2, ![1, 256]⟩
abbrev S1x100x14x14 : Shape := ⟨4, ![1, 100, 14, 14]⟩
abbrev S100x1x14x14 : Shape := ⟨4, ![100, 1, 14, 14]⟩
abbrev S1x1x1x1 : Shape := ⟨4, ![1, 1, 1, 1]⟩
abbrev S2x256 : Shape := ⟨2, ![2, 256]⟩
abbrev S2x100x14x14 : Shape := ⟨4, ![2, 100, 14, 14]⟩
abbrev S100x2x14x14 : Shape := ⟨4, ![100, 2, 14, 14]⟩
abbrev S1x2x1x1 : Shape := ⟨4, ![1, 2, 1, 1]⟩

abbrev nBuf : Space → Nat
  | .hbm => 495
  | .vmem => 0
  | .smem => 0
  | _ => 0

abbrev hbmTy0_0 (i : Nat) : BufTy := match i % 128 with
  | 0 => ⟨S100x6, .f32⟩
  | 1 => ⟨S1x64x128x128, .f32⟩
  | 2 => ⟨S256x64x3x3, .f32⟩
  | 3 => ⟨S256, .f32⟩
  | 4 => ⟨S256x256x3x3, .f32⟩
  | 5 => ⟨S256, .f32⟩
  | 6 => ⟨S256x256x3x3, .f32⟩
  | 7 => ⟨S256, .f32⟩
  | 8 => ⟨S256x256x3x3, .f32⟩
  | 9 => ⟨S256, .f32⟩
  | 10 => ⟨S256x256x2x2, .f32⟩
  | 11 => ⟨S256, .f32⟩
  | 12 => ⟨S1x256x1x1, .f32⟩
  | 13 => ⟨S1, .f32⟩
  | 14 => ⟨S256x256x2x2, .f32⟩
  | 15 => ⟨S256, .f32⟩
  | 16 => ⟨S2x256x1x1, .f32⟩
  | 17 => ⟨S2, .f32⟩
  | 18 => ⟨S64x128x128, .f32⟩
  | 19 => ⟨S100x4, .f32⟩
  | 20 => ⟨S100x1, .f32⟩
  | 21 => ⟨S100, .f32⟩
  | 22 => ⟨S100x1, .f32⟩
  | 23 => ⟨S100, .f32⟩
  | 24 => ⟨S100x1, .f32⟩
  | 25 => ⟨S100, .f32⟩
  | 26 => ⟨S100x1, .f32⟩
  | 27 => ⟨S100, .f32⟩
  | 28 => ⟨S100, .f32⟩
  | 29 => ⟨S_, .f32⟩
  | 30 => ⟨S100, .f32⟩
  | 31 => ⟨S100, .f32⟩
  | 32 => ⟨S100, .f32⟩
  | 33 => ⟨S_, .f32⟩
  | 34 => ⟨S100, .f32⟩
  | 35 => ⟨S100, .f32⟩
  | 36 => ⟨S7, .i32⟩
  | 37 => ⟨S7, .f32⟩
  | 38 => ⟨S_, .f32⟩
  | 39 => ⟨S7, .f32⟩
  | 40 => ⟨S7, .f32⟩
  | 41 => ⟨S7, .f32⟩
  | 42 => ⟨S1x7, .f32⟩
  | 43 => ⟨S100x1, .f32⟩
  | 44 => ⟨S100x7, .f32⟩
  | 45 => ⟨S100x7, .f32⟩
  | 46 => ⟨S100x7, .f32⟩
  | 47 => ⟨S100x1, .f32⟩
  | 48 => ⟨S100x7, .f32⟩
  | 49 => ⟨S100x7, .f32⟩
  | 50 => ⟨S7, .i32⟩
  | 51 => ⟨S7, .f32⟩
  | 52 => ⟨S_, .f32⟩
  | 53 => ⟨S7, .f32⟩
  | 54 => ⟨S7, .f32⟩
  | 55 => ⟨S7, .f32⟩
  | 56 => ⟨S1x7, .f32⟩
  | 57 => ⟨S100x1, .f32⟩
  | 58 => ⟨S100x7, .f32⟩
  | 59 => ⟨S100x7, .f32⟩
  | 60 => ⟨S100x7, .f32⟩
  | 61 => ⟨S100x1, .f32⟩
  | 62 => ⟨S100x7, .f32⟩
  | 63 => ⟨S100x7, .f32⟩
  | 64 => ⟨S100x7x7, .f32⟩
  | 65 => ⟨S100x7x7, .f32⟩
  | 66 => ⟨S100x7x7, .f32⟩
  | 67 => ⟨S100x7x7, .f32⟩
  | 68 => ⟨S100x7x7, .f32⟩
  | 69 => ⟨S100x7x7, .f32⟩
  | 70 => ⟨S100x7x7, .i32⟩
  | 71 => ⟨S_, .i32⟩
  | 72 => ⟨S_, .i32⟩
  | 73 => ⟨S_, .i32⟩
  | 74 => ⟨S100x7x7, .i32⟩
  | 75 => ⟨S100x7x7, .i32⟩
  | 76 => ⟨S_, .i32⟩
  | 77 => ⟨S100x7x7, .i32⟩
  | 78 => ⟨S100x7x7, .i32⟩
  | 79 => ⟨S_, .i32⟩
  | 80 => ⟨S100x7x7, .i32⟩
  | 81 => ⟨S100x7x7, .i32⟩
  | 82 => ⟨S_, .i32⟩
  | 83 => ⟨S_, .i32⟩
  | 84 => ⟨S_, .i32⟩
  | 85 => ⟨S100x7x7, .i32⟩
  | 86 => ⟨S100x7x7, .i32⟩
  | 87 => ⟨S_, .i32⟩
  | 88 => ⟨S100x7x7, .i32⟩
  | 89 => ⟨S100x7x7, .i32⟩
  | 90 => ⟨S100x7x7, .i32⟩
  | 91 => ⟨S_, .i32⟩
  | 92 => ⟨S_, .i32⟩
  | 93 => ⟨S_, .i32⟩
  | 94 => ⟨S100x7x7, .i32⟩
  | 95 => ⟨S100x7x7, .i32⟩
  | 96 => ⟨S_, .i32⟩
  | 97 => ⟨S100x7x7, .i32⟩
  | 98 => ⟨S100x7x7, .i32⟩
  | 99 => ⟨S_, .i32⟩
  | 100 => ⟨S100x7x7, .i32⟩
  | 101 => ⟨S100x7x7, .i32⟩
  | 102 => ⟨S_, .i32⟩
  | 103 => ⟨S_, .i32⟩
  | 104 => ⟨S_, .i32⟩
  | 105 => ⟨S100x7x7, .i32⟩
  | 106 => ⟨S100x7x7, .i32⟩
  | 107 => ⟨S_, .i32⟩
  | 108 => ⟨S100x7x7, .i32⟩
  | 109 => ⟨S100x7x7, .i32⟩
  | 110 => ⟨S_, .i32⟩
  | 111 => ⟨S100x7x7, .i32⟩
  | 112 => ⟨S100x7x7, .i1⟩
  | 113 => ⟨S_, .i32⟩
  | 114 => ⟨S100x7x7, .i32⟩
  | 115 => ⟨S100x7x7, .i32⟩
  | 116 => ⟨S100x7x7, .i32⟩
  | 117 => ⟨S_, .i32⟩
  | 118 => ⟨S100x7x7, .i32⟩
  | 119 => ⟨S100x7x7, .i1⟩
  | 120 => ⟨S_, .i32⟩
  | 121 => ⟨S100x7x7, .i32⟩
  | 122 => ⟨S100x7x7, .i32⟩
  | 123 => ⟨S100x7x7, .i32⟩
  | 124 => ⟨S100x7x7x1, .i32⟩
  | 125 => ⟨S100x7x7x1, .i32⟩
  | 126 => ⟨S100x7x7x2, .i32⟩
  | 127 => ⟨S100x64x7x7, .f32⟩
  | _ => ⟨S100x6, .f32⟩

abbrev hbmTy0_1 (i : Nat) : BufTy := match i % 128 with
  | 0 => ⟨S_, .i32⟩
  | 1 => ⟨S100x7x7, .i32⟩
  | 2 => ⟨S100x7x7, .i1⟩
  | 3 => ⟨S_, .i32⟩
  | 4 => ⟨S100x7x7, .i32⟩
  | 5 => ⟨S100x7x7, .i32⟩
  | 6 => ⟨S100x7x7, .i32⟩
  | 7 => ⟨S_, .i32⟩
  | 8 => ⟨S100x7x7, .i32⟩
  | 9 => ⟨S100x7x7, .i1⟩
  | 10 => ⟨S_, .i32⟩
  | 11 => ⟨S100x7x7, .i32⟩
  | 12 => ⟨S100x7x7, .i32⟩
  | 13 => ⟨S100x7x7, .i32⟩
  | 14 => ⟨S100x7x7x1, .i32⟩
  | 15 => ⟨S100x7x7x1, .i32⟩
  | 16 => ⟨S100x7x7x2, .i32⟩
  | 17 => ⟨S100x64x7x7, .f32⟩
  | 18 => ⟨S_, .i32⟩
  | 19 => ⟨S100x7x7, .i32⟩
  | 20 => ⟨S100x7x7, .i1⟩
  | 21 => ⟨S_, .i32⟩
  | 22 => ⟨S100x7x7, .i32⟩
  | 23 => ⟨S100x7x7, .i32⟩
  | 24 => ⟨S100x7x7, .i32⟩
  | 25 => ⟨S_, .i32⟩
  | 26 => ⟨S100x7x7, .i32⟩
  | 27 => ⟨S100x7x7, .i1⟩
  | 28 => ⟨S_, .i32⟩
  | 29 => ⟨S100x7x7, .i32⟩
  | 30 => ⟨S100x7x7, .i32⟩
  | 31 => ⟨S100x7x7, .i32⟩
  | 32 => ⟨S100x7x7x1, .i32⟩
  | 33 => ⟨S100x7x7x1, .i32⟩
  | 34 => ⟨S100x7x7x2, .i32⟩
  | 35 => ⟨S100x64x7x7, .f32⟩
  | 36 => ⟨S_, .i32⟩
  | 37 => ⟨S100x7x7, .i32⟩
  | 38 => ⟨S100x7x7, .i1⟩
  | 39 => ⟨S_, .i32⟩
  | 40 => ⟨S100x7x7, .i32⟩
  | 41 => ⟨S100x7x7, .i32⟩
  | 42 => ⟨S100x7x7, .i32⟩
  | 43 => ⟨S_, .i32⟩
  | 44 => ⟨S100x7x7, .i32⟩
  | 45 => ⟨S100x7x7, .i1⟩
  | 46 => ⟨S_, .i32⟩
  | 47 => ⟨S100x7x7, .i32⟩
  | 48 => ⟨S100x7x7, .i32⟩
  | 49 => ⟨S100x7x7, .i32⟩
  | 50 => ⟨S100x7x7x1, .i32⟩
  | 51 => ⟨S100x7x7x1, .i32⟩
  | 52 => ⟨S100x7x7x2, .i32⟩
  | 53 => ⟨S100x64x7x7, .f32⟩
  | 54 => ⟨S_, .f32⟩
  | 55 => ⟨S100x7x7, .f32⟩
  | 56 => ⟨S100x7x7, .f32⟩
  | 57 => ⟨S100x1x7x7, .f32⟩
  | 58 => ⟨S100x64x7x7, .f32⟩
  | 59 => ⟨S100x64x7x7, .f32⟩
  | 60 => ⟨S_, .f32⟩
  | 61 => ⟨S100x7x7, .f32⟩
  | 62 => ⟨S100x7x7, .f32⟩
  | 63 => ⟨S100x1x7x7, .f32⟩
  | 64 => ⟨S100x64x7x7, .f32⟩
  | 65 => ⟨S100x64x7x7, .f32⟩
  | 66 => ⟨S100x1x7x7, .f32⟩
  | 67 => ⟨S100x64x7x7, .f32⟩
  | 68 => ⟨S100x64x7x7, .f32⟩
  | 69 => ⟨S_, .f32⟩
  | 70 => ⟨S100x7x7, .f32⟩
  | 71 => ⟨S100x7x7, .f32⟩
  | 72 => ⟨S100x1x7x7, .f32⟩
  | 73 => ⟨S100x64x7x7, .f32⟩
  | 74 => ⟨S100x64x7x7, .f32⟩
  | 75 => ⟨S100x64x7x7, .f32⟩
  | 76 => ⟨S_, .f32⟩
  | 77 => ⟨S100x7x7, .f32⟩
  | 78 => ⟨S100x7x7, .f32⟩
  | 79 => ⟨S100x1x7x7, .f32⟩
  | 80 => ⟨S100x64x7x7, .f32⟩
  | 81 => ⟨S100x64x7x7, .f32⟩
  | 82 => ⟨S100x1x7x7, .f32⟩
  | 83 => ⟨S100x64x7x7, .f32⟩
  | 84 => ⟨S100x64x7x7, .f32⟩
  | 85 => ⟨S100x64x7x7, .f32⟩
  | 86 => ⟨S100x1x7x7, .f32⟩
  | 87 => ⟨S100x64x7x7, .f32⟩
  | 88 => ⟨S100x64x7x7, .f32⟩
  | 89 => ⟨S100x1x7x7, .f32⟩
  | 90 => ⟨S100x64x7x7, .f32⟩
  | 91 => ⟨S100x64x7x7, .f32⟩
  | 92 => ⟨S100x64x7x7, .f32⟩
  | 93 => ⟨S_, .i32⟩
  | 94 => ⟨S_, .f32⟩
  | 95 => ⟨S100x64x9x9, .f32⟩
  | 96 => ⟨S100x64x7x7, .f32⟩
  | 97 => ⟨S256x64x1x1, .f32⟩
  | 98 => ⟨S256x64, .f32⟩
  | 99 => ⟨S256x100x7x7, .f32⟩
  | 100 => ⟨S100x256x7x7, .f32⟩
  | 101 => ⟨S100x64x7x7, .f32⟩
  | 102 => ⟨S256x64x1x1, .f32⟩
  | 103 => ⟨S256x64, .f32⟩
  | 104 => ⟨S256x100x7x7, .f32⟩
  | 105 => ⟨S100x256x7x7, .f32⟩
  | 106 => ⟨S100x256x7x7, .f32⟩
  | 107 => ⟨S100x64x7x7, .f32⟩
  | 108 => ⟨S256x64x1x1, .f32⟩
  | 109 => ⟨S256x64, .f32⟩
  | 110 => ⟨S256x100x7x7, .f32⟩
  | 111 => ⟨S100x256x7x7, .f32⟩
  | 112 => ⟨S100x256x7x7, .f32⟩
  | 113 => ⟨S100x64x7x7, .f32⟩
  | 114 => ⟨S256x64x1x1, .f32⟩
  | 115 => ⟨S256x64, .f32⟩
  | 116 => ⟨S256x100x7x7, .f32⟩
  | 117 => ⟨S100x256x7x7, .f32⟩
  | 118 => ⟨S100x256x7x7, .f32⟩
  | 119 => ⟨S100x64x7x7, .f32⟩
  | 120 => ⟨S256x64x1x1, .f32⟩
  | 121 => ⟨S256x64, .f32⟩
  | 122 => ⟨S256x100x7x7, .f32⟩
  | 123 => ⟨S100x256x7x7, .f32⟩
  | 124 => ⟨S100x256x7x7, .f32⟩
  | 125 => ⟨S100x64x7x7, .f32⟩
  | 126 => ⟨S256x64x1x1, .f32⟩
  | 127 => ⟨S256x64, .f32⟩
  | _ => ⟨S100x6, .f32⟩

abbrev hbmTy0_2 (i : Nat) : BufTy := match i % 128 with
  | 0 => ⟨S256x100x7x7, .f32⟩
  | 1 => ⟨S100x256x7x7, .f32⟩
  | 2 => ⟨S100x256x7x7, .f32⟩
  | 3 => ⟨S100x64x7x7, .f32⟩
  | 4 => ⟨S256x64x1x1, .f32⟩
  | 5 => ⟨S256x64, .f32⟩
  | 6 => ⟨S256x100x7x7, .f32⟩
  | 7 => ⟨S100x256x7x7, .f32⟩
  | 8 => ⟨S100x256x7x7, .f32⟩
  | 9 => ⟨S100x64x7x7, .f32⟩
  | 10 => ⟨S256x64x1x1, .f32⟩
  | 11 => ⟨S256x64, .f32⟩
  | 12 => ⟨S256x100x7x7, .f32⟩
  | 13 => ⟨S100x256x7x7, .f32⟩
  | 14 => ⟨S100x256x7x7, .f32⟩
  | 15 => ⟨S100x64x7x7, .f32⟩
  | 16 => ⟨S256x64x1x1, .f32⟩
  | 17 => ⟨S256x64, .f32⟩
  | 18 => ⟨S256x100x7x7, .f32⟩
  | 19 => ⟨S100x256x7x7, .f32⟩
  | 20 => ⟨S100x256x7x7, .f32⟩
  | 21 => ⟨S1x256x1x1, .f32⟩
  | 22 => ⟨S100x256x7x7, .f32⟩
  | 23 => ⟨S100x256x7x7, .f32⟩
  | 24 => ⟨S_, .f32⟩
  | 25 => ⟨S100x256x7x7, .f32⟩
  | 26 => ⟨S100x256x7x7, .f32⟩
  | 27 => ⟨S_, .i32⟩
  | 28 => ⟨S_, .f32⟩
  | 29 => ⟨S100x256x9x9, .f32⟩
  | 30 => ⟨S100x256x7x7, .f32⟩
  | 31 => ⟨S256x256x1x1, .f32⟩
  | 32 => ⟨S256x256, .f32⟩
  | 33 => ⟨S256x100x7x7, .f32⟩
  | 34 => ⟨S100x256x7x7, .f32⟩
  | 35 => ⟨S100x256x7x7, .f32⟩
  | 36 => ⟨S256x256x1x1, .f32⟩
  | 37 => ⟨S256x256, .f32⟩
  | 38 => ⟨S256x100x7x7, .f32⟩
  | 39 => ⟨S100x256x7x7, .f32⟩
  | 40 => ⟨S100x256x7x7, .f32⟩
  | 41 => ⟨S100x256x7x7, .f32⟩
  | 42 => ⟨S256x256x1x1, .f32⟩
  | 43 => ⟨S256x256, .f32⟩
  | 44 => ⟨S256x100x7x7, .f32⟩
  | 45 => ⟨S100x256x7x7, .f32⟩
  | 46 => ⟨S100x256x7x7, .f32⟩
  | 47 => ⟨S100x256x7x7, .f32⟩
  | 48 => ⟨S256x256x1x1, .f32⟩
  | 49 => ⟨S256x256, .f32⟩
  | 50 => ⟨S256x100x7x7, .f32⟩
  | 51 => ⟨S100x256x7x7, .f32⟩
  | 52 => ⟨S100x256x7x7, .f32⟩
  | 53 => ⟨S100x256x7x7, .f32⟩
  | 54 => ⟨S256x256x1x1, .f32⟩
  | 55 => ⟨S256x256, .f32⟩
  | 56 => ⟨S256x100x7x7, .f32⟩
  | 57 => ⟨S100x256x7x7, .f32⟩
  | 58 => ⟨S100x256x7x7, .f32⟩
  | 59 => ⟨S100x256x7x7, .f32⟩
  | 60 => ⟨S256x256x1x1, .f32⟩
  | 61 => ⟨S256x256, .f32⟩
  | 62 => ⟨S256x100x7x7, .f32⟩
  | 63 => ⟨S100x256x7x7, .f32⟩
  | 64 => ⟨S100x256x7x7, .f32⟩
  | 65 => ⟨S100x256x7x7, .f32⟩
  | 66 => ⟨S256x256x1x1, .f32⟩
  | 67 => ⟨S256x256, .f32⟩
  | 68 => ⟨S256x100x7x7, .f32⟩
  | 69 => ⟨S100x256x7x7, .f32⟩
  | 70 => ⟨S100x256x7x7, .f32⟩
  | 71 => ⟨S100x256x7x7, .f32⟩
  | 72 => ⟨S256x256x1x1, .f32⟩
  | 73 => ⟨S256x256, .f32⟩
  | 74 => ⟨S256x100x7x7, .f32⟩
  | 75 => ⟨S100x256x7x7, .f32⟩
  | 76 => ⟨S100x256x7x7, .f32⟩
  | 77 => ⟨S100x256x7x7, .f32⟩
  | 78 => ⟨S256x256x1x1, .f32⟩
  | 79 => ⟨S256x256, .f32⟩
  | 80 => ⟨S256x100x7x7, .f32⟩
  | 81 => ⟨S100x256x7x7, .f32⟩
  | 82 => ⟨S100x256x7x7, .f32⟩
  | 83 => ⟨S1x256x1x1, .f32⟩
  | 84 => ⟨S100x256x7x7, .f32⟩
  | 85 => ⟨S100x256x7x7, .f32⟩
  | 86 => ⟨S_, .f32⟩
  | 87 => ⟨S100x256x7x7, .f32⟩
  | 88 => ⟨S100x256x7x7, .f32⟩
  | 89 => ⟨S_, .i32⟩
  | 90 => ⟨S_, .f32⟩
  | 91 => ⟨S100x256x9x9, .f32⟩
  | 92 => ⟨S100x256x7x7, .f32⟩
  | 93 => ⟨S256x256x1x1, .f32⟩
  | 94 => ⟨S256x256, .f32⟩
  | 95 => ⟨S256x100x7x7, .f32⟩
  | 96 => ⟨S100x256x7x7, .f32⟩
  | 97 => ⟨S100x256x7x7, .f32⟩
  | 98 => ⟨S256x256x1x1, .f32⟩
  | 99 => ⟨S256x256, .f32⟩
  | 100 => ⟨S256x100x7x7, .f32⟩
  | 101 => ⟨S100x256x7x7, .f32⟩
  | 102 => ⟨S100x256x7x7, .f32⟩
  | 103 => ⟨S100x256x7x7, .f32⟩
  | 104 => ⟨S256x256x1x1, .f32⟩
  | 105 => ⟨S256x256, .f32⟩
  | 106 => ⟨S256x100x7x7, .f32⟩
  | 107 => ⟨S100x256x7x7, .f32⟩
  | 108 => ⟨S100x256x7x7, .f32⟩
  | 109 => ⟨S100x256x7x7, .f32⟩
  | 110 => ⟨S256x256x1x1, .f32⟩
  | 111 => ⟨S256x256, .f32⟩
  | 112 => ⟨S256x100x7x7, .f32⟩
  | 113 => ⟨S100x256x7x7, .f32⟩
  | 114 => ⟨S100x256x7x7, .f32⟩
  | 115 => ⟨S100x256x7x7, .f32⟩
  | 116 => ⟨S256x256x1x1, .f32⟩
  | 117 => ⟨S256x256, .f32⟩
  | 118 => ⟨S256x100x7x7, .f32⟩
  | 119 => ⟨S100x256x7x7, .f32⟩
  | 120 => ⟨S100x256x7x7, .f32⟩
  | 121 => ⟨S100x256x7x7, .f32⟩
  | 122 => ⟨S256x256x1x1, .f32⟩
  | 123 => ⟨S256x256, .f32⟩
  | 124 => ⟨S256x100x7x7, .f32⟩
  | 125 => ⟨S100x256x7x7, .f32⟩
  | 126 => ⟨S100x256x7x7, .f32⟩
  | 127 => ⟨S100x256x7x7, .f32⟩
  | _ => ⟨S100x6, .f32⟩

abbrev hbmTy0_3 (i : Nat) : BufTy := match i % 128 with
  | 0 => ⟨S256x256x1x1, .f32⟩
  | 1 => ⟨S256x256, .f32⟩
  | 2 => ⟨S256x100x7x7, .f32⟩
  | 3 => ⟨S100x256x7x7, .f32⟩
  | 4 => ⟨S100x256x7x7, .f32⟩
  | 5 => ⟨S100x256x7x7, .f32⟩
  | 6 => ⟨S256x256x1x1, .f32⟩
  | 7 => ⟨S256x256, .f32⟩
  | 8 => ⟨S256x100x7x7, .f32⟩
  | 9 => ⟨S100x256x7x7, .f32⟩
  | 10 => ⟨S100x256x7x7, .f32⟩
  | 11 => ⟨S100x256x7x7, .f32⟩
  | 12 => ⟨S256x256x1x1, .f32⟩
  | 13 => ⟨S256x256, .f32⟩
  | 14 => ⟨S256x100x7x7, .f32⟩
  | 15 => ⟨S100x256x7x7, .f32⟩
  | 16 => ⟨S100x256x7x7, .f32⟩
  | 17 => ⟨S1x256x1x1, .f32⟩
  | 18 => ⟨S100x256x7x7, .f32⟩
  | 19 => ⟨S100x256x7x7, .f32⟩
  | 20 => ⟨S_, .f32⟩
  | 21 => ⟨S100x256x7x7, .f32⟩
  | 22 => ⟨S100x256x7x7, .f32⟩
  | 23 => ⟨S_, .i32⟩
  | 24 => ⟨S_, .f32⟩
  | 25 => ⟨S100x256x9x9, .f32⟩
  | 26 => ⟨S100x256x7x7, .f32⟩
  | 27 => ⟨S256x256x1x1, .f32⟩
  | 28 => ⟨S256x256, .f32⟩
  | 29 => ⟨S256x100x7x7, .f32⟩
  | 30 => ⟨S100x256x7x7, .f32⟩
  | 31 => ⟨S100x256x7x7, .f32⟩
  | 32 => ⟨S256x256x1x1, .f32⟩
  | 33 => ⟨S256x256, .f32⟩
  | 34 => ⟨S256x100x7x7, .f32⟩
  | 35 => ⟨S100x256x7x7, .f32⟩
  | 36 => ⟨S100x256x7x7, .f32⟩
  | 37 => ⟨S100x256x7x7, .f32⟩
  | 38 => ⟨S256x256x1x1, .f32⟩
  | 39 => ⟨S256x256, .f32⟩
  | 40 => ⟨S256x100x7x7, .f32⟩
  | 41 => ⟨S100x256x7x7, .f32⟩
  | 42 => ⟨S100x256x7x7, .f32⟩
  | 43 => ⟨S100x256x7x7, .f32⟩
  | 44 => ⟨S256x256x1x1, .f32⟩
  | 45 => ⟨S256x256, .f32⟩
  | 46 => ⟨S256x100x7x7, .f32⟩
  | 47 => ⟨S100x256x7x7, .f32⟩
  | 48 => ⟨S100x256x7x7, .f32⟩
  | 49 => ⟨S100x256x7x7, .f32⟩
  | 50 => ⟨S256x256x1x1, .f32⟩
  | 51 => ⟨S256x256, .f32⟩
  | 52 => ⟨S256x100x7x7, .f32⟩
  | 53 => ⟨S100x256x7x7, .f32⟩
  | 54 => ⟨S100x256x7x7, .f32⟩
  | 55 => ⟨S100x256x7x7, .f32⟩
  | 56 => ⟨S256x256x1x1, .f32⟩
  | 57 => ⟨S256x256, .f32⟩
  | 58 => ⟨S256x100x7x7, .f32⟩
  | 59 => ⟨S100x256x7x7, .f32⟩
  | 60 => ⟨S100x256x7x7, .f32⟩
  | 61 => ⟨S100x256x7x7, .f32⟩
  | 62 => ⟨S256x256x1x1, .f32⟩
  | 63 => ⟨S256x256, .f32⟩
  | 64 => ⟨S256x100x7x7, .f32⟩
  | 65 => ⟨S100x256x7x7, .f32⟩
  | 66 => ⟨S100x256x7x7, .f32⟩
  | 67 => ⟨S100x256x7x7, .f32⟩
  | 68 => ⟨S256x256x1x1, .f32⟩
  | 69 => ⟨S256x256, .f32⟩
  | 70 => ⟨S256x100x7x7, .f32⟩
  | 71 => ⟨S100x256x7x7, .f32⟩
  | 72 => ⟨S100x256x7x7, .f32⟩
  | 73 => ⟨S100x256x7x7, .f32⟩
  | 74 => ⟨S256x256x1x1, .f32⟩
  | 75 => ⟨S256x256, .f32⟩
  | 76 => ⟨S256x100x7x7, .f32⟩
  | 77 => ⟨S100x256x7x7, .f32⟩
  | 78 => ⟨S100x256x7x7, .f32⟩
  | 79 => ⟨S1x256x1x1, .f32⟩
  | 80 => ⟨S100x256x7x7, .f32⟩
  | 81 => ⟨S100x256x7x7, .f32⟩
  | 82 => ⟨S_, .f32⟩
  | 83 => ⟨S100x256x7x7, .f32⟩
  | 84 => ⟨S100x256x7x7, .f32⟩
  | 85 => ⟨S256x256x2x2, .f32⟩
  | 86 => ⟨S256x2x2x100x7x7, .f32⟩
  | 87 => ⟨S100x256x7x2x7x2, .f32⟩
  | 88 => ⟨S100x256x14x14, .f32⟩
  | 89 => ⟨S1x256x1x1, .f32⟩
  | 90 => ⟨S100x256x14x14, .f32⟩
  | 91 => ⟨S100x256x14x14, .f32⟩
  | 92 => ⟨S1x256, .f32⟩
  | 93 => ⟨S1x100x14x14, .f32⟩
  | 94 => ⟨S100x1x14x14, .f32⟩
  | 95 => ⟨S1x1x1x1, .f32⟩
  | 96 => ⟨S100x1x14x14, .f32⟩
  | 97 => ⟨S100x1x14x14, .f32⟩
  | 98 => ⟨S256x256x2x2, .f32⟩
  | 99 => ⟨S256x2x2x100x7x7, .f32⟩
  | 100 => ⟨S100x256x7x2x7x2, .f32⟩
  | 101 => ⟨S100x256x14x14, .f32⟩
  | 102 => ⟨S1x256x1x1, .f32⟩
  | 103 => ⟨S100x256x14x14, .f32⟩
  | 104 => ⟨S100x256x14x14, .f32⟩
  | 105 => ⟨S2x256, .f32⟩
  | 106 => ⟨S2x100x14x14, .f32⟩
  | 107 => ⟨S100x2x14x14, .f32⟩
  | 108 => ⟨S1x2x1x1, .f32⟩
  | 109 => ⟨S100x2x14x14, .f32⟩
  | 110 => ⟨S100x2x14x14, .f32⟩
  | _ => ⟨S100x6, .f32⟩

abbrev hbmTy (i : Nat) : BufTy := match i / 128 with
  | 0 => hbmTy0_0 i
  | 1 => hbmTy0_1 i
  | 2 => hbmTy0_2 i
  | 3 => hbmTy0_3 i
  | _ => ⟨S100x6, .f32⟩

abbrev bufTy : (tb : Table) → Fin (tcTables nBuf tb) → BufTy
  | .hbm, ⟨i, _⟩ => hbmTy i
  | _, _ => ⟨S100x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c : Ref sig .tc := ⟨.hbm, 71, rfl⟩
abbrev main_c_3 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v49 : Ref sig .tc := ⟨.hbm, 78, rfl⟩
abbrev main_c_4 : Ref sig .tc := ⟨.hbm, 79, rfl⟩
abbrev main_v50 : Ref sig .tc := ⟨.hbm, 80, rfl⟩
abbrev main_v51 : Ref sig .tc := ⟨.hbm, 81, rfl⟩
abbrev main_c_5 : Ref sig .tc := ⟨.hbm, 82, rfl⟩
abbrev main_c_6 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v52 : Ref sig .tc := ⟨.hbm, 89, rfl⟩
abbrev main_v53 : Ref sig .tc := ⟨.hbm, 90, rfl⟩
abbrev main_c_7 : Ref sig .tc := ⟨.hbm, 91, rfl⟩
abbrev main_c_8 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v54 : Ref sig .tc := ⟨.hbm, 98, rfl⟩
abbrev main_c_9 : Ref sig .tc := ⟨.hbm, 99, rfl⟩
abbrev main_v55 : Ref sig .tc := ⟨.hbm, 100, rfl⟩
abbrev main_v56 : Ref sig .tc := ⟨.hbm, 101, rfl⟩
abbrev main_c_10 : Ref sig .tc := ⟨.hbm, 102, rfl⟩
abbrev main_c_11 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v57 : Ref sig .tc := ⟨.hbm, 109, rfl⟩
abbrev main_c_12 : Ref sig .tc := ⟨.hbm, 110, rfl⟩
abbrev main_v58 : Ref sig .tc := ⟨.hbm, 111, rfl⟩
abbrev main_v59 : Ref sig .tc := ⟨.hbm, 112, rfl⟩
abbrev main_c_13 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_c_14 : Ref sig .tc := ⟨.hbm, 117, rfl⟩
abbrev main_v63 : Ref sig .tc := ⟨.hbm, 118, rfl⟩
abbrev main_v64 : Ref sig .tc := ⟨.hbm, 119, rfl⟩
abbrev main_c_15 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_16 : Ref sig .tc := ⟨.hbm, 128, rfl⟩
abbrev main_v72 : Ref sig .tc := ⟨.hbm, 129, rfl⟩
abbrev main_v73 : Ref sig .tc := ⟨.hbm, 130, rfl⟩
abbrev main_c_17 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_c_18 : Ref sig .tc := ⟨.hbm, 135, rfl⟩
abbrev main_v77 : Ref sig .tc := ⟨.hbm, 136, rfl⟩
abbrev main_v78 : Ref sig .tc := ⟨.hbm, 137, rfl⟩
abbrev main_c_19 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_20 : Ref sig .tc := ⟨.hbm, 146, rfl⟩
abbrev main_v86 : Ref sig .tc := ⟨.hbm, 147, rfl⟩
abbrev main_v87 : Ref sig .tc := ⟨.hbm, 148, rfl⟩
abbrev main_c_21 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_c_22 : Ref sig .tc := ⟨.hbm, 153, rfl⟩
abbrev main_v91 : Ref sig .tc := ⟨.hbm, 154, rfl⟩
abbrev main_v92 : Ref sig .tc := ⟨.hbm, 155, rfl⟩
abbrev main_c_23 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_c_24 : Ref sig .tc := ⟨.hbm, 164, rfl⟩
abbrev main_v100 : Ref sig .tc := ⟨.hbm, 165, rfl⟩
abbrev main_v101 : Ref sig .tc := ⟨.hbm, 166, rfl⟩
abbrev main_c_25 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_c_26 : Ref sig .tc := ⟨.hbm, 171, rfl⟩
abbrev main_v105 : Ref sig .tc := ⟨.hbm, 172, rfl⟩
abbrev main_v106 : Ref sig .tc := ⟨.hbm, 173, rfl⟩
abbrev main_c_27 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_cst_28 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_29 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_cst_30 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_cst_31 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_c_32 : Ref sig .tc := ⟨.hbm, 221, rfl⟩
abbrev main_call4_v0 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_call5_cst : Ref sig .tc := ⟨.hbm, 280, rfl⟩
abbrev main_call5_v0 : Ref sig .tc := ⟨.hbm, 281, rfl⟩
abbrev main_v206 : Ref sig .tc := ⟨.hbm, 282, rfl⟩
abbrev main_c_33 : Ref sig .tc := ⟨.hbm, 283, rfl⟩
abbrev main_call6_v0 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_call7_cst : Ref sig .tc := ⟨.hbm, 342, rfl⟩
abbrev main_call7_v0 : Ref sig .tc := ⟨.hbm, 343, rfl⟩
abbrev main_v264 : Ref sig .tc := ⟨.hbm, 344, rfl⟩
abbrev main_c_34 : Ref sig .tc := ⟨.hbm, 345, rfl⟩
abbrev main_call8_v0 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_call9_cst : Ref sig .tc := ⟨.hbm, 404, rfl⟩
abbrev main_call9_v0 : Ref sig .tc := ⟨.hbm, 405, rfl⟩
abbrev main_v322 : Ref sig .tc := ⟨.hbm, 406, rfl⟩
abbrev main_c_35 : Ref sig .tc := ⟨.hbm, 407, rfl⟩
abbrev main_call10_v0 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_v353 : Ref sig .tc := ⟨.hbm, 439, rfl⟩
abbrev main_v354 : Ref sig .tc := ⟨.hbm, 440, rfl⟩
abbrev main_v355 : Ref sig .tc := ⟨.hbm, 441, rfl⟩
abbrev main_v356 : Ref sig .tc := ⟨.hbm, 442, rfl⟩
abbrev main_v357 : Ref sig .tc := ⟨.hbm, 443, rfl⟩
abbrev main_v358 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_call11_cst : Ref sig .tc := ⟨.hbm, 466, rfl⟩
abbrev main_call11_v0 : Ref sig .tc := ⟨.hbm, 467, rfl⟩
abbrev main_v380 : Ref sig .tc := ⟨.hbm, 468, rfl⟩
abbrev main_v381 : Ref sig .tc := ⟨.hbm, 469, rfl⟩
abbrev main_v382 : Ref sig .tc := ⟨.hbm, 470, rfl⟩
abbrev main_v383 : Ref sig .tc := ⟨.hbm, 471, rfl⟩
abbrev main_v384 : Ref sig .tc := ⟨.hbm, 472, rfl⟩
abbrev main_v385 : Ref sig .tc := ⟨.hbm, 473, rfl⟩
abbrev main_v386 : Ref sig .tc := ⟨.hbm, 474, rfl⟩
abbrev main_v387 : Ref sig .tc := ⟨.hbm, 475, rfl⟩
abbrev main_v388 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_v401 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩

abbrev nD : Nat := 1
abbrev τ : Topo := Topo.v7x

variable {F : FTy → Type} [FloatOps F]
-- ==== Kernel2.lean ====
abbrev S1x5000x6 : Shape := ⟨3, ![1, 5000, 6]⟩
abbrev S5000x6 : Shape := ⟨2, ![5000, 6]⟩
abbrev S5000x1 : Shape := ⟨2, ![5000, 1]⟩
abbrev S5000 : Shape := ⟨1, ![5000]⟩
abbrev S_ : Shape := ⟨0, ![]⟩
abbrev S8x5120 : Shape := ⟨2, ![8, 5120]⟩
abbrev S5000x4 : Shape := ⟨2, ![5000, 4]⟩
abbrev S4x5000 : Shape := ⟨2, ![4, 5000]⟩
abbrev S1 : Shape := ⟨1, ![1]⟩
abbrev S2 : Shape := ⟨1, ![2]⟩
abbrev S120 : Shape := ⟨1, ![120]⟩
abbrev S5120x8 : Shape := ⟨2, ![5120, 8]⟩
abbrev S1x5120 : Shape := ⟨2, ![1, 5120]⟩
abbrev S256x1 : Shape := ⟨2, ![256, 1]⟩
abbrev S1x256 : Shape := ⟨2, ![1, 256]⟩
abbrev S256x256 : Shape := ⟨2, ![256, 256]⟩
abbrev S1x1x256 : Shape := ⟨3, ![1, 1, 256]⟩
abbrev S1x1x1 : Shape := ⟨3, ![1, 1, 1]⟩
abbrev S1x5000 : Shape := ⟨2, ![1, 5000]⟩
abbrev S100 : Shape := ⟨1, ![100]⟩
abbrev S100x1 : Shape := ⟨2, ![100, 1]⟩
abbrev S100x6 : Shape := ⟨2, ![100, 6]⟩

abbrev nBuf : Space → Nat
  | .hbm => 92
  | .vmem => 4
  | .smem => 0
  | _ => 0

abbrev bufTy : (tb : Table) → Fin (tcTables nBuf tb) → BufTy
  | .hbm, ⟨0, _⟩ => ⟨S1x5000x6, .f32⟩
  | .hbm, ⟨1, _⟩ => ⟨S5000x6, .f32⟩
  | .hbm, ⟨2, _⟩ => ⟨S5000x1, .f32⟩
  | .hbm, ⟨3, _⟩ => ⟨S5000, .f32⟩
  | .hbm, ⟨4, _⟩ => ⟨S5000, .f32⟩
  | .hbm, ⟨5, _⟩ => ⟨S5000, .i32⟩
  | .hbm, ⟨6, _⟩ => ⟨S5000, .f32⟩
  | .hbm, ⟨7, _⟩ => ⟨S5000, .i32⟩
  | .hbm, ⟨8, _⟩ => ⟨S_, .i32⟩
  | .hbm, ⟨9, _⟩ => ⟨S5000, .i32⟩
  | .hbm, ⟨10, _⟩ => ⟨S5000, .i1⟩
  | .hbm, ⟨11, _⟩ => ⟨S_, .i32⟩
  | .hbm, ⟨12, _⟩ => ⟨S5000, .i32⟩
  | .hbm, ⟨13, _⟩ => ⟨S5000, .i32⟩
  | .hbm, ⟨14, _⟩ => ⟨S5000, .i32⟩
  | .hbm, ⟨15, _⟩ => ⟨S5000x1, .i32⟩
  | .hbm, ⟨16, _⟩ => ⟨S5000x6, .f32⟩
  | .hbm, ⟨17, _⟩ => ⟨S_, .f32⟩
  | .hbm, ⟨18, _⟩ => ⟨S8x5120, .f32⟩
  | .hbm, ⟨19, _⟩ => ⟨S5000x4, .f32⟩
  | .hbm, ⟨20, _⟩ => ⟨S4x5000, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x5120, .f32⟩
  | .hbm, ⟨27, _⟩ => ⟨S5000x1, .f32⟩
  | .hbm, ⟨28, _⟩ => ⟨S5000, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S8x5120, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S_, .f32⟩
  | .hbm, ⟨41, _⟩ => ⟨S120, .f32⟩
  | .hbm, ⟨42, _⟩ => ⟨S8x5120, .f32⟩
  | .hbm, ⟨43, _⟩ => ⟨S5000x1, .f32⟩
  | .hbm, ⟨44, _⟩ => ⟨S5000, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S8x5120, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S_, .f32⟩
  | .hbm, ⟨57, _⟩ => ⟨S120, .f32⟩
  | .hbm, ⟨58, _⟩ => ⟨S8x5120, .f32⟩
  | .hbm, ⟨59, _⟩ => ⟨S5120x8, .f32⟩
  | .hbm, ⟨60, _⟩ => ⟨S1x5120, .f32⟩
  | .hbm, ⟨61, _⟩ => ⟨S1x5000, .f32⟩
  | .hbm, ⟨62, _⟩ => ⟨S5000, .f32⟩
  | .hbm, ⟨63, _⟩ => ⟨S_, .f32⟩
  | .hbm, ⟨64, _⟩ => ⟨S5000, .f32⟩
  | .hbm, ⟨65, _⟩ => ⟨S5000, .i1⟩
  | .hbm, ⟨66, _⟩ => ⟨S_, .i1⟩
  | .hbm, ⟨67, _⟩ => ⟨S5000, .i1⟩
  | .hbm, ⟨68, _⟩ => ⟨S_, .i32⟩
  | .hbm, ⟨69, _⟩ => ⟨S5000, .i32⟩
  | .hbm, ⟨70, _⟩ => ⟨S5000, .i1⟩
  | .hbm, ⟨71, _⟩ => ⟨S_, .i32⟩
  | .hbm, ⟨72, _⟩ => ⟨S5000, .i32⟩
  | .hbm, ⟨73, _⟩ => ⟨S5000, .i32⟩
  | .hbm, ⟨74, _⟩ => ⟨S5000, .i32⟩
  | .hbm, ⟨75, _⟩ => ⟨S5000x1, .i32⟩
  | .hbm, ⟨76, _⟩ => ⟨S5000, .i1⟩
  | .hbm, ⟨77, _⟩ => ⟨S_, .f32⟩
  | .hbm, ⟨78, _⟩ => ⟨S_, .f32⟩
  | .hbm, ⟨79, _⟩ => ⟨S5000, .f32⟩
  | .hbm, ⟨80, _⟩ => ⟨S5000, .f32⟩
  | .hbm, ⟨81, _⟩ => ⟨S100, .f32⟩
  | .hbm, ⟨82, _⟩ => ⟨S100, .i32⟩
  | .hbm, ⟨83, _⟩ => ⟨S_, .i32⟩
  | .hbm, ⟨84, _⟩ => ⟨S100, .i32⟩
  | .hbm, ⟨85, _⟩ => ⟨S100, .i1⟩
  | .hbm, ⟨86, _⟩ => ⟨S_, .i32⟩
  | .hbm, ⟨87, _⟩ => ⟨S100, .i32⟩
  | .hbm, ⟨88, _⟩ => ⟨S100, .i32⟩
  | .hbm, ⟨89, _⟩ => ⟨S100, .i32⟩
  | .hbm, ⟨90, _⟩ => ⟨S100x1, .i32⟩
  | .hbm, ⟨91, _⟩ => ⟨S100x6, .f32⟩
  | .local _ .vmem, ⟨0, _⟩ => ⟨S8x5120, .f32⟩
  | .local _ .vmem, ⟨1, _⟩ => ⟨S5120x8, .f32⟩
  | .local _ .vmem, ⟨2, _⟩ => ⟨S1x5120, .f32⟩
  | .local _ .vmem, ⟨3, _⟩ => ⟨S1x5120, .f32⟩
  | _, _ => ⟨S1x5000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1_0 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_c_14 : Ref sig .tc := ⟨.hbm, 66, rfl⟩
abbrev main_v47 : Ref sig .tc := ⟨.hbm, 67, rfl⟩
abbrev main_c_15 : Ref sig .tc := ⟨.hbm, 68, rfl⟩
abbrev main_v48 : Ref sig .tc := ⟨.hbm, 69, rfl⟩
abbrev main_v49 : Ref sig .tc := ⟨.hbm, 70, rfl⟩
abbrev main_c_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_17 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_values : Ref sig .tc := ⟨.hbm, 81, rfl⟩
abbrev main_indices : Ref sig .tc := ⟨.hbm, 82, rfl⟩
abbrev main_c_18 : Ref sig .tc := ⟨.hbm, 83, rfl⟩
abbrev main_v56 : Ref sig .tc := ⟨.hbm, 84, rfl⟩
abbrev main_v57 : Ref sig .tc := ⟨.hbm, 85, rfl⟩
abbrev main_c_19 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c20_i32 : BitVec 32 := 20#32
  let v4 : BitVec 32 := Scalar.addi c0_i32 c20_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v17 : Index := Scalar.indexCast v16
  let c0_9 : Index := 0#32
  ![v17.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v20 : Index := Scalar.indexCast v16
  let c1 : Index := 1#32
  ![v20.toNat, 1]
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v23 : Index := Scalar.indexCast v16
  let c2 : Index := 2#32
  ![v23.toNat, 2]
def k0_off4 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v26 : Index := Scalar.indexCast v16
  let c3 : Index := 3#32
  ![v26.toNat, 3]
def k0_off5 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v29 : Index := Scalar.indexCast v16
  let c4 : Index := 4#32
  ![v29.toNat, 4]
def k0_off6 (k0_t1 : Fin k0_t1_loop.trips) : Fin 2 → Nat :=
  let c0_10 : Index := 0#32
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v35 : Index := Scalar.indexCast v16
  ![0, v35.toNat]
def k0_off7 (k0_t1 : Fin k0_t1_loop.trips) : Fin 2 → Nat :=
  let c1_11 : Index := 1#32
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v38 : Index := Scalar.indexCast v16
  ![1, v38.toNat]
def k0_off8 (k0_t1 : Fin k0_t1_loop.trips) : Fin 2 → Nat :=
  let c2_12 : Index := 2#32
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v41 : Index := Scalar.indexCast v16
  ![2, v41.toNat]
def k0_off9 (k0_t1 : Fin k0_t1_loop.trips) : Fin 2 → Nat :=
  let c3_13 : Index := 3#32
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v44 : Index := Scalar.indexCast v16
  ![3, v44.toNat]
def k0_off10 (k0_t1 : Fin k0_t1_loop.trips) : Fin 2 → Nat :=
  let c4_14 : Index := 4#32
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v47 : Index := Scalar.indexCast v16
  ![4, v47.toNat]
def k0_off11 (k0_t1 : Fin k0_t1_loop.trips) : Fin 2 → Nat :=
  let c0_19 : Index := 0#32
  let c0_i32 : BitVec 32 := 0#32
  let c1_i32 : BitVec 32 := 1#32
  let arg4 : BitVec 32 := Scf.iv c0_i32 c1_i32 k0_t1
  let c256_i32 : BitVec 32 := 256#32
  let v16 : BitVec 32 := Scalar.muli arg4 c256_i32
  let v91 : Index := Scalar.indexCast v16
  ![0, v91.toNat]
@[reducible] def k0_t2_loop (k0_t1 : Fin k0_t1_loop.trips) : Scf.Loop 32 :=
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let c1_i32_28 : BitVec 32 := 1#32
  ⟨arg4, v108, c1_i32_28⟩
def k0_off12 (k0_t1 : Fin k0_t1_loop.trips) (k0_t2 : Fin (k0_t2_loop k0_t1).trips) : Fin 2 → Nat :=
  let c0_31 : Index := 0#32
  let c0_i32 : BitVec 32 := 0#32
  let c1_i32 : BitVec 32 := 1#32
  let arg4 : BitVec 32 := Scf.iv c0_i32 c1_i32 k0_t1
  let c1_i32_28 : BitVec 32 := 1#32
  let arg5 : BitVec 32 := Scf.iv arg4 c1_i32_28 k0_t2
  let c256_i32_30 : BitVec 32 := 256#32
  let v109 : BitVec 32 := Scalar.muli arg5 c256_i32_30
  let v110 : Index := Scalar.indexCast v109
  ![0, v110.toNat]
def k0_off13 (k0_t1 : Fin k0_t1_loop.trips) (k0_t2 : Fin (k0_t2_loop k0_t1).trips) : Fin 2 → Nat :=
  let c1_32 : Index := 1#32
  let c0_i32 : BitVec 32 := 0#32
  let c1_i32 : BitVec 32 := 1#32
  let arg4 : BitVec 32 := Scf.iv c0_i32 c1_i32 k0_t1
  let c1_i32_28 : BitVec 32 := 1#32
  let arg5 : BitVec 32 := Scf.iv arg4 c1_i32_28 k0_t2
  let c256_i32_30 : BitVec 32 := 256#32
  let v109 : BitVec 32 := Scalar.muli arg5 c256_i32_30
  let v113 : Index := Scalar.indexCast v109
  ![1, v113.toNat]
def k0_off14 (k0_t1 : Fin k0_t1_loop.trips) (k0_t2 : Fin (k0_t2_loop k0_t1).trips) : Fin 2 → Nat :=
  let c2_33 : Index := 2#32
  let c0_i32 : BitVec 32 := 0#32
  let c1_i32 : BitVec 32 := 1#32
  let arg4 : BitVec 32 := Scf.iv c0_i32 c1_i32 k0_t1
  let c1_i32_28 : BitVec 32 := 1#32
  let arg5 : BitVec 32 := Scf.iv arg4 c1_i32_28 k0_t2
  let c256_i32_30 : BitVec 32 := 256#32
  let v109 : BitVec 32 := Scalar.muli arg5 c256_i32_30
  let v116 : Index := Scalar.indexCast v109
  ![2, v116.toNat]
def k0_off15 (k0_t1 : Fin k0_t1_loop.trips) (k0_t2 : Fin (k0_t2_loop k0_t1).trips) : Fin 2 → Nat :=
  let c3_34 : Index := 3#32
  let c0_i32 : BitVec 32 := 0#32
  let c1_i32 : BitVec 32 := 1#32
  let arg4 : BitVec 32 := Scf.iv c0_i32 c1_i32 k0_t1
  let c1_i32_28 : BitVec 32 := 1#32
  let arg5 : BitVec 32 := Scf.iv arg4 c1_i32_28 k0_t2
  let c256_i32_30 : BitVec 32 := 256#32
  let v109 : BitVec 32 := Scalar.muli arg5 c256_i32_30
  let v119 : Index := Scalar.indexCast v109
  ![3, v119.toNat]
def k0_off16 (k0_t1 : Fin k0_t1_loop.trips) (k0_t2 : Fin (k0_t2_loop k0_t1).trips) : Fin 2 → Nat :=
  let c4_35 : Index := 4#32
  let c0_i32 : BitVec 32 := 0#32
  let c1_i32 : BitVec 32 := 1#32
  let arg4 : BitVec 32 := Scf.iv c0_i32 c1_i32 k0_t1
  let c1_i32_28 : BitVec 32 := 1#32
  let arg5 : BitVec 32 := Scf.iv arg4 c1_i32_28 k0_t2
  let c256_i32_30 : BitVec 32 := 256#32
  let v109 : BitVec 32 := Scalar.muli arg5 c256_i32_30
  let v122 : Index := Scalar.indexCast v109
  ![4, v122.toNat]
def k0_off17 (k0_t1 : Fin k0_t1_loop.trips) (k0_t2 : Fin (k0_t2_loop k0_t1).trips) : Fin 2 → Nat :=
  let c0_41 : Index := 0#32
  let c0_i32 : BitVec 32 := 0#32
  let c1_i32 : BitVec 32 := 1#32
  let arg4 : BitVec 32 := Scf.iv c0_i32 c1_i32 k0_t1
  let c1_i32_28 : BitVec 32 := 1#32
  let arg5 : BitVec 32 := Scf.iv arg4 c1_i32_28 k0_t2
  let c256_i32_30 : BitVec 32 := 256#32
  let v109 : BitVec 32 := Scalar.muli arg5 c256_i32_30
  let v171 : Index := Scalar.indexCast v109
  ![0, v171.toNat]
@[reducible] def k0_t3_loop (k0_t1 : Fin k0_t1_loop.trips) : Scf.Loop 32 :=
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let v105 : BitVec 32 := Scalar.addi arg4 v104
  let c1_i32_29 : BitVec 32 := 1#32
  ⟨v108, v105, c1_i32_29⟩
def k0_off18 (k0_t1 : Fin k0_t1_loop.trips) (k0_t3 : Fin (k0_t3_loop k0_t1).trips) : Fin 2 → Nat :=
  let c0_31 : Index := 0#32
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let c1_i32_29 : BitVec 32 := 1#32
  let arg5 : BitVec 32 := Scf.iv v108 c1_i32_29 k0_t3
  let c256_i32_30 : BitVec 32 := 256#32
  let v109 : BitVec 32 := Scalar.muli arg5 c256_i32_30
  let v110 : Index := Scalar.indexCast v109
  ![0, v110.toNat]
def k0_off19 (k0_t1 : Fin k0_t1_loop.trips) (k0_t3 : Fin (k0_t3_loop k0_t1).trips) : Fin 2 → Nat :=
  let c1_32 : Index := 1#32
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let c1_i32_29 : BitVec 32 := 1#32
  let arg5 : BitVec 32 := Scf.iv v108 c1_i32_29 k0_t3
  let c256_i32_30 : BitVec 32 := 256#32
  let v109 : BitVec 32 := Scalar.muli arg5 c256_i32_30
  let v113 : Index := Scalar.indexCast v109
  ![1, v113.toNat]
def k0_off20 (k0_t1 : Fin k0_t1_loop.trips) (k0_t3 : Fin (k0_t3_loop k0_t1).trips) : Fin 2 → Nat :=
  let c2_33 : Index := 2#32
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let c1_i32_29 : BitVec 32 := 1#32
  let arg5 : BitVec 32 := Scf.iv v108 c1_i32_29 k0_t3
  let c256_i32_30 : BitVec 32 := 256#32
  let v109 : BitVec 32 := Scalar.muli arg5 c256_i32_30
  let v116 : Index := Scalar.indexCast v109
  ![2, v116.toNat]
def k0_off21 (k0_t1 : Fin k0_t1_loop.trips) (k0_t3 : Fin (k0_t3_loop k0_t1).trips) : Fin 2 → Nat :=
  let c3_34 : Index := 3#32
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let c1_i32_29 : BitVec 32 := 1#32
  let arg5 : BitVec 32 := Scf.iv v108 c1_i32_29 k0_t3
  let c256_i32_30 : BitVec 32 := 256#32
  let v109 : BitVec 32 := Scalar.muli arg5 c256_i32_30
  let v119 : Index := Scalar.indexCast v109
  ![3, v119.toNat]
def k0_off22 (k0_t1 : Fin k0_t1_loop.trips) (k0_t3 : Fin (k0_t3_loop k0_t1).trips) : Fin 2 → Nat :=
  let c4_35 : Index := 4#32
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let c1_i32_29 : BitVec 32 := 1#32
  let arg5 : BitVec 32 := Scf.iv v108 c1_i32_29 k0_t3
  let c256_i32_30 : BitVec 32 := 256#32
  let v109 : BitVec 32 := Scalar.muli arg5 c256_i32_30
  let v122 : Index := Scalar.indexCast v109
  ![4, v122.toNat]
def k0_off23 (k0_t1 : Fin k0_t1_loop.trips) (k0_t3 : Fin (k0_t3_loop k0_t1).trips) : Fin 2 → Nat :=
  let c0_41 : Index := 0#32
  let c0_i32 : BitVec 32 := 0#32
  let c1_i32 : BitVec 32 := 1#32
  let arg4 : BitVec 32 := Scf.iv c0_i32 c1_i32 k0_t1
  let c20_i32_26 : BitVec 32 := 20#32
  let v104 : BitVec 32 := Scalar.subi c20_i32_26 arg4
  let c1_i32_27 : BitVec 32 := 1#32
  let v106 : BitVec 32 := Scalar.divsi v104 c1_i32_27
  let v107 : BitVec 32 := Scalar.muli v106 c1_i32_27
  let v108 : BitVec 32 := Scalar.addi arg4 v107
  let c1_i32_29 : BitVec 32 := 1#32
  let arg5 : BitVec 32 := Scf.iv v108 c1_i32_29 k0_t3
  let c256_i32_30 : BitVec 32 := 256#32
  let v109 : BitVec 32 := Scalar.muli arg5 c256_i32_30
  let v171 : Index := Scalar.indexCast v109
  ![0, v171.toNat]
abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference2Ideal.lean ====
abbrev S1x5000x6 : Shape := ⟨3, ![1, 5000, 6]⟩
abbrev S5000x6 : Shape := ⟨2, ![5000, 6]⟩
abbrev S5000x4 : Shape := ⟨2, ![5000, 4]⟩
abbrev S5000x1 : Shape := ⟨2, ![5000, 1]⟩
abbrev S5000 : Shape := ⟨1, ![5000]⟩
abbrev S_ : Shape := ⟨0, ![]⟩
abbrev S1x5000 : Shape := ⟨2, ![1, 5000]⟩
abbrev S5000x5000 : Shape := ⟨2, ![5000, 5000]⟩
abbrev S1 : Shape := ⟨1, ![1]⟩
abbrev S100 : Shape := ⟨1, ![100]⟩
abbrev S100x1 : Shape := ⟨2, ![100, 1]⟩
abbrev S100x6 : Shape := ⟨2, ![100, 6]⟩

abbrev nBuf : Space → Nat
  | .hbm => 294
  | .vmem => 0
  | .smem => 0
  | _ => 0

abbrev hbmTy0_0 (i : Nat) : BufTy := match i % 128 with
  | 0 => ⟨S1x5000x6, .f32⟩
  | 1 => ⟨S5000x6, .f32⟩
  | 2 => ⟨S5000x4, .f32⟩
  | 3 => ⟨S5000x1, .f32⟩
  | 4 => ⟨S5000, .f32⟩
  | 5 => ⟨S5000x1, .f32⟩
  | 6 => ⟨S5000, .f32⟩
  | 7 => ⟨S5000, .i32⟩
  | 8 => ⟨S_, .f32⟩
  | 9 => ⟨S5000, .f32⟩
  | 10 => ⟨S5000, .i1⟩
  | 11 => ⟨S_, .f32⟩
  | 12 => ⟨S_, .f32⟩
  | 13 => ⟨S5000, .f32⟩
  | 14 => ⟨S5000, .f32⟩
  | 15 => ⟨S5000, .f32⟩
  | 16 => ⟨S5000, .i32⟩
  | 17 => ⟨S5000, .f32⟩
  | 18 => ⟨S5000, .i32⟩
  | 19 => ⟨S_, .i32⟩
  | 20 => ⟨S5000, .i32⟩
  | 21 => ⟨S5000, .i1⟩
  | 22 => ⟨S_, .i32⟩
  | 23 => ⟨S5000, .i32⟩
  | 24 => ⟨S5000, .i32⟩
  | 25 => ⟨S5000, .i32⟩
  | 26 => ⟨S5000x1, .i32⟩
  | 27 => ⟨S5000x4, .f32⟩
  | 28 => ⟨S5000x1, .f32⟩
  | 29 => ⟨S5000, .f32⟩
  | 30 => ⟨S5000x1, .f32⟩
  | 31 => ⟨S5000, .f32⟩
  | 32 => ⟨S5000x1, .f32⟩
  | 33 => ⟨S5000, .f32⟩
  | 34 => ⟨S5000x1, .f32⟩
  | 35 => ⟨S5000, .f32⟩
  | 36 => ⟨S5000, .f32⟩
  | 37 => ⟨S5000, .f32⟩
  | 38 => ⟨S5000, .f32⟩
  | 39 => ⟨S5000x1, .f32⟩
  | 40 => ⟨S1x5000, .f32⟩
  | 41 => ⟨S5000x5000, .f32⟩
  | 42 => ⟨S5000x5000, .f32⟩
  | 43 => ⟨S5000x5000, .f32⟩
  | 44 => ⟨S5000x1, .f32⟩
  | 45 => ⟨S1x5000, .f32⟩
  | 46 => ⟨S5000x5000, .f32⟩
  | 47 => ⟨S5000x5000, .f32⟩
  | 48 => ⟨S5000x5000, .f32⟩
  | 49 => ⟨S5000x1, .f32⟩
  | 50 => ⟨S1x5000, .f32⟩
  | 51 => ⟨S5000x5000, .f32⟩
  | 52 => ⟨S5000x5000, .f32⟩
  | 53 => ⟨S5000x5000, .f32⟩
  | 54 => ⟨S5000x1, .f32⟩
  | 55 => ⟨S1x5000, .f32⟩
  | 56 => ⟨S5000x5000, .f32⟩
  | 57 => ⟨S5000x5000, .f32⟩
  | 58 => ⟨S5000x5000, .f32⟩
  | 59 => ⟨S5000x5000, .f32⟩
  | 60 => ⟨S_, .f32⟩
  | 61 => ⟨S_, .f32⟩
  | 62 => ⟨S5000x5000, .f32⟩
  | 63 => ⟨S5000x5000, .f32⟩
  | 64 => ⟨S5000x5000, .f32⟩
  | 65 => ⟨S_, .f32⟩
  | 66 => ⟨S_, .f32⟩
  | 67 => ⟨S5000x5000, .f32⟩
  | 68 => ⟨S5000x5000, .f32⟩
  | 69 => ⟨S5000x5000, .f32⟩
  | 70 => ⟨S5000x1, .f32⟩
  | 71 => ⟨S1x5000, .f32⟩
  | 72 => ⟨S5000x5000, .f32⟩
  | 73 => ⟨S5000x5000, .f32⟩
  | 74 => ⟨S5000x5000, .f32⟩
  | 75 => ⟨S5000x5000, .f32⟩
  | 76 => ⟨S_, .f32⟩
  | 77 => ⟨S5000x5000, .f32⟩
  | 78 => ⟨S5000x5000, .f32⟩
  | 79 => ⟨S5000x5000, .f32⟩
  | 80 => ⟨S_, .f32⟩
  | 81 => ⟨S5000, .f32⟩
  | 82 => ⟨S5000, .i1⟩
  | 83 => ⟨S_, .f32⟩
  | 84 => ⟨S_, .f32⟩
  | 85 => ⟨S5000, .f32⟩
  | 86 => ⟨S5000, .f32⟩
  | 87 => ⟨S5000, .f32⟩
  | 88 => ⟨S5000, .i32⟩
  | 89 => ⟨S5000, .f32⟩
  | 90 => ⟨S5000, .i32⟩
  | 91 => ⟨S_, .i32⟩
  | 92 => ⟨S5000, .i32⟩
  | 93 => ⟨S5000, .i1⟩
  | 94 => ⟨S_, .i32⟩
  | 95 => ⟨S5000, .i32⟩
  | 96 => ⟨S5000, .i32⟩
  | 97 => ⟨S5000, .i32⟩
  | 98 => ⟨S5000x1, .i32⟩
  | 99 => ⟨S5000x4, .f32⟩
  | 100 => ⟨S5000x1, .f32⟩
  | 101 => ⟨S5000, .f32⟩
  | 102 => ⟨S5000x1, .f32⟩
  | 103 => ⟨S5000, .f32⟩
  | 104 => ⟨S5000x1, .f32⟩
  | 105 => ⟨S5000, .f32⟩
  | 106 => ⟨S5000x1, .f32⟩
  | 107 => ⟨S5000, .f32⟩
  | 108 => ⟨S5000, .f32⟩
  | 109 => ⟨S5000, .f32⟩
  | 110 => ⟨S5000, .f32⟩
  | 111 => ⟨S5000x1, .f32⟩
  | 112 => ⟨S1x5000, .f32⟩
  | 113 => ⟨S5000x5000, .f32⟩
  | 114 => ⟨S5000x5000, .f32⟩
  | 115 => ⟨S5000x5000, .f32⟩
  | 116 => ⟨S5000x1, .f32⟩
  | 117 => ⟨S1x5000, .f32⟩
  | 118 => ⟨S5000x5000, .f32⟩
  | 119 => ⟨S5000x5000, .f32⟩
  | 120 => ⟨S5000x5000, .f32⟩
  | 121 => ⟨S5000x1, .f32⟩
  | 122 => ⟨S1x5000, .f32⟩
  | 123 => ⟨S5000x5000, .f32⟩
  | 124 => ⟨S5000x5000, .f32⟩
  | 125 => ⟨S5000x5000, .f32⟩
  | 126 => ⟨S5000x1, .f32⟩
  | 127 => ⟨S1x5000, .f32⟩
  | _ => ⟨S1x5000x6, .f32⟩

abbrev hbmTy0_1 (i : Nat) : BufTy := match i % 128 with
  | 0 => ⟨S5000x5000, .f32⟩
  | 1 => ⟨S5000x5000, .f32⟩
  | 2 => ⟨S5000x5000, .f32⟩
  | 3 => ⟨S5000x5000, .f32⟩
  | 4 => ⟨S_, .f32⟩
  | 5 => ⟨S_, .f32⟩
  | 6 => ⟨S5000x5000, .f32⟩
  | 7 => ⟨S5000x5000, .f32⟩
  | 8 => ⟨S5000x5000, .f32⟩
  | 9 => ⟨S_, .f32⟩
  | 10 => ⟨S_, .f32⟩
  | 11 => ⟨S5000x5000, .f32⟩
  | 12 => ⟨S5000x5000, .f32⟩
  | 13 => ⟨S5000x5000, .f32⟩
  | 14 => ⟨S5000x1, .f32⟩
  | 15 => ⟨S1x5000, .f32⟩
  | 16 => ⟨S5000x5000, .f32⟩
  | 17 => ⟨S5000x5000, .f32⟩
  | 18 => ⟨S5000x5000, .f32⟩
  | 19 => ⟨S5000x5000, .f32⟩
  | 20 => ⟨S_, .f32⟩
  | 21 => ⟨S5000x5000, .f32⟩
  | 22 => ⟨S5000x5000, .f32⟩
  | 23 => ⟨S5000x5000, .f32⟩
  | 24 => ⟨S_, .i1⟩
  | 25 => ⟨S5000, .i1⟩
  | 26 => ⟨S_, .i1⟩
  | 27 => ⟨S5000, .i1⟩
  | 28 => ⟨S_, .i32⟩
  | 29 => ⟨S_, .i32⟩
  | 30 => ⟨S5000x5000, .f32⟩
  | 31 => ⟨S5000, .i32⟩
  | 32 => ⟨S5000x5000, .f32⟩
  | 33 => ⟨S_, .i32⟩
  | 34 => ⟨S_, .i32⟩
  | 35 => ⟨S5000, .i1⟩
  | 36 => ⟨S5000, .i1⟩
  | 37 => ⟨S_, .i32⟩
  | 38 => ⟨S_, .i1⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1, .i1⟩
  | 48 => ⟨S_, .i1⟩
  | 49 => ⟨S_, .i1⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x5000, .f32⟩
  | 65 => ⟨S5000, .f32⟩
  | 66 => ⟨S_, .f32⟩
  | 67 => ⟨S5000, .f32⟩
  | 68 => ⟨S5000, .i1⟩
  | 69 => ⟨S5000, .i1⟩
  | 70 => ⟨S5000, .i1⟩
  | 71 => ⟨S_, .i32⟩
  | 72 => ⟨S5000, .i32⟩
  | 73 => ⟨S5000, .i1⟩
  | 74 => ⟨S5000, .i1⟩
  | 75 => ⟨S5000, .i1⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S1, .i1⟩
  | 83 => ⟨S_, .i1⟩
  | 84 => ⟨S_, .i1⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S1x5000, .f32⟩
  | 100 => ⟨S5000, .f32⟩
  | 101 => ⟨S_, .f32⟩
  | 102 => ⟨S5000, .f32⟩
  | 103 => ⟨S5000, .i1⟩
  | 104 => ⟨S5000, .i1⟩
  | 105 => ⟨S5000, .i1⟩
  | 106 => ⟨S_, .i32⟩
  | 107 => ⟨S5000, .i32⟩
  | 108 => ⟨S5000, .i1⟩
  | 109 => ⟨S5000, .i1⟩
  | 110 => ⟨S5000, .i1⟩
  | 111 => ⟨S_, .i32⟩
  | 112 => ⟨S_, .i32⟩
  | 113 => ⟨S_, .i1⟩
  | 114 => ⟨S5000, .i1⟩
  | 115 => ⟨S_, .i1⟩
  | 116 => ⟨S5000, .i1⟩
  | 117 => ⟨S5000, .i1⟩
  | 118 => ⟨S_, .i32⟩
  | 119 => ⟨S5000, .i32⟩
  | 120 => ⟨S5000, .i1⟩
  | 121 => ⟨S_, .i32⟩
  | 122 => ⟨S5000, .i32⟩
  | 123 => ⟨S5000, .i32⟩
  | 124 => ⟨S5000, .i32⟩
  | 125 => ⟨S5000x1, .i32⟩
  | 126 => ⟨S5000, .i1⟩
  | 127 => ⟨S5000, .i1⟩
  | _ => ⟨S1x5000x6, .f32⟩

abbrev hbmTy0_2 (i : Nat) : BufTy := match i % 128 with
  | 0 => ⟨S_, .f32⟩
  | 1 => ⟨S5000, .f32⟩
  | 2 => ⟨S5000, .i1⟩
  | 3 => ⟨S5000, .i1⟩
  | 4 => ⟨S5000, .i1⟩
  | 5 => ⟨S_, .i1⟩
  | 6 => ⟨S5000, .i1⟩
  | 7 => ⟨S5000, .i1⟩
  | 8 => ⟨S_, .i32⟩
  | 9 => ⟨S5000, .i32⟩
  | 10 => ⟨S5000, .i1⟩
  | 11 => ⟨S_, .i32⟩
  | 12 => ⟨S5000, .i32⟩
  | 13 => ⟨S5000, .i32⟩
  | 14 => ⟨S5000, .i32⟩
  | 15 => ⟨S5000x1, .i32⟩
  | 16 => ⟨S5000, .i1⟩
  | 17 => ⟨S5000, .i1⟩
  | 18 => ⟨S_, .f32⟩
  | 19 => ⟨S5000, .f32⟩
  | 20 => ⟨S5000, .i1⟩
  | 21 => ⟨S5000, .i1⟩
  | 22 => ⟨S5000, .i1⟩
  | 23 => ⟨S_, .f32⟩
  | 24 => ⟨S_, .f32⟩
  | 25 => ⟨S5000, .f32⟩
  | 26 => ⟨S5000, .f32⟩
  | 27 => ⟨S100, .f32⟩
  | 28 => ⟨S100, .i32⟩
  | 29 => ⟨S_, .i32⟩
  | 30 => ⟨S100, .i32⟩
  | 31 => ⟨S100, .i1⟩
  | 32 => ⟨S_, .i32⟩
  | 33 => ⟨S100, .i32⟩
  | 34 => ⟨S100, .i32⟩
  | 35 => ⟨S100, .i32⟩
  | 36 => ⟨S100x1, .i32⟩
  | 37 => ⟨S100x6, .f32⟩
  | _ => ⟨S1x5000x6, .f32⟩

abbrev hbmTy (i : Nat) : BufTy := match i / 128 with
  | 0 => hbmTy0_0 i
  | 1 => hbmTy0_1 i
  | 2 => hbmTy0_2 i
  | _ => ⟨S1x5000x6, .f32⟩

abbrev bufTy : (tb : Table) → Fin (tcTables nBuf tb) → BufTy
  | .hbm, ⟨i, _⟩ => hbmTy i
  | _, _ => ⟨S1x5000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v9 : Ref sig .tc := ⟨.hbm, 14, rfl⟩
abbrev main_v10 : Ref sig .tc := ⟨.hbm, 15, rfl⟩
abbrev main_call1_v0 : Ref sig .tc := ⟨.hbm, 16, rfl⟩
abbrev main_call1_v1_0 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_2 : Ref sig .tc := ⟨.hbm, 60, rfl⟩
abbrev main_call2_v0 : Ref sig .tc := ⟨.hbm, 61, rfl⟩
abbrev main_call2_v1 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_call3_v0 : Ref sig .tc := ⟨.hbm, 66, rfl⟩
abbrev main_call3_v1 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_5 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_v66 : Ref sig .tc := ⟨.hbm, 86, rfl⟩
abbrev main_v67 : Ref sig .tc := ⟨.hbm, 87, rfl⟩
abbrev main_call5_v0 : Ref sig .tc := ⟨.hbm, 88, rfl⟩
abbrev main_call5_v1_0 : Ref sig .tc := ⟨.hbm, 89, rfl⟩
abbrev main_v68 : Ref sig .tc := ⟨.hbm, 90, rfl⟩
abbrev main_c_7 : Ref sig .tc := ⟨.hbm, 91, rfl⟩
abbrev main_v69 : Ref sig .tc := ⟨.hbm, 92, rfl⟩
abbrev main_v70 : Ref sig .tc := ⟨.hbm, 93, rfl⟩
abbrev main_c_8 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_9 : Ref sig .tc := ⟨.hbm, 132, rfl⟩
abbrev main_call6_v0 : Ref sig .tc := ⟨.hbm, 133, rfl⟩
abbrev main_call6_v1 : Ref sig .tc := ⟨.hbm, 134, rfl⟩
abbrev main_v108 : Ref sig .tc := ⟨.hbm, 135, rfl⟩
abbrev main_v109 : Ref sig .tc := ⟨.hbm, 136, rfl⟩
abbrev main_cst_10 : Ref sig .tc := ⟨.hbm, 137, rfl⟩
abbrev main_call7_v0 : Ref sig .tc := ⟨.hbm, 138, rfl⟩
abbrev main_call7_v1 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_11 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_c_12 : Ref sig .tc := ⟨.hbm, 152, rfl⟩
abbrev main_v121 : Ref sig .tc := ⟨.hbm, 153, rfl⟩
abbrev main_c_13 : Ref sig .tc := ⟨.hbm, 154, rfl⟩
abbrev main_v122 : Ref sig .tc := ⟨.hbm, 155, rfl⟩
abbrev main_c_14 : Ref sig .tc := ⟨.hbm, 156, rfl⟩
abbrev main_c_15 : Ref sig .tc := ⟨.hbm, 157, rfl⟩
abbrev main_v123_0 : Ref sig .tc := ⟨.hbm, 158, rfl⟩
abbrev main_v123_1 : Ref sig .tc := ⟨.hbm, 159, rfl⟩
abbrev main_v123_2 : Ref sig .tc := ⟨.hbm, 160, rfl⟩
abbrev main_v123_3 : Ref sig .tc := ⟨.hbm, 161, rfl⟩
abbrev main_v123_4 : Ref sig .tc := ⟨.hbm, 162, rfl⟩
abbrev main_v123_5 : Ref sig .tc := ⟨.hbm, 163, rfl⟩
abbrev main_v123_6 : Ref sig .tc := ⟨.hbm, 164, rfl⟩
abbrev main_while0c_c_34 : Ref sig .tc := ⟨.hbm, 165, rfl⟩
abbrev main_while0c_v161 : Ref sig .tc := ⟨.hbm, 166, rfl⟩
abbrev main_while0b_c_34 : Ref sig .tc := ⟨.hbm, 167, rfl⟩
abbrev main_while0b_v161 : Ref sig .tc := ⟨.hbm, 168, rfl⟩
abbrev main_while0b_c_35 : Ref sig .tc := ⟨.hbm, 169, rfl⟩
abbrev main_while0b_v162 : Ref sig .tc := ⟨.hbm, 170, rfl⟩
abbrev main_while0b_v163 : Ref sig .tc := ⟨.hbm, 171, rfl⟩
abbrev main_while0b_c_36 : Ref sig .tc := ⟨.hbm, 172, rfl⟩
abbrev main_while0b_v164 : Ref sig .tc := ⟨.hbm, 173, rfl⟩
abbrev main_while0b_v165 : Ref sig .tc := ⟨.hbm, 174, rfl⟩
abbrev main_while0b_v166 : Ref sig .tc := ⟨.hbm, 175, rfl⟩
abbrev main_while0b_v167 : Ref sig .tc := ⟨.hbm, 176, rfl⟩
abbrev main_while0b_v168 : Ref sig .tc := ⟨.hbm, 177, rfl⟩
abbrev main_while0b_v169 : Ref sig .tc := ⟨.hbm, 178, rfl⟩
abbrev main_while0b_c_37 : Ref sig .tc := ⟨.hbm, 179, rfl⟩
abbrev main_while0b_v170 : Ref sig .tc := ⟨.hbm, 180, rfl⟩
abbrev main_while0b_c_38 : Ref sig .tc := ⟨.hbm, 181, rfl⟩
abbrev main_while0b_v171 : Ref sig .tc := ⟨.hbm, 182, rfl⟩
abbrev main_while0b_v172 : Ref sig .tc := ⟨.hbm, 183, rfl⟩
abbrev main_while0b_c_39 : Ref sig .tc := ⟨.hbm, 184, rfl⟩
abbrev main_while0b_c_40 : Ref sig .tc := ⟨.hbm, 185, rfl⟩
abbrev main_while0b_v173 : Ref sig .tc := ⟨.hbm, 186, rfl⟩
abbrev main_while0b_c_41 : Ref sig .tc := ⟨.hbm, 187, rfl⟩
abbrev main_while0b_c_42 : Ref sig .tc := ⟨.hbm, 188, rfl⟩
abbrev main_while0b_v174 : Ref sig .tc := ⟨.hbm, 189, rfl⟩
abbrev main_while0b_c_43 : Ref sig .tc := ⟨.hbm, 190, rfl⟩
abbrev main_while0b_v175 : Ref sig .tc := ⟨.hbm, 191, rfl⟩
abbrev main_while0b_v176 : Ref sig .tc := ⟨.hbm, 192, rfl⟩
abbrev main_while0b_v177 : Ref sig .tc := ⟨.hbm, 193, rfl⟩
abbrev main_while0b_cst_44 : Ref sig .tc := ⟨.hbm, 194, rfl⟩
abbrev main_while0b_v178 : Ref sig .tc := ⟨.hbm, 195, rfl⟩
abbrev main_while0b_v179 : Ref sig .tc := ⟨.hbm, 196, rfl⟩
abbrev main_while0b_v180 : Ref sig .tc := ⟨.hbm, 197, rfl⟩
abbrev main_while0b_v181 : Ref sig .tc := ⟨.hbm, 198, rfl⟩
abbrev main_while0b_v182 : Ref sig .tc := ⟨.hbm, 199, rfl⟩
abbrev main_while0b_v183 : Ref sig .tc := ⟨.hbm, 200, rfl⟩
abbrev main_while0b_v184 : Ref sig .tc := ⟨.hbm, 201, rfl⟩
abbrev main_while0b_v185 : Ref sig .tc := ⟨.hbm, 202, rfl⟩
abbrev main_while0b_v186 : Ref sig .tc := ⟨.hbm, 203, rfl⟩
abbrev main_while0b_c_45 : Ref sig .tc := ⟨.hbm, 204, rfl⟩
abbrev main_while0b_v187 : Ref sig .tc := ⟨.hbm, 205, rfl⟩
abbrev main_while0b_v188 : Ref sig .tc := ⟨.hbm, 206, rfl⟩
abbrev main_while0b_c_46 : Ref sig .tc := ⟨.hbm, 207, rfl⟩
abbrev main_while0b_v189 : Ref sig .tc := ⟨.hbm, 208, rfl⟩
abbrev main_while0b_v190 : Ref sig .tc := ⟨.hbm, 209, rfl⟩
abbrev main_while0b_v191 : Ref sig .tc := ⟨.hbm, 210, rfl⟩
abbrev main_while0b_v192 : Ref sig .tc := ⟨.hbm, 211, rfl⟩
abbrev main_while0b_v193 : Ref sig .tc := ⟨.hbm, 212, rfl⟩
abbrev main_while0b_v194 : Ref sig .tc := ⟨.hbm, 213, rfl⟩
abbrev main_while0b_c_47 : Ref sig .tc := ⟨.hbm, 214, rfl⟩
abbrev main_while0b_v195 : Ref sig .tc := ⟨.hbm, 215, rfl⟩
abbrev main_while0b_c_48 : Ref sig .tc := ⟨.hbm, 216, rfl⟩
abbrev main_while0b_v196 : Ref sig .tc := ⟨.hbm, 217, rfl⟩
abbrev main_while0b_v197 : Ref sig .tc := ⟨.hbm, 218, rfl⟩
abbrev main_while0b_c_49 : Ref sig .tc := ⟨.hbm, 219, rfl⟩
abbrev main_while0b_c_50 : Ref sig .tc := ⟨.hbm, 220, rfl⟩
abbrev main_while0b_v198 : Ref sig .tc := ⟨.hbm, 221, rfl⟩
abbrev main_while0b_c_51 : Ref sig .tc := ⟨.hbm, 222, rfl⟩
abbrev main_while0b_c_52 : Ref sig .tc := ⟨.hbm, 223, rfl⟩
abbrev main_while0b_v199 : Ref sig .tc := ⟨.hbm, 224, rfl⟩
abbrev main_while0b_c_53 : Ref sig .tc := ⟨.hbm, 225, rfl⟩
abbrev main_while0b_v200 : Ref sig .tc := ⟨.hbm, 226, rfl⟩
abbrev main_while0b_v201 : Ref sig .tc := ⟨.hbm, 227, rfl⟩
abbrev main_while0b_v202 : Ref sig .tc := ⟨.hbm, 228, rfl⟩
abbrev main_while0b_cst_54 : Ref sig .tc := ⟨.hbm, 229, rfl⟩
abbrev main_while0b_v203 : Ref sig .tc := ⟨.hbm, 230, rfl⟩
abbrev main_while0b_v204 : Ref sig .tc := ⟨.hbm, 231, rfl⟩
abbrev main_while0b_v205 : Ref sig .tc := ⟨.hbm, 232, rfl⟩
abbrev main_while0b_v206 : Ref sig .tc := ⟨.hbm, 233, rfl⟩
abbrev main_while0b_v207 : Ref sig .tc := ⟨.hbm, 234, rfl⟩
abbrev main_while0b_v208 : Ref sig .tc := ⟨.hbm, 235, rfl⟩
abbrev main_while0b_v209 : Ref sig .tc := ⟨.hbm, 236, rfl⟩
abbrev main_while0b_v210 : Ref sig .tc := ⟨.hbm, 237, rfl⟩
abbrev main_while0b_v211 : Ref sig .tc := ⟨.hbm, 238, rfl⟩
abbrev main_while0b_c_55 : Ref sig .tc := ⟨.hbm, 239, rfl⟩
abbrev main_while0b_v212 : Ref sig .tc := ⟨.hbm, 240, rfl⟩
abbrev main_c_16 : Ref sig .tc := ⟨.hbm, 241, rfl⟩
abbrev main_v124 : Ref sig .tc := ⟨.hbm, 242, rfl⟩
abbrev main_c_17 : Ref sig .tc := ⟨.hbm, 243, rfl⟩
abbrev main_v125 : Ref sig .tc := ⟨.hbm, 244, rfl⟩
abbrev main_v126 : Ref sig .tc := ⟨.hbm, 245, rfl⟩
abbrev main_c_18 : Ref sig .tc := ⟨.hbm, 246, rfl⟩
abbrev main_v127 : Ref sig .tc := ⟨.hbm, 247, rfl⟩
abbrev main_v128 : Ref sig .tc := ⟨.hbm, 248, rfl⟩
abbrev main_c_19 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_cst_20 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_c_21 : Ref sig .tc := ⟨.hbm, 261, rfl⟩
abbrev main_v139 : Ref sig .tc := ⟨.hbm, 262, rfl⟩
abbrev main_v140 : Ref sig .tc := ⟨.hbm, 263, rfl⟩
abbrev main_c_22 : Ref sig .tc := ⟨.hbm, 264, rfl⟩
abbrev main_v141 : Ref sig .tc := ⟨.hbm, 265, rfl⟩
abbrev main_v142 : Ref sig .tc := ⟨.hbm, 266, rfl⟩
abbrev main_c_23 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_cst_24 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_cst_25 : Ref sig .tc := ⟨.hbm, 279, rfl⟩
abbrev main_call8_v0 : Ref sig .tc := ⟨.hbm, 280, rfl⟩
abbrev main_call8_v1 : Ref sig .tc := ⟨.hbm, 281, rfl⟩
abbrev main_v153 : Ref sig .tc := ⟨.hbm, 282, rfl⟩
abbrev main_values : Ref sig .tc := ⟨.hbm, 283, rfl⟩
abbrev main_indices : Ref sig .tc := ⟨.hbm, 284, rfl⟩
abbrev main_c_26 : Ref sig .tc := ⟨.hbm, 285, rfl⟩
abbrev main_v154 : Ref sig .tc := ⟨.hbm, 286, rfl⟩
abbrev main_v155 : Ref sig .tc := ⟨.hbm, 287, rfl⟩
abbrev main_c_27 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩

abbrev nD : Nat := 1
abbrev τ : Topo := Topo.v7x

variable {F : FTy → Type} [FloatOps F]

abbrev main_while0_count : Scf.Loop 32 := ⟨0#32, 5000#32, 1#32⟩
-- ==== Proof.Layer.lean ====
module

public import proofs.«01_k».proof.Proof.Gen.KernelIdeal.Frame
public import Idealize.ShloMosaic.Lib.Pointwise

@[expose] public section

set_option maxRecDepth 16384

noncomputable section

namespace Cert.Head

open Idealize.ShloMosaic Idealize.SL.Sem
open Cert.KernelIdeal Cert.KernelIdeal.Gen

/-- A 7x7 image with a border of zeros, read at a place of the 9x9 one. -/
def border (f : Fin 7 → Fin 7 → EReal) (p q : Fin 9) : EReal :=
  if _ : q.val < 1 then 0
  else if hq : q.val - 1 < 7 then
    if _ : p.val < 1 then 0
    else if hp : p.val - 1 < 7 then f ⟨p.val - 1, hp⟩ ⟨q.val - 1, hq⟩ else 0
  else 0

/-- The 3x3 window at `(y, x)` of `C` bordered images against the taps `w`, the nine sums over
    the channels taken row by row. -/
def conv9 {C : Nat} (f : Fin C → Fin 7 → Fin 7 → EReal) (w : Fin 3 → Fin 3 → Fin C → EReal)
    (y x : Fin 7) : EReal :=
  let g (i j : Fin 3) : EReal :=
    ∑ c : Fin C, border (f c) ⟨i.val + y.val, by omega⟩ ⟨j.val + x.val, by omega⟩ * w i j c
  g 0 0 + g 0 1 + g 0 2 + g 1 0 + g 1 1 + g 1 2 + g 2 0 + g 2 1 + g 2 2

/-- The border of zeros about a block of 7x7 images with 64 channels. -/
def padF (x : FVec Ideal S25x7x7x64 .f32) : FVec Ideal S25x9x9x64 .f32 :=
  concatenate S25x9x9x64 2
    [⟨S25x9x1x64, broadcast S25x9x1x64 (Scalar.ofBits .f32 0x00000000#32)⟩,
     ⟨S25x9x7x64, concatenate S25x9x7x64 1
        [⟨S25x1x7x64, broadcast S25x1x7x64 (Scalar.ofBits .f32 0x00000000#32)⟩, ⟨S25x7x7x64, x⟩,
         ⟨S25x1x7x64, broadcast S25x1x7x64 (Scalar.ofBits .f32 0x00000000#32)⟩]
        concatenates_S25x1x7x64_S25x7x7x64_S25x1x7x64_S25x9x7x64_d1⟩,
     ⟨S25x9x1x64, broadcast S25x9x1x64 (Scalar.ofBits .f32 0x00000000#32)⟩]
    concatenates_S25x9x1x64_S25x9x7x64_S25x9x1x64_S25x9x9x64_d2

theorem padF_apply (x : FVec Ideal S25x7x7x64 .f32) (n : Fin 25) (p q : Fin 9) (c : Fin 64) :
    padF x (ix4 n p q c) = border (fun a b => x (ix4 n a b c)) p q := by
  pointwise [padF]
  rfl

/-- One shifted product of the first convolution. -/
def tapF (o : Fin 4 → Nat) (h : S25x9x9x64.Slices o S25x7x7x64)
    (xp : FVec Ideal S25x9x9x64 .f32) (w : FVec Ideal S1x1x64x256 .f32) :
    FVec Ideal S1225x256 .f32 :=
  matmul (φ₁ := .f32) (φ₂ := .f32) dot_S1225x64_S64x256_S1225x256_1_0_0_1_n_n none
    (shapeCast S1225x64 (extractStridedSlice S25x7x7x64 o xp h) shapeCasts_S25x7x7x64_S1225x64)
    (shapeCast S64x256 w shapeCasts_S1x1x64x256_S64x256) (constant S1225x256 .f32 0x00000000#32)

theorem tapF_apply (i j : Fin 3) (h : S25x9x9x64.Slices ![0, i.val, j.val, 0] S25x7x7x64)
    (xp : FVec Ideal S25x9x9x64 .f32) (w : FVec Ideal S1x1x64x256 .f32)
    (n : Fin 25) (y x : Fin 7) (o : Fin 256) :
    tapF ![0, i.val, j.val, 0] h xp w (ix2 ⟨n.val * 49 + y.val * 7 + x.val, by omega⟩ o)
      = ∑ c : Fin 64, xp (ix4 n ⟨i.val + y.val, by omega⟩ ⟨j.val + x.val, by omega⟩ c)
          * w (ix4 0 0 c o) := by
  pointwise [tapF]

/-- The first convolution, before its maximum with zero. -/
def convF (x : FVec Ideal S25x7x7x64 .f32) (w : Fin 3 → Fin 3 → FVec Ideal S1x1x64x256 .f32)
    (b : FVec Ideal S1x256 .f32) : FVec Ideal S1225x256 .f32 :=
  addf (addf (addf (addf (addf (addf (addf (addf (addf
    (tapF ![0, 0, 0, 0] slices_S25x9x9x64_o0_0_0_0_S25x7x7x64 (padF x) (w 0 0))
    (tapF ![0, 0, 1, 0] slices_S25x9x9x64_o0_0_1_0_S25x7x7x64 (padF x) (w 0 1)))
    (tapF ![0, 0, 2, 0] slices_S25x9x9x64_o0_0_2_0_S25x7x7x64 (padF x) (w 0 2)))
    (tapF ![0, 1, 0, 0] slices_S25x9x9x64_o0_1_0_0_S25x7x7x64 (padF x) (w 1 0)))
    (tapF ![0, 1, 1, 0] slices_S25x9x9x64_o0_1_1_0_S25x7x7x64 (padF x) (w 1 1)))
    (tapF ![0, 1, 2, 0] slices_S25x9x9x64_o0_1_2_0_S25x7x7x64 (padF x) (w 1 2)))
    (tapF ![0, 2, 0, 0] slices_S25x9x9x64_o0_2_0_0_S25x7x7x64 (padF x) (w 2 0)))
    (tapF ![0, 2, 1, 0] slices_S25x9x9x64_o0_2_1_0_S25x7x7x64 (padF x) (w 2 1)))
    (tapF ![0, 2, 2, 0] slices_S25x9x9x64_o0_2_2_0_S25x7x7x64 (padF x) (w 2 2)))
    (broadcastTo S1225x256 (shapeCast S1x256 b shapeCasts_S1x256_S1x256)
      broadcasts_S1x256_S1225x256)

theorem convF_apply (v : FVec Ideal S25x7x7x64 .f32)
    (w : Fin 3 → Fin 3 → FVec Ideal S1x1x64x256 .f32) (b : FVec Ideal S1x256 .f32)
    (n : Fin 25) (y x : Fin 7) (o : Fin 256) :
    convF v w b (ix2 ⟨n.val * 49 + y.val * 7 + x.val, by omega⟩ o)
      = conv9 (fun c p q => v (ix4 n p q c)) (fun i j c => w i j (ix4 0 0 c o)) y x
        + b (ix2 0 o) := by
  have t := fun i j h => tapF_apply i j h (padF v) (w i j) n y x o
  simp only [padF_apply] at t
  unfold convF conv9
  have hb : broadcastTo S1225x256 (shapeCast S1x256 b shapeCasts_S1x256_S1x256)
      broadcasts_S1x256_S1225x256 (ix2 ⟨n.val * 49 + y.val * 7 + x.val, by omega⟩ o)
      = b (ix2 0 o) := by pointwise
  simp only [addf_apply, Ideal.addf_def]
  exact congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·)
    (t 0 0 slices_S25x9x9x64_o0_0_0_0_S25x7x7x64) (t 0 1 slices_S25x9x9x64_o0_0_1_0_S25x7x7x64))
    (t 0 2 slices_S25x9x9x64_o0_0_2_0_S25x7x7x64)) (t 1 0 slices_S25x9x9x64_o0_1_0_0_S25x7x7x64))
    (t 1 1 slices_S25x9x9x64_o0_1_1_0_S25x7x7x64)) (t 1 2 slices_S25x9x9x64_o0_1_2_0_S25x7x7x64))
    (t 2 0 slices_S25x9x9x64_o0_2_0_0_S25x7x7x64)) (t 2 1 slices_S25x9x9x64_o0_2_1_0_S25x7x7x64))
    (t 2 2 slices_S25x9x9x64_o0_2_2_0_S25x7x7x64)) hb

/-- The border of zeros about a block of 7x7 images with 256 channels. -/
def padG (x : FVec Ideal S25x7x7x256 .f32) : FVec Ideal S25x9x9x256 .f32 :=
  concatenate S25x9x9x256 2
    [⟨S25x9x1x256, broadcast S25x9x1x256 (Scalar.ofBits .f32 0x00000000#32)⟩,
     ⟨S25x9x7x256, concatenate S25x9x7x256 1
        [⟨S25x1x7x256, broadcast S25x1x7x256 (Scalar.ofBits .f32 0x00000000#32)⟩, ⟨S25x7x7x256, x⟩,
         ⟨S25x1x7x256, broadcast S25x1x7x256 (Scalar.ofBits .f32 0x00000000#32)⟩]
        concatenates_S25x1x7x256_S25x7x7x256_S25x1x7x256_S25x9x7x256_d1⟩,
     ⟨S25x9x1x256, broadcast S25x9x1x256 (Scalar.ofBits .f32 0x00000000#32)⟩]
    concatenates_S25x9x1x256_S25x9x7x256_S25x9x1x256_S25x9x9x256_d2

theorem padG_apply (x : FVec Ideal S25x7x7x256 .f32) (n : Fin 25) (p q : Fin 9) (c : Fin 256) :
    padG x (ix4 n p q c) = border (fun a b => x (ix4 n a b c)) p q := by
  pointwise [padG]
  rfl

/-- One shifted product of a later convolution. -/
def tapG (o : Fin 4 → Nat) (h : S25x9x9x256.Slices o S25x7x7x256)
    (xp : FVec Ideal S25x9x9x256 .f32) (w : FVec Ideal S1x1x256x256 .f32) :
    FVec Ideal S1225x256 .f32 :=
  matmul (φ₁ := .f32) (φ₂ := .f32) dot_S1225x256_S256x256_S1225x256_1_0_0_1_n_n none
    (shapeCast S1225x256 (extractStridedSlice S25x7x7x256 o xp h) shapeCasts_S25x7x7x256_S1225x256)
    (shapeCast S256x256 w shapeCasts_S1x1x256x256_S256x256) (constant S1225x256 .f32 0x00000000#32)

theorem tapG_apply (i j : Fin 3) (h : S25x9x9x256.Slices ![0, i.val, j.val, 0] S25x7x7x256)
    (xp : FVec Ideal S25x9x9x256 .f32) (w : FVec Ideal S1x1x256x256 .f32)
    (n : Fin 25) (y x : Fin 7) (o : Fin 256) :
    tapG ![0, i.val, j.val, 0] h xp w (ix2 ⟨n.val * 49 + y.val * 7 + x.val, by omega⟩ o)
      = ∑ c : Fin 256, xp (ix4 n ⟨i.val + y.val, by omega⟩ ⟨j.val + x.val, by omega⟩ c)
          * w (ix4 0 0 c o) := by
  pointwise [tapG]

/-- A later convolution, before its maximum with zero. -/
def convG (x : FVec Ideal S25x7x7x256 .f32) (w : Fin 3 → Fin 3 → FVec Ideal S1x1x256x256 .f32)
    (b : FVec Ideal S1x256 .f32) : FVec Ideal S1225x256 .f32 :=
  addf (addf (addf (addf (addf (addf (addf (addf (addf
    (tapG ![0, 0, 0, 0] slices_S25x9x9x256_o0_0_0_0_S25x7x7x256 (padG x) (w 0 0))
    (tapG ![0, 0, 1, 0] slices_S25x9x9x256_o0_0_1_0_S25x7x7x256 (padG x) (w 0 1)))
    (tapG ![0, 0, 2, 0] slices_S25x9x9x256_o0_0_2_0_S25x7x7x256 (padG x) (w 0 2)))
    (tapG ![0, 1, 0, 0] slices_S25x9x9x256_o0_1_0_0_S25x7x7x256 (padG x) (w 1 0)))
    (tapG ![0, 1, 1, 0] slices_S25x9x9x256_o0_1_1_0_S25x7x7x256 (padG x) (w 1 1)))
    (tapG ![0, 1, 2, 0] slices_S25x9x9x256_o0_1_2_0_S25x7x7x256 (padG x) (w 1 2)))
    (tapG ![0, 2, 0, 0] slices_S25x9x9x256_o0_2_0_0_S25x7x7x256 (padG x) (w 2 0)))
    (tapG ![0, 2, 1, 0] slices_S25x9x9x256_o0_2_1_0_S25x7x7x256 (padG x) (w 2 1)))
    (tapG ![0, 2, 2, 0] slices_S25x9x9x256_o0_2_2_0_S25x7x7x256 (padG x) (w 2 2)))
    (broadcastTo S1225x256 (shapeCast S1x256 b shapeCasts_S1x256_S1x256)
      broadcasts_S1x256_S1225x256)

theorem convG_apply (v : FVec Ideal S25x7x7x256 .f32)
    (w : Fin 3 → Fin 3 → FVec Ideal S1x1x256x256 .f32) (b : FVec Ideal S1x256 .f32)
    (n : Fin 25) (y x : Fin 7) (o : Fin 256) :
    convG v w b (ix2 ⟨n.val * 49 + y.val * 7 + x.val, by omega⟩ o)
      = conv9 (fun c p q => v (ix4 n p q c)) (fun i j c => w i j (ix4 0 0 c o)) y x
        + b (ix2 0 o) := by
  have t := fun i j h => tapG_apply i j h (padG v) (w i j) n y x o
  simp only [padG_apply] at t
  unfold convG conv9
  have hb : broadcastTo S1225x256 (shapeCast S1x256 b shapeCasts_S1x256_S1x256)
      broadcasts_S1x256_S1225x256 (ix2 ⟨n.val * 49 + y.val * 7 + x.val, by omega⟩ o)
      = b (ix2 0 o) := by pointwise
  simp only [addf_apply, Ideal.addf_def]
  exact congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·)
    (t 0 0 slices_S25x9x9x256_o0_0_0_0_S25x7x7x256) (t 0 1 slices_S25x9x9x256_o0_0_1_0_S25x7x7x256))
    (t 0 2 slices_S25x9x9x256_o0_0_2_0_S25x7x7x256)) (t 1 0 slices_S25x9x9x256_o0_1_0_0_S25x7x7x256))
    (t 1 1 slices_S25x9x9x256_o0_1_1_0_S25x7x7x256)) (t 1 2 slices_S25x9x9x256_o0_1_2_0_S25x7x7x256))
    (t 2 0 slices_S25x9x9x256_o0_2_0_0_S25x7x7x256)) (t 2 1 slices_S25x9x9x256_o0_2_1_0_S25x7x7x256))
    (t 2 2 slices_S25x9x9x256_o0_2_2_0_S25x7x7x256)) hb

/-- The maximum with zero, the rows as images again. -/
def relu (v : FVec Ideal S1225x256 .f32) : FVec Ideal S25x7x7x256 .f32 :=
  shapeCast S25x7x7x256
    (maximumf v (broadcast S1225x256 (Scalar.ofBits .f32 0x00000000#32)))
    shapeCasts_S1225x256_S25x7x7x256

theorem relu_apply (v : FVec Ideal S1225x256 .f32) (n : Fin 25) (y x : Fin 7) (o : Fin 256) :
    relu v (ix4 n y x o) = max (v (ix2 ⟨n.val * 49 + y.val * 7 + x.val, by omega⟩ o)) 0 := by
  pointwise [relu]

end Cert.Head
-- ==== Proof.Interp.lean ====
module

public import proofs.«01_k».proof.Proof.Layer

@[expose] public section

set_option maxRecDepth 16384

noncomputable section

namespace Cert.Head

open Idealize.ShloMosaic Idealize.SL.Sem
open Cert.KernelIdeal Cert.KernelIdeal.Gen

/-- The `q`-th of the seven sampling coordinates between `lo` and `hi`. -/
def grid (lo hi : EReal) (q : Fin 7) : EReal :=
  lo + (FloatOps.sitofp (F := Ideal) FTy.f32 (BitVec.ofNat 32 q.val) + Ideal.ofBits FTy.f32 0x3F000000#32)
    * Ideal.div (hi - lo) (Ideal.ofBits FTy.f32 0x40E00000#32)

/-- What a coordinate exceeds its floor by. -/
def frac (g : EReal) : EReal := g - Ideal.liftRound Int.floor g

/-- The lane at or below a coordinate, kept within 0 and 127. -/
def lane0 (g : EReal) : BitVec 32 :=
  IntOp.minsi 127#32 (IntOp.maxsi 0#32
    (FloatOps.fptosi (F := Ideal) (φ := .f32) 32 (Ideal.liftRound Int.floor g)))

/-- The lane after it, kept within 0 and 127. -/
def lane1 (g : EReal) : BitVec 32 :=
  IntOp.minsi 127#32 (IntOp.maxsi 0#32 (IntOp.addi (lane0 g) 1#32))

/-- The interpolation weight of a lane. -/
def weight (g : EReal) (l : Fin 128) : EReal :=
  Scalar.select (IntOp.cmpi .eq (BitVec.ofNat 32 l.val) (lane0 g)) (1 - frac g) 0
    + Scalar.select (IntOp.cmpi .eq (BitVec.ofNat 32 l.val) (lane1 g)) (frac g) 0

theorem clamp_toNat (w : BitVec 32) :
    (IntOp.minsi 127#32 (IntOp.maxsi 0#32 w)).toNat < 128 := by
  simp only [IntOp.minsi, IntOp.maxsi]
  split_ifs <;> simp_all [BitVec.sle, BitVec.slt, BitVec.toInt_eq_toNat_cond] <;> omega

/-- The lane at or below a coordinate, as a place of an axis of extent 128. -/
def at0 (g : EReal) : Fin 128 := ⟨(lane0 g).toNat, clamp_toNat _⟩

/-- The lane after it. -/
def at1 (g : EReal) : Fin 128 := ⟨(lane1 g).toNat, clamp_toNat _⟩

theorem half_eq : Ideal.ofBits FTy.f32 0x3F000000#32 = ((1 / 2 : ℝ) : EReal) := by
  simp [Ideal.ofBits, Ideal.ieee]
  norm_num
  rw [← EReal.coe_mul]
  norm_num

theorem seven_eq : Ideal.ofBits FTy.f32 0x40E00000#32 = ((7 : ℝ) : EReal) := by
  simp [Ideal.ofBits, Ideal.ieee]
  norm_num
  rw [← EReal.coe_mul]
  norm_num

/-- Between finite ends the coordinates are finite. -/
theorem grid_finite (lo hi : ℝ) (q : Fin 7) : ∃ r : ℝ, grid lo hi q = (r : EReal) := by
  refine ⟨lo + (((BitVec.ofNat 32 q.val).toInt : ℝ) + 1 / 2) * ((hi - lo) * (7 : ℝ)⁻¹), ?_⟩
  have h7 : ((7 : ℝ) : EReal) ≠ 0 := by norm_num
  unfold grid
  rw [half_eq, seven_eq, Ideal.div, if_neg h7]
  rfl

theorem frac_real (r : ℝ) : frac (r : EReal) = ((Int.fract r : ℝ) : EReal) := rfl

theorem select_lane (l : Fin 128) (w : BitVec 32) (h : w.toNat < 128) (a : EReal) :
    Scalar.select (IntOp.cmpi .eq (BitVec.ofNat 32 l.val) w) a 0
      = if l = (⟨w.toNat, h⟩ : Fin 128) then a else 0 := by
  have e : (BitVec.ofNat 32 l.val = w) ↔ l = (⟨w.toNat, h⟩ : Fin 128) := by
    constructor
    · intro hw
      apply Fin.ext
      subst hw
      simp
      omega
    · intro hl
      subst hl
      apply BitVec.eq_of_toNat_eq
      simp
  by_cases hl : l = (⟨w.toNat, h⟩ : Fin 128)
  · rw [if_pos hl]
    simp [Scalar.select, IntOp.cmpi, e.2 hl]
  · rw [if_neg hl]
    have : ¬ BitVec.ofNat 32 l.val = w := fun hw => hl (e.1 hw)
    have hb : (BitVec.ofNat 32 l.val == w) = false := by simpa using this
    simp only [Scalar.select, IntOp.cmpi, hb]
    rfl

/-- A sum over the lanes against two one-lane masks is two terms. -/
theorem sum_two (i j : Fin 128) (a b : EReal) (ha : 0 ≤ a) (hb : 0 ≤ b) (h : Fin 128 → EReal) :
    ∑ l, h l * ((if l = i then a else 0) + (if l = j then b else 0)) = h i * a + h j * b := by
  have e : ∀ l, h l * ((if l = i then a else 0) + (if l = j then b else 0))
      = (if l = i then h l * a else 0) + (if l = j then h l * b else 0) := by
    intro l
    rw [EReal.left_distrib_of_nonneg (by split_ifs <;> simp [ha]) (by split_ifs <;> simp [hb])]
    congr 1 <;> split_ifs <;> simp
  rw [Finset.sum_congr rfl fun l _ => e l, Finset.sum_add_distrib]
  simp

theorem one_sub_frac (r : ℝ) : (1 : EReal) - frac r = ((1 - Int.fract r : ℝ) : EReal) := rfl

theorem one_sub_frac_nonneg (r : ℝ) : (0 : EReal) ≤ 1 - frac r := by
  rw [one_sub_frac, EReal.coe_nonneg]; linarith [Int.fract_lt_one r]

theorem frac_nonneg (r : ℝ) : (0 : EReal) ≤ frac r := by
  rw [frac_real, EReal.coe_nonneg]; exact Int.fract_nonneg r

/-- A sum over the lanes against the weights of a finite coordinate is two terms. -/
theorem sum_weight (r : ℝ) (h : Fin 128 → EReal) :
    ∑ l, h l * weight (r : EReal) l = h (at0 r) * (1 - frac r) + h (at1 r) * frac r := by
  rw [← sum_two _ _ _ _ (one_sub_frac_nonneg r) (frac_nonneg r) h]
  refine Finset.sum_congr rfl fun l _ => ?_
  rw [weight, select_lane l (lane0 r) (clamp_toNat _) (1 - frac r),
    select_lane l (lane1 r) (clamp_toNat _) (frac r)]
  rfl

theorem sum_weight' (r : ℝ) (h : Fin 128 → EReal) :
    ∑ l, weight (r : EReal) l * h l
      = h (at0 r) * (1 - frac r) + h (at1 r) * frac r := by
  rw [← sum_weight]
  exact Finset.sum_congr rfl fun l _ => mul_comm _ _

/-- The bilinear value at a pair of coordinates, as four products. -/
def bilinear (f : Fin 128 → Fin 128 → EReal) (gy gx : EReal) : EReal :=
  f (at0 gy) (at0 gx) * (1 - frac gx) * (1 - frac gy) + f (at0 gy) (at1 gx) * frac gx * (1 - frac gy)
    + f (at1 gy) (at0 gx) * (1 - frac gx) * frac gy + f (at1 gy) (at1 gx) * frac gx * frac gy

/-- Two products by interpolation matrices are the bilinear value. -/
theorem sum_sum_weight (f : Fin 128 → Fin 128 → EReal) (gy gx : ℝ) :
    ∑ x, (∑ y, weight (gy : EReal) y * f y x) * weight (gx : EReal) x
      = bilinear f gy gx := by
  rw [Finset.sum_congr rfl fun x _ => by rw [sum_weight' gy fun y => f y x], sum_weight]
  unfold bilinear
  rw [EReal.right_distrib_of_nonneg_of_ne_top (one_sub_frac_nonneg gx) (by rw [one_sub_frac]; exact EReal.coe_ne_top _),
    EReal.right_distrib_of_nonneg_of_ne_top (frac_nonneg gx) (by rw [frac_real]; exact EReal.coe_ne_top _)]
  generalize (1 : EReal) - frac gx = a
  generalize (1 : EReal) - frac gy = b
  generalize frac gx = c
  generalize frac gy = d
  generalize f _ _ = f1
  generalize f _ _ = f2
  generalize f _ _ = f3
  generalize f _ _ = f4
  rw [mul_right_comm f1 b a, mul_right_comm f2 d a, mul_right_comm f3 b c, mul_right_comm f4 d c]
  ac_rfl

end Cert.Head
-- ==== Proof.Block.lean ====
module

public import proofs.«01_k».proof.Proof.Interp
public import Idealize.ShloMosaic.Lib.Pipeline.ValueKit

@[expose] public section

set_option maxRecDepth 16384

noncomputable section

namespace Cert.Head

open Idealize.ShloMosaic Idealize.SL.Sem
open Cert.KernelIdeal Cert.KernelIdeal.Gen

/-! ## What is computed for one box, on plain functions -/

/-- The seven-by-seven bilinear samples of each feature channel inside a box. -/
def feats (box : Fin 4 → EReal) (f : Fin 64 → Fin 128 → Fin 128 → EReal) :
    Fin 64 → Fin 7 → Fin 7 → EReal := fun c y x =>
  bilinear (f c) (grid (box 1) (box 3) y) (grid (box 0) (box 2) x)

/-- One convolution layer: the 3x3 window, the bias, the maximum with zero. -/
def layer {C : Nat} (f : Fin C → Fin 7 → Fin 7 → EReal) (w : Fin 3 → Fin 3 → Fin C → Fin 256 → EReal)
    (b : Fin 256 → EReal) : Fin 256 → Fin 7 → Fin 7 → EReal := fun o y x =>
  max (conv9 f (fun i j c => w i j c o) y x + b o) 0

/-- The transposed convolution's tap and the 1x1 convolution after it, at one output. -/
def headOf (z : Fin 256 → EReal) (wd : Fin 256 → Fin 256 → EReal) (bd : Fin 256 → EReal)
    (wo : Fin 256 → EReal) (bo : EReal) : EReal :=
  (∑ o, ((∑ c, z c * wd c o) + bd o) * wo o) + bo

/-! ## The block's samples -/

/-- The samples of a block's boxes: two products by interpolation matrices. -/
def roi (wx : FVec Ideal S25x7x128 .f32) (wy : FVec Ideal S175x128 .f32)
    (f : FVec Ideal S128x8192 .f32) : FVec Ideal S25x7x7x64 .f32 :=
  transpose S25x7x7x64 [0, 1, 3, 2]
    (shapeCast S25x7x64x7
      (matmul (φ₁ := .f32) (φ₂ := .f32) dot_S25x448x128_S25x7x128_S25x448x7_2_2_1_1_0_0 none
        (shapeCast S25x448x128
          (matmul (φ₁ := .f32) (φ₂ := .f32) dot_S175x128_S128x8192_S175x8192_1_0_0_1_n_n none wy
            (shapeCast S128x8192 f shapeCasts_S128x8192_S128x8192)
            (constant S175x8192 .f32 0x00000000#32)) shapeCasts_S175x8192_S25x448x128)
        wx (constant S25x448x7 .f32 0x00000000#32)) shapeCasts_S25x448x7_S25x7x64x7)
    transposes_S25x7x64x7_p0_1_3_2_S25x7x7x64

theorem roi_apply (wx : FVec Ideal S25x7x128 .f32) (wy : FVec Ideal S175x128 .f32)
    (f : FVec Ideal S128x8192 .f32) (n : Fin 25) (y x : Fin 7) (c : Fin 64) :
    roi wx wy f (ix4 n y x c)
      = ∑ l : Fin 128, (∑ k : Fin 128, wy (ix2 ⟨n.val * 7 + y.val, by omega⟩ k)
          * f (ix2 k ⟨c.val * 128 + l.val, by omega⟩)) * wx (ix3 n x l) := by
  pointwise [roi]
  refine Finset.sum_congr rfl fun l _ => congrArg (· * _) (Finset.sum_congr rfl fun k _ => ?_)
  congr 3 <;> (apply Fin.ext; dsimp only; omega)

/-- The matrix of weights along the lanes. -/
def matX (v : Vec Ideal S1x25x4 .f32) : FVec Ideal S25x7x128 .f32 := k0_pay12 (k0_pay4 v)

/-- The matrix of weights along the rows. -/
def matY (v : Vec Ideal S1x25x4 .f32) : FVec Ideal S175x128 .f32 :=
  k0_pay13 (k0_pay7 v) (k0_pay9 v) (iota .tc S25x7x128 32 [2] iota_S25x7x128_d2_w32) (k0_pay10 v)
    (k0_pay11 v)

theorem matX_apply (v : Vec Ideal S1x25x4 .f32) (n : Fin 25) (q : Fin 7) (l : Fin 128) :
    matX v (ix3 n q l) = weight (grid (v (ix3 0 n 0)) (v (ix3 0 n 2)) q) l := by
  pointwise [matX, k0_pay12, k0_pay4, k0_pay2, k0_pay3]
  rfl

theorem matY_apply (v : Vec Ideal S1x25x4 .f32) (n : Fin 25) (q : Fin 7) (l : Fin 128) :
    matY v (ix2 ⟨n.val * 7 + q.val, by omega⟩ l)
      = weight (grid (v (ix3 0 n 1)) (v (ix3 0 n 3)) q) l := by
  pointwise [matY, k0_pay13, k0_pay2, k0_pay3, k0_pay5, k0_pay6, k0_pay7, k0_pay8, k0_pay9,
    k0_pay10, k0_pay11]
  rfl

/-- At a finite box the samples are the bilinear ones. -/
theorem roi_eq (v : Vec Ideal S1x25x4 .f32) (f : FVec Ideal S128x8192 .f32) (n : Fin 25)
    (hv : ∀ k : Fin 4, ∃ r : ℝ, v (ix3 0 n k) = (r : EReal)) (y x : Fin 7) (c : Fin 64) :
    roi (matX v) (matY v) f (ix4 n y x c)
      = feats (fun k => v (ix3 0 n k)) (fun c a b => f (ix2 a ⟨c.val * 128 + b.val, by omega⟩))
          c y x := by
  obtain ⟨r0, h0⟩ := hv 0
  obtain ⟨r1, h1⟩ := hv 1
  obtain ⟨r2, h2⟩ := hv 2
  obtain ⟨r3, h3⟩ := hv 3
  obtain ⟨gx, hx⟩ := grid_finite r0 r2 x
  obtain ⟨gy, hy⟩ := grid_finite r1 r3 y
  rw [roi_apply]
  simp only [matX_apply, matY_apply]
  simp only [feats, h0, h1, h2, h3, hx, hy]
  exact sum_sum_weight (fun a b => f (ix2 a ⟨c.val * 128 + b.val, by omega⟩)) gy gx

/-! ## The taps as they are loaded -/

/-- The nine taps of the first convolution. -/
def tapsF (w : Vec Ideal S3x3x64x256 .f32) : Fin 3 → Fin 3 → FVec Ideal S1x1x64x256 .f32
  | 0, 0 => View.ld w r0_2 | 0, 1 => View.ld w r0_3 | 0, 2 => View.ld w r0_4
  | 1, 0 => View.ld w r0_5 | 1, 1 => View.ld w r0_6 | 1, 2 => View.ld w r0_7
  | 2, 0 => View.ld w r0_8 | 2, 1 => View.ld w r0_9 | 2, 2 => View.ld w r0_10

/-- The nine taps of a later convolution. -/
def tapsG (w : Vec Ideal S3x3x256x256 .f32) : Fin 3 → Fin 3 → FVec Ideal S1x1x256x256 .f32
  | 0, 0 => View.ld w r0_12 | 0, 1 => View.ld w r0_13 | 0, 2 => View.ld w r0_14
  | 1, 0 => View.ld w r0_15 | 1, 1 => View.ld w r0_16 | 1, 2 => View.ld w r0_17
  | 2, 0 => View.ld w r0_18 | 2, 1 => View.ld w r0_19 | 2, 2 => View.ld w r0_20

/-- The four taps of a transposed convolution. -/
def tapsD (w : Vec Ideal S2x2x256x256 .f32) : Fin 2 → Fin 2 → FVec Ideal S1x1x256x256 .f32
  | 0, 0 => View.ld w r0_21 | 0, 1 => View.ld w r0_28
  | 1, 0 => View.ld w r0_31 | 1, 1 => View.ld w r0_34

theorem tapsF_apply (w : Vec Ideal S3x3x64x256 .f32) (i j : Fin 3) (c : Fin 64) (o : Fin 256) :
    tapsF w i j (ix4 0 0 c o) = w (ix4 i j c o) := by
  fin_cases i <;> fin_cases j <;> (simp only [tapsF]; pointwise; try rfl)

theorem tapsG_apply (w : Vec Ideal S3x3x256x256 .f32) (i j : Fin 3) (c : Fin 256) (o : Fin 256) :
    tapsG w i j (ix4 0 0 c o) = w (ix4 i j c o) := by
  fin_cases i <;> fin_cases j <;> (simp only [tapsG]; pointwise; try rfl)

theorem tapsD_apply (w : Vec Ideal S2x2x256x256 .f32) (i j : Fin 2) (c : Fin 256) (o : Fin 256) :
    tapsD w i j (ix4 0 0 c o) = w (ix4 i j c o) := by
  fin_cases i <;> fin_cases j <;> (simp only [tapsD]; pointwise; try rfl)

/-! ## The layers of a block -/

section
variable (x0 : Vec Ideal S1x25x4 .f32)
  (x1 : Vec Ideal S128x8192 .f32)
  (x2 : Vec Ideal S3x3x64x256 .f32)
  (x3 : Vec Ideal S1x256 .f32)
  (x4 : Vec Ideal S3x3x256x256 .f32)
  (x5 : Vec Ideal S1x256 .f32)
  (x6 : Vec Ideal S3x3x256x256 .f32)
  (x7 : Vec Ideal S1x256 .f32)
  (x8 : Vec Ideal S3x3x256x256 .f32)
  (x9 : Vec Ideal S1x256 .f32)
  (x10 : Vec Ideal S2x2x256x256 .f32)
  (x11 : Vec Ideal S1x256 .f32)
  (x12 : Vec Ideal S256x1 .f32)
  (x13 : Vec Ideal S1x1 .f32)
  (x14 : Vec Ideal S2x2x256x256 .f32)
  (x15 : Vec Ideal S1x256 .f32)
  (x16 : Vec Ideal S256x2 .f32)
  (x17 : Vec Ideal S1x2 .f32)

/-- The images after the first convolution of a block. -/
def img1 : FVec Ideal S25x7x7x256 .f32 :=
  relu (convF (roi (matX (View.ld x0 r0_0)) (matY (View.ld x0 r0_0)) (View.ld x1 r0_1)) (tapsF x2)
    (View.ld x3 r0_11))

/-- The images after one more convolution. -/
def imgNext (v : FVec Ideal S25x7x7x256 .f32) (w : Vec Ideal S3x3x256x256 .f32)
    (b : Vec Ideal S1x256 .f32) : FVec Ideal S25x7x7x256 .f32 :=
  relu (convG v (tapsG w) (View.ld b r0_11))

/-- The images after the fourth convolution. -/
def img4 : FVec Ideal S25x7x7x256 .f32 :=
  imgNext (imgNext (imgNext (img1 x0 x1 x2 x3) x4 x5) x6 x7) x8 x9

/-- The fourth images as rows. -/
def rows4 : FVec Ideal S1225x256 .f32 :=
  shapeCast S1225x256 (img4 x0 x1 x2 x3 x4 x5 x6 x7 x8 x9) shapeCasts_S25x7x7x256_S1225x256

theorem pay55_eq : k0_pay55 x0 x1 x2 x3 x4 x5 x6 x7 x8 x9 x10 x11 x12 x13 x14 x15 x16 x17 = rows4 x0 x1 x2 x3 x4 x5 x6 x7 x8 x9 := rfl

/-- One output tap of the one-channel head. -/
def hm (i j : Fin 2) : FVec Ideal S25x1x7x7 .f32 :=
  k0_pay35 (rows4 x0 x1 x2 x3 x4 x5 x6 x7 x8 x9) (tapsD x10 i j) (View.ld x11 r0_11) (View.ld x12 r0_22) (View.ld x13 r0_23)

/-- One output tap of the two-channel head. -/
def wh (i j : Fin 2) : FVec Ideal S25x1x7x7x2 .f32 :=
  k0_pay34 (rows4 x0 x1 x2 x3 x4 x5 x6 x7 x8 x9) (tapsD x14 i j) (View.ld x15 r0_11) (View.ld x16 r0_25) (View.ld x17 r0_26)

theorem out18_eq : out0_18 x0 x1 x2 x3 x4 x5 x6 x7 x8 x9 x10 x11 x12 x13 x14 x15 x16 x17 = View.canon
    [⟨r0_35, hm x0 x1 x2 x3 x4 x5 x6 x7 x8 x9 x10 x11 x12 x13 1 1⟩, ⟨r0_32, hm x0 x1 x2 x3 x4 x5 x6 x7 x8 x9 x10 x11 x12 x13 1 0⟩,
     ⟨r0_29, hm x0 x1 x2 x3 x4 x5 x6 x7 x8 x9 x10 x11 x12 x13 0 1⟩, ⟨r0_24, hm x0 x1 x2 x3 x4 x5 x6 x7 x8 x9 x10 x11 x12 x13 0 0⟩] := rfl

theorem out19_eq : out0_19 x0 x1 x2 x3 x4 x5 x6 x7 x8 x9 x10 x11 x12 x13 x14 x15 x16 x17 = View.canon
    [⟨r0_36, wh x0 x1 x2 x3 x4 x5 x6 x7 x8 x9 x14 x15 x16 x17 1 1⟩, ⟨r0_33, wh x0 x1 x2 x3 x4 x5 x6 x7 x8 x9 x14 x15 x16 x17 1 0⟩,
     ⟨r0_30, wh x0 x1 x2 x3 x4 x5 x6 x7 x8 x9 x14 x15 x16 x17 0 1⟩, ⟨r0_27, wh x0 x1 x2 x3 x4 x5 x6 x7 x8 x9 x14 x15 x16 x17 0 0⟩] := rfl

theorem img1_apply (n : Fin 25) (hv : ∀ k : Fin 4, ∃ r : ℝ, x0 (ix3 0 n k) = (r : EReal))
    (y x : Fin 7) (o : Fin 256) :
    img1 x0 x1 x2 x3 (ix4 n y x o)
      = layer (feats (fun k => x0 (ix3 0 n k))
          (fun c a b => x1 (ix2 a ⟨c.val * 128 + b.val, by omega⟩)))
          (fun i j c o => x2 (ix4 i j c o)) (fun o => x3 (ix2 0 o)) o y x := by
  have e0 : ∀ k : Fin 4, View.ld x0 r0_0 (ix3 0 n k) = x0 (ix3 0 n k) := fun k => by pointwise
  have e1 : ∀ (a : Fin 128) (b : Fin 8192), View.ld x1 r0_1 (ix2 a b) = x1 (ix2 a b) :=
    fun a b => by pointwise
  have e3 : View.ld x3 r0_11 (ix2 0 o) = x3 (ix2 0 o) := by pointwise
  have hr := fun y x c => roi_eq (View.ld x0 r0_0) (View.ld x1 r0_1) n
    (fun k => by rw [e0]; exact hv k) y x c
  simp only [e0, e1] at hr
  rw [img1, relu_apply, convF_apply]
  simp only [hr, tapsF_apply, e3]
  rfl

theorem imgNext_apply (v : FVec Ideal S25x7x7x256 .f32) (w : Vec Ideal S3x3x256x256 .f32)
    (b : Vec Ideal S1x256 .f32) (n : Fin 25) (y x : Fin 7) (o : Fin 256) :
    imgNext v w b (ix4 n y x o)
      = layer (fun c y x => v (ix4 n y x c)) (fun i j c o => w (ix4 i j c o))
          (fun o => b (ix2 0 o)) o y x := by
  have e3 : View.ld b r0_11 (ix2 0 o) = b (ix2 0 o) := by pointwise
  rw [imgNext, relu_apply, convG_apply]
  simp only [tapsG_apply, e3]
  rfl

/-- The images of one box after the four layers. -/
def stem (box : Fin 4 → EReal) (f : Fin 64 → Fin 128 → Fin 128 → EReal)
    (w1 : Fin 3 → Fin 3 → Fin 64 → Fin 256 → EReal) (b1 : Fin 256 → EReal)
    (w2 : Fin 3 → Fin 3 → Fin 256 → Fin 256 → EReal) (b2 : Fin 256 → EReal)
    (w3 : Fin 3 → Fin 3 → Fin 256 → Fin 256 → EReal) (b3 : Fin 256 → EReal)
    (w4 : Fin 3 → Fin 3 → Fin 256 → Fin 256 → EReal) (b4 : Fin 256 → EReal) :
    Fin 256 → Fin 7 → Fin 7 → EReal :=
  layer (layer (layer (layer (feats box f) w1 b1) w2 b2) w3 b3) w4 b4

theorem img4_apply (n : Fin 25) (hv : ∀ k : Fin 4, ∃ r : ℝ, x0 (ix3 0 n k) = (r : EReal))
    (y x : Fin 7) (o : Fin 256) :
    img4 x0 x1 x2 x3 x4 x5 x6 x7 x8 x9 (ix4 n y x o)
      = stem (fun k => x0 (ix3 0 n k))
          (fun c a b => x1 (ix2 a ⟨c.val * 128 + b.val, by omega⟩))
          (fun i j c o => x2 (ix4 i j c o)) (fun o => x3 (ix2 0 o))
          (fun i j c o => x4 (ix4 i j c o)) (fun o => x5 (ix2 0 o))
          (fun i j c o => x6 (ix4 i j c o)) (fun o => x7 (ix2 0 o))
          (fun i j c o => x8 (ix4 i j c o)) (fun o => x9 (ix2 0 o)) o y x := by
  rw [img4, imgNext_apply]
  simp only [imgNext_apply, img1_apply x0 x1 x2 x3 n hv]
  rfl

theorem hm_apply (i j : Fin 2) (n : Fin 25) (y x : Fin 7) :
    hm x0 x1 x2 x3 x4 x5 x6 x7 x8 x9 x10 x11 x12 x13 i j (ix4 n 0 y x)
      = headOf (fun c => img4 x0 x1 x2 x3 x4 x5 x6 x7 x8 x9 (ix4 n y x c)) (fun c o => x10 (ix4 i j c o))
          (fun o => x11 (ix2 0 o)) (fun o => x12 (ix2 o 0)) (x13 (ix2 0 0)) := by
  have hd := tapsD_apply x10 i j
  unfold hm
  generalize tapsD x10 i j = w at hd ⊢
  pointwise [rows4, k0_pay35]
  simp only [hd]
  rfl

theorem wh_apply (i j : Fin 2) (n : Fin 25) (y x : Fin 7) (k : Fin 2) :
    wh x0 x1 x2 x3 x4 x5 x6 x7 x8 x9 x14 x15 x16 x17 i j (ix5 n 0 y x k)
      = headOf (fun c => img4 x0 x1 x2 x3 x4 x5 x6 x7 x8 x9 (ix4 n y x c)) (fun c o => x14 (ix4 i j c o))
          (fun o => x15 (ix2 0 o)) (fun o => x16 (ix2 o k)) (x17 (ix2 0 k)) := by
  have hd := tapsD_apply x14 i j
  unfold wh
  generalize tapsD x14 i j = w at hd ⊢
  pointwise [rows4, k0_pay34]
  simp only [hd]
  rfl

theorem piece4 (T : Fin 2 → Fin 2 → FVec Ideal S25x1x7x7 .f32) (a b i j : Fin 2) (n : Fin 25)
    (y x : Fin 7) (p : S25x1x7x7.Idx) (h0 : n.val = (p 0).val)
    (h1 : i.val * 2 + j.val = a.val * 2 + b.val) (h2 : y.val = (p 2).val) (h3 : x.val = (p 3).val) :
    T a b p = T i j (ix4 n 0 y x) := by
  have hi : i = a := by apply Fin.ext; omega
  have hj : j = b := by apply Fin.ext; omega
  subst hi hj
  idx_vars p
  obtain rfl : n = _ := Fin.ext h0
  obtain rfl : y = _ := Fin.ext h2
  obtain rfl : x = _ := Fin.ext h3
  rw [Subsingleton.elim p1 0]

theorem piece5 (T : Fin 2 → Fin 2 → FVec Ideal S25x1x7x7x2 .f32) (a b i j : Fin 2) (n : Fin 25)
    (y x : Fin 7) (k : Fin 2) (p : S25x1x7x7x2.Idx) (h0 : n.val = (p 0).val)
    (h1 : i.val * 2 + j.val = a.val * 2 + b.val) (h2 : y.val = (p 2).val) (h3 : x.val = (p 3).val)
    (h4 : k.val = (p 4).val) :
    T a b p = T i j (ix5 n 0 y x k) := by
  have hi : i = a := by apply Fin.ext; omega
  have hj : j = b := by apply Fin.ext; omega
  subst hi hj
  idx_vars p
  obtain rfl : n = _ := Fin.ext h0
  obtain rfl : y = _ := Fin.ext h2
  obtain rfl : x = _ := Fin.ext h3
  obtain rfl : k = _ := Fin.ext h4
  rw [Subsingleton.elim p1 0]

/-- The one-channel output of a block. -/
theorem out18_apply (n : Fin 25) (i j : Fin 2) (y x : Fin 7) :
    out0_18 x0 x1 x2 x3 x4 x5 x6 x7 x8 x9 x10 x11 x12 x13 x14 x15 x16 x17 (ix4 n ⟨i.val * 2 + j.val, by omega⟩ y x)
      = headOf (fun c => img4 x0 x1 x2 x3 x4 x5 x6 x7 x8 x9 (ix4 n y x c)) (fun c o => x10 (ix4 i j c o))
          (fun o => x11 (ix2 0 o)) (fun o => x12 (ix2 o 0)) (x13 (ix2 0 0)) := by
  rw [out18_eq, ← hm_apply]
  generalize hT : hm x0 x1 x2 x3 x4 x5 x6 x7 x8 x9 x10 x11 x12 x13 = T
  clear hT
  canon_tiles p h
  · exact piece4 T 1 1 i j n y x p h0 (h1.trans (by simp)) h2 h3
  · exact piece4 T 1 0 i j n y x p h0 (h1.trans (by simp)) h2 h3
  · exact piece4 T 0 1 i j n y x p h0 (h1.trans (by simp)) h2 h3
  · exact piece4 T 0 0 i j n y x p h0 (h1.trans (by simp)) h2 h3

/-- The two-channel output of a block. -/
theorem out19_apply (n : Fin 25) (i j : Fin 2) (y x : Fin 7) (k : Fin 2) :
    out0_19 x0 x1 x2 x3 x4 x5 x6 x7 x8 x9 x10 x11 x12 x13 x14 x15 x16 x17 (ix5 n ⟨i.val * 2 + j.val, by omega⟩ y x k)
      = headOf (fun c => img4 x0 x1 x2 x3 x4 x5 x6 x7 x8 x9 (ix4 n y x c)) (fun c o => x14 (ix4 i j c o))
          (fun o => x15 (ix2 0 o)) (fun o => x16 (ix2 o k)) (x17 (ix2 0 k)) := by
  rw [out19_eq, ← wh_apply]
  generalize hT : wh x0 x1 x2 x3 x4 x5 x6 x7 x8 x9 x14 x15 x16 x17 = T
  clear hT
  canon_tiles p h
  · exact piece5 T 1 1 i j n y x k p h0 (h1.trans (by simp)) h2 h3 h4
  · exact piece5 T 1 0 i j n y x k p h0 (h1.trans (by simp)) h2 h3 h4
  · exact piece5 T 0 1 i j n y x k p h0 (h1.trans (by simp)) h2 h3 h4
  · exact piece5 T 0 0 i j n y x k p h0 (h1.trans (by simp)) h2 h3 h4

end

end Cert.Head
-- ==== Proof.Spec.lean ====
module

public import proofs.«01_k».proof.Proof.Block

@[expose] public section

set_option maxRecDepth 16384

noncomputable section

namespace Cert.Head

open Idealize.ShloMosaic Idealize.SL.Sem
open Cert.KernelIdeal

/-! ## What both programs compute, by the arguments' coordinates -/

section
variable (a0 : S100x6.Idx → EReal) (a1 : S1x64x128x128.Idx → EReal)
  (a2 : S256x64x3x3.Idx → EReal) (a3 : S256.Idx → EReal)
  (a4 : S256x256x3x3.Idx → EReal) (a5 : S256.Idx → EReal)
  (a6 : S256x256x3x3.Idx → EReal) (a7 : S256.Idx → EReal)
  (a8 : S256x256x3x3.Idx → EReal) (a9 : S256.Idx → EReal)

/-- Box `n`'s image after the four layers. -/
def stemA (n : Fin 100) : Fin 256 → Fin 7 → Fin 7 → EReal :=
  stem (fun k => a0 (ix2 n ⟨k.val, by omega⟩)) (fun c a b => a1 (ix4 0 c a b))
    (fun i j c o => a2 (ix4 o c i j)) (fun o => a3 (ix1 o))
    (fun i j c o => a4 (ix4 o c i j)) (fun o => a5 (ix1 o))
    (fun i j c o => a6 (ix4 o c i j)) (fun o => a7 (ix1 o))
    (fun i j c o => a8 (ix4 o c i j)) (fun o => a9 (ix1 o))

/-- An element of the heat map of box `n`: that at row `2 * y + i`, lane `2 * x + j`. -/
def heatA (wd : S256x256x2x2.Idx → EReal) (bd : S256.Idx → EReal) (wo : S1x256x1x1.Idx → EReal)
    (bo : S1.Idx → EReal) (n : Fin 100) (i j : Fin 2) (y x : Fin 7) : EReal :=
  headOf (fun c => stemA a0 a1 a2 a3 a4 a5 a6 a7 a8 a9 n c y x) (fun c o => wd (ix4 o c i.rev j.rev))
    (fun o => bd (ix1 o)) (fun o => wo (ix4 0 o 0 0)) (bo (ix1 0))

/-- An element of map `k` of the sizes of box `n`: that at row `2 * y + i`, lane `2 * x + j`. -/
def sizeA (wd : S256x256x2x2.Idx → EReal) (bd : S256.Idx → EReal) (wo : S2x256x1x1.Idx → EReal)
    (bo : S2.Idx → EReal) (n : Fin 100) (k : Fin 2) (i j : Fin 2) (y x : Fin 7) : EReal :=
  headOf (fun c => stemA a0 a1 a2 a3 a4 a5 a6 a7 a8 a9 n c y x) (fun c o => wd (ix4 o c i.rev j.rev))
    (fun o => bd (ix1 o)) (fun o => wo (ix4 k o 0 0)) (bo (ix1 k))

end

end Cert.Head
-- ==== Proof.Entry.lean ====
module

public import proofs.«01_k».proof.Proof.Spec
public import Idealize.ShloMosaic.Lib.Pipeline.FrameTail
public import Idealize.ShloMosaic.Lib.Tactic.CleanTypes

@[expose] public section

set_option maxRecDepth 16384

noncomputable section

namespace Cert.Head

open Idealize.ShloMosaic Idealize.ShloMosaic.TcCoe Idealize.SL.Sem
open Cert.KernelIdeal Cert.KernelIdeal.Gen

variable (m : (ℓ : Loc nD τ sig) → Buf (Elt Ideal) ℓ)

/-! ## The arrays the launch finds, of the arguments -/

theorem entry_v2 (c : Dev nD) : V m c main_v2 = shapeCast S128x8192 (transpose S128x64x128 [1, 0, 2] (shapeCast S64x128x128 (m ((c : Thread nD τ).loc main_arg1)) shapeCasts_S1x64x128x128_S64x128x128) transposes_S64x128x128_S128x64x128_1_0_2) shapeCasts_S128x64x128_S128x8192 := by
  simp only [V, V0, hostOps0, hostOps0_1, hostOps0_2, hostOps0_3, hostOps0_4, List.flatten_cons, List.flatten_nil,
    List.append_nil, List.cons_append, List.nil_append]
  after_results
  try rfl

theorem entry_v4 (c : Dev nD) : V m c main_v4 = shapeCast S4x25x4 (extractStridedSlice S100x4 ![0, 0] (m ((c : Thread nD τ).loc main_arg0)) slices_S100x6_S100x4_0_0) shapeCasts_S100x4_S4x25x4 := by
  simp only [V, V0, hostOps0, hostOps0_1, hostOps0_2, hostOps0_3, hostOps0_4, List.flatten_cons, List.flatten_nil,
    List.append_nil, List.cons_append, List.nil_append]
  after_results
  try rfl

theorem entry_v5 (c : Dev nD) : V m c main_v5 = transpose S3x3x64x256 [2, 3, 1, 0] (m ((c : Thread nD τ).loc main_arg2)) transposes_S256x64x3x3_S3x3x64x256_2_3_1_0 := by
  simp only [V, V0, hostOps0, hostOps0_1, hostOps0_2, hostOps0_3, hostOps0_4, List.flatten_cons, List.flatten_nil,
    List.append_nil, List.cons_append, List.nil_append]
  after_results
  try rfl

theorem entry_v6 (c : Dev nD) : V m c main_v6 = transpose S3x3x256x256 [2, 3, 1, 0] (m ((c : Thread nD τ).loc main_arg4)) transposes_S256x256x3x3_S3x3x256x256_2_3_1_0 := by
  simp only [V, V0, hostOps0, hostOps0_1, hostOps0_2, hostOps0_3, hostOps0_4, List.flatten_cons, List.flatten_nil,
    List.append_nil, List.cons_append, List.nil_append]
  after_results
  try rfl

theorem entry_v7 (c : Dev nD) : V m c main_v7 = transpose S3x3x256x256 [2, 3, 1, 0] (m ((c : Thread nD τ).loc main_arg6)) transposes_S256x256x3x3_S3x3x256x256_2_3_1_0 := by
  simp only [V, V0, hostOps0, hostOps0_1, hostOps0_2, hostOps0_3, hostOps0_4, List.flatten_cons, List.flatten_nil,
    List.append_nil, List.cons_append, List.nil_append]
  after_results
  try rfl

theorem entry_v8 (c : Dev nD) : V m c main_v8 = transpose S3x3x256x256 [2, 3, 1, 0] (m ((c : Thread nD τ).loc main_arg8)) transposes_S256x256x3x3_S3x3x256x256_2_3_1_0 := by
  simp only [V, V0, hostOps0, hostOps0_1, hostOps0_2, hostOps0_3, hostOps0_4, List.flatten_cons, List.flatten_nil,
    List.append_nil, List.cons_append, List.nil_append]
  after_results
  try rfl

theorem entry_v10 (c : Dev nD) : V m c main_v10 = Host.reverse [0, 1] (transpose S2x2x256x256 [2, 3, 1, 0] (m ((c : Thread nD τ).loc main_arg10)) transposes_S256x256x2x2_S2x2x256x256_2_3_1_0) := by
  simp only [V, V0, hostOps0, hostOps0_1, hostOps0_2, hostOps0_3, hostOps0_4, List.flatten_cons, List.flatten_nil,
    List.append_nil, List.cons_append, List.nil_append]
  after_results
  try rfl

theorem entry_v12 (c : Dev nD) : V m c main_v12 = Host.reverse [0, 1] (transpose S2x2x256x256 [2, 3, 1, 0] (m ((c : Thread nD τ).loc main_arg14)) transposes_S256x256x2x2_S2x2x256x256_2_3_1_0) := by
  simp only [V, V0, hostOps0, hostOps0_1, hostOps0_2, hostOps0_3, hostOps0_4, List.flatten_cons, List.flatten_nil,
    List.append_nil, List.cons_append, List.nil_append]
  after_results
  try rfl

theorem entry_v14 (c : Dev nD) : V m c main_v14 = transpose S256x1 [1, 0] (shapeCast S1x256 (m ((c : Thread nD τ).loc main_arg12)) shapeCasts_S1x256x1x1_S1x256) transposes_S1x256_S256x1_1_0 := by
  simp only [V, V0, hostOps0, hostOps0_1, hostOps0_2, hostOps0_3, hostOps0_4, List.flatten_cons, List.flatten_nil,
    List.append_nil, List.cons_append, List.nil_append]
  after_results
  try rfl

theorem entry_v16 (c : Dev nD) : V m c main_v16 = transpose S256x2 [1, 0] (shapeCast S2x256 (m ((c : Thread nD τ).loc main_arg16)) shapeCasts_S2x256x1x1_S2x256) transposes_S2x256_S256x2_1_0 := by
  simp only [V, V0, hostOps0, hostOps0_1, hostOps0_2, hostOps0_3, hostOps0_4, List.flatten_cons, List.flatten_nil,
    List.append_nil, List.cons_append, List.nil_append]
  after_results
  try rfl

theorem entry_v17 (c : Dev nD) : V m c main_v17 = shapeCast S1x256 (m ((c : Thread nD τ).loc main_arg3)) shapeCasts_S256_S1x256 := by
  simp only [V, V0, hostOps0, hostOps0_1, hostOps0_2, hostOps0_3, hostOps0_4, List.flatten_cons, List.flatten_nil,
    List.append_nil, List.cons_append, List.nil_append]
  after_results
  try rfl

theorem entry_v18 (c : Dev nD) : V m c main_v18 = shapeCast S1x256 (m ((c : Thread nD τ).loc main_arg5)) shapeCasts_S256_S1x256 := by
  simp only [V, V0, hostOps0, hostOps0_1, hostOps0_2, hostOps0_3, hostOps0_4, List.flatten_cons, List.flatten_nil,
    List.append_nil, List.cons_append, List.nil_append]
  after_results
  try rfl

theorem entry_v19 (c : Dev nD) : V m c main_v19 = shapeCast S1x256 (m ((c : Thread nD τ).loc main_arg7)) shapeCasts_S256_S1x256 := by
  simp only [V, V0, hostOps0, hostOps0_1, hostOps0_2, hostOps0_3, hostOps0_4, List.flatten_cons, List.flatten_nil,
    List.append_nil, List.cons_append, List.nil_append]
  after_results
  try rfl

theorem entry_v20 (c : Dev nD) : V m c main_v20 = shapeCast S1x256 (m ((c : Thread nD τ).loc main_arg9)) shapeCasts_S256_S1x256 := by
  simp only [V, V0, hostOps0, hostOps0_1, hostOps0_2, hostOps0_3, hostOps0_4, List.flatten_cons, List.flatten_nil,
    List.append_nil, List.cons_append, List.nil_append]
  after_results
  try rfl

theorem entry_v21 (c : Dev nD) : V m c main_v21 = shapeCast S1x256 (m ((c : Thread nD τ).loc main_arg11)) shapeCasts_S256_S1x256 := by
  simp only [V, V0, hostOps0, hostOps0_1, hostOps0_2, hostOps0_3, hostOps0_4, List.flatten_cons, List.flatten_nil,
    List.append_nil, List.cons_append, List.nil_append]
  after_results
  try rfl

theorem entry_v23 (c : Dev nD) : V m c main_v23 = shapeCast S1x256 (m ((c : Thread nD τ).loc main_arg15)) shapeCasts_S256_S1x256 := by
  simp only [V, V0, hostOps0, hostOps0_1, hostOps0_2, hostOps0_3, hostOps0_4, List.flatten_cons, List.flatten_nil,
    List.append_nil, List.cons_append, List.nil_append]
  after_results
  try rfl

theorem entry_v22 (c : Dev nD) : V m c main_v22 = shapeCast S1x1 (m ((c : Thread nD τ).loc main_arg13)) shapeCasts_S1_S1x1 := by
  simp only [V, V0, hostOps0, hostOps0_1, hostOps0_2, hostOps0_3, hostOps0_4, List.flatten_cons, List.flatten_nil,
    List.append_nil, List.cons_append, List.nil_append]
  after_results
  try rfl

theorem entry_v24 (c : Dev nD) : V m c main_v24 = shapeCast S1x2 (m ((c : Thread nD τ).loc main_arg17)) shapeCasts_S2_S1x2 := by
  simp only [V, V0, hostOps0, hostOps0_1, hostOps0_2, hostOps0_3, hostOps0_4, List.flatten_cons, List.flatten_nil,
    List.append_nil, List.cons_append, List.nil_append]
  after_results
  try rfl

end Cert.Head
-- ==== Proof.Blocks.lean ====
module

public import proofs.«01_k».proof.Proof.Entry

@[expose] public section

set_option maxRecDepth 16384

noncomputable section

namespace Cert.Head

open Idealize.ShloMosaic Idealize.ShloMosaic.TcCoe Idealize.SL.Sem
open Cert.KernelIdeal Cert.KernelIdeal.Gen

variable (m : (ℓ : Loc nD τ sig) → Buf (Elt Ideal) ℓ)

/-! ## The windows' blocks, of the arguments -/

theorem lt_four (t : Fin cfg0.N) : t.val < 4 := t.isLt

theorem index0 : ∀ t : Fin cfg0.N, win0_0.index t 0 = t.val ∧ win0_0.index t 1 = 0 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 ∧ win0_2.index t 2 = 0 ∧ win0_2.index t 3 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 ∧ win0_4.index t 2 = 0 ∧ win0_4.index t 3 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 ∧ win0_6.index t 2 = 0 ∧ win0_6.index t 3 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 ∧ win0_8.index t 2 = 0 ∧ win0_8.index t 3 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 ∧ win0_10.index t 2 = 0 ∧ win0_10.index t 3 = 0 := by decide +kernel
theorem index11 : ∀ t : Fin cfg0.N, win0_11.index t 0 = 0 ∧ win0_11.index t 1 = 0 := by decide +kernel
theorem index12 : ∀ t : Fin cfg0.N, win0_12.index t 0 = 0 ∧ win0_12.index t 1 = 0 := by decide +kernel
theorem index13 : ∀ t : Fin cfg0.N, win0_13.index t 0 = 0 ∧ win0_13.index t 1 = 0 := by decide +kernel
theorem index14 : ∀ t : Fin cfg0.N, win0_14.index t 0 = 0 ∧ win0_14.index t 1 = 0 ∧ win0_14.index t 2 = 0 ∧ win0_14.index t 3 = 0 := by decide +kernel
theorem index15 : ∀ t : Fin cfg0.N, win0_15.index t 0 = 0 ∧ win0_15.index t 1 = 0 := by decide +kernel
theorem index16 : ∀ t : Fin cfg0.N, win0_16.index t 0 = 0 ∧ win0_16.index t 1 = 0 := by decide +kernel
theorem index17 : ∀ t : Fin cfg0.N, win0_17.index t 0 = 0 ∧ win0_17.index t 1 = 0 := by decide +kernel
theorem index18 : ∀ t : Fin cfg0.N, win0_18.index t 0 = t.val ∧ win0_18.index t 1 = 0 ∧ win0_18.index t 2 = 0 ∧ win0_18.index t 3 = 0 := by decide +kernel
theorem index19 : ∀ t : Fin cfg0.N, win0_19.index t 0 = t.val ∧ win0_19.index t 1 = 0 ∧ win0_19.index t 2 = 0 ∧ win0_19.index t 3 = 0 ∧ win0_19.index t 4 = 0 := by decide +kernel

theorem blk0 (c : Dev nD) (t : Fin cfg0.N) (i0 : Fin 1) (i1 : Fin 25) (i2 : Fin 4) :
    iblk m c 0 t (ix3 i0 i1 i2) = (m ((c : Thread nD τ).loc main_arg0)) (ix2 ⟨t.val * 25 + i1.val, by have := lt_four t; omega⟩ ⟨i2.val, by omega⟩) := by
  have h := index0 t
  have e : (win0_0.blk t).view.emb (ix3 i0 i1 i2) = ix3 ⟨t.val, t.isLt⟩ i1 i2 := by blk_ext [h]
  show V m c main_v4 ((win0_0.blk t).view.emb (ix3 i0 i1 i2)) = _
  rw [e, entry_v4]
  clean_types
  pointwise

theorem blk1 (c : Dev nD) (t : Fin cfg0.N) (i0 : Fin 128) (i1 : Fin 8192) :
    iblk m c 1 t (ix2 i0 i1) = (m ((c : Thread nD τ).loc main_arg1)) (ix4 0 ⟨i1.val / 128, by omega⟩ i0 ⟨i1.val % 128, by omega⟩) := by
  have h := index1 t
  have e : (win0_1.blk t).view.emb (ix2 i0 i1) = ix2 i0 i1 := by blk_ext [h]
  show V m c main_v2 ((win0_1.blk t).view.emb (ix2 i0 i1)) = _
  rw [e, entry_v2]
  clean_types
  pointwise

theorem blk2 (c : Dev nD) (t : Fin cfg0.N) (i0 : Fin 3) (i1 : Fin 3) (i2 : Fin 64) (i3 : Fin 256) :
    iblk m c 2 t (ix4 i0 i1 i2 i3) = (m ((c : Thread nD τ).loc main_arg2)) (ix4 i3 i2 i0 i1) := by
  have h := index2 t
  have e : (win0_2.blk t).view.emb (ix4 i0 i1 i2 i3) = ix4 i0 i1 i2 i3 := by blk_ext [h]
  show V m c main_v5 ((win0_2.blk t).view.emb (ix4 i0 i1 i2 i3)) = _
  rw [e, entry_v5]
  clean_types
  pointwise

theorem blk3 (c : Dev nD) (t : Fin cfg0.N) (i0 : Fin 1) (i1 : Fin 256) :
    iblk m c 3 t (ix2 i0 i1) = (m ((c : Thread nD τ).loc main_arg3)) (ix1 i1) := by
  have h := index3 t
  have e : (win0_3.blk t).view.emb (ix2 i0 i1) = ix2 i0 i1 := by blk_ext [h]
  show V m c main_v17 ((win0_3.blk t).view.emb (ix2 i0 i1)) = _
  rw [e, entry_v17]
  clean_types
  pointwise

theorem blk4 (c : Dev nD) (t : Fin cfg0.N) (i0 : Fin 3) (i1 : Fin 3) (i2 : Fin 256) (i3 : Fin 256) :
    iblk m c 4 t (ix4 i0 i1 i2 i3) = (m ((c : Thread nD τ).loc main_arg4)) (ix4 i3 i2 i0 i1) := by
  have h := index4 t
  have e : (win0_4.blk t).view.emb (ix4 i0 i1 i2 i3) = ix4 i0 i1 i2 i3 := by blk_ext [h]
  show V m c main_v6 ((win0_4.blk t).view.emb (ix4 i0 i1 i2 i3)) = _
  rw [e, entry_v6]
  clean_types
  pointwise

theorem blk5 (c : Dev nD) (t : Fin cfg0.N) (i0 : Fin 1) (i1 : Fin 256) :
    iblk m c 5 t (ix2 i0 i1) = (m ((c : Thread nD τ).loc main_arg5)) (ix1 i1) := by
  have h := index5 t
  have e : (win0_5.blk t).view.emb (ix2 i0 i1) = ix2 i0 i1 := by blk_ext [h]
  show V m c main_v18 ((win0_5.blk t).view.emb (ix2 i0 i1)) = _
  rw [e, entry_v18]
  clean_types
  pointwise

theorem blk6 (c : Dev nD) (t : Fin cfg0.N) (i0 : Fin 3) (i1 : Fin 3) (i2 : Fin 256) (i3 : Fin 256) :
    iblk m c 6 t (ix4 i0 i1 i2 i3) = (m ((c : Thread nD τ).loc main_arg6)) (ix4 i3 i2 i0 i1) := by
  have h := index6 t
  have e : (win0_6.blk t).view.emb (ix4 i0 i1 i2 i3) = ix4 i0 i1 i2 i3 := by blk_ext [h]
  show V m c main_v7 ((win0_6.blk t).view.emb (ix4 i0 i1 i2 i3)) = _
  rw [e, entry_v7]
  clean_types
  pointwise

theorem blk7 (c : Dev nD) (t : Fin cfg0.N) (i0 : Fin 1) (i1 : Fin 256) :
    iblk m c 7 t (ix2 i0 i1) = (m ((c : Thread nD τ).loc main_arg7)) (ix1 i1) := by
  have h := index7 t
  have e : (win0_7.blk t).view.emb (ix2 i0 i1) = ix2 i0 i1 := by blk_ext [h]
  show V m c main_v19 ((win0_7.blk t).view.emb (ix2 i0 i1)) = _
  rw [e, entry_v19]
  clean_types
  pointwise

theorem blk8 (c : Dev nD) (t : Fin cfg0.N) (i0 : Fin 3) (i1 : Fin 3) (i2 : Fin 256) (i3 : Fin 256) :
    iblk m c 8 t (ix4 i0 i1 i2 i3) = (m ((c : Thread nD τ).loc main_arg8)) (ix4 i3 i2 i0 i1) := by
  have h := index8 t
  have e : (win0_8.blk t).view.emb (ix4 i0 i1 i2 i3) = ix4 i0 i1 i2 i3 := by blk_ext [h]
  show V m c main_v8 ((win0_8.blk t).view.emb (ix4 i0 i1 i2 i3)) = _
  rw [e, entry_v8]
  clean_types
  pointwise

theorem blk9 (c : Dev nD) (t : Fin cfg0.N) (i0 : Fin 1) (i1 : Fin 256) :
    iblk m c 9 t (ix2 i0 i1) = (m ((c : Thread nD τ).loc main_arg9)) (ix1 i1) := by
  have h := index9 t
  have e : (win0_9.blk t).view.emb (ix2 i0 i1) = ix2 i0 i1 := by blk_ext [h]
  show V m c main_v20 ((win0_9.blk t).view.emb (ix2 i0 i1)) = _
  rw [e, entry_v20]
  clean_types
  pointwise

theorem blk10 (c : Dev nD) (t : Fin cfg0.N) (i0 : Fin 2) (i1 : Fin 2) (i2 : Fin 256) (i3 : Fin 256) :
    iblk m c 10 t (ix4 i0 i1 i2 i3) = (m ((c : Thread nD τ).loc main_arg10)) (ix4 i3 i2 i0.rev i1.rev) := by
  have h := index10 t
  have e : (win0_10.blk t).view.emb (ix4 i0 i1 i2 i3) = ix4 i0 i1 i2 i3 := by blk_ext [h]
  show V m c main_v10 ((win0_10.blk t).view.emb (ix4 i0 i1 i2 i3)) = _
  rw [e, entry_v10]
  clean_types
  pointwise
  rfl

theorem blk11 (c : Dev nD) (t : Fin cfg0.N) (i0 : Fin 1) (i1 : Fin 256) :
    iblk m c 11 t (ix2 i0 i1) = (m ((c : Thread nD τ).loc main_arg11)) (ix1 i1) := by
  have h := index11 t
  have e : (win0_11.blk t).view.emb (ix2 i0 i1) = ix2 i0 i1 := by blk_ext [h]
  show V m c main_v21 ((win0_11.blk t).view.emb (ix2 i0 i1)) = _
  rw [e, entry_v21]
  clean_types
  pointwise

theorem blk12 (c : Dev nD) (t : Fin cfg0.N) (i0 : Fin 256) (i1 : Fin 1) :
    iblk m c 12 t (ix2 i0 i1) = (m ((c : Thread nD τ).loc main_arg12)) (ix4 0 i0 0 0) := by
  have h := index12 t
  have e : (win0_12.blk t).view.emb (ix2 i0 i1) = ix2 i0 i1 := by blk_ext [h]
  show V m c main_v14 ((win0_12.blk t).view.emb (ix2 i0 i1)) = _
  rw [e, entry_v14]
  clean_types
  pointwise

theorem blk13 (c : Dev nD) (t : Fin cfg0.N) (i0 : Fin 1) (i1 : Fin 1) :
    iblk m c 13 t (ix2 i0 i1) = (m ((c : Thread nD τ).loc main_arg13)) (ix1 0) := by
  have h := index13 t
  have e : (win0_13.blk t).view.emb (ix2 i0 i1) = ix2 i0 i1 := by blk_ext [h]
  show V m c main_v22 ((win0_13.blk t).view.emb (ix2 i0 i1)) = _
  rw [e, entry_v22]
  clean_types
  pointwise

theorem blk14 (c : Dev nD) (t : Fin cfg0.N) (i0 : Fin 2) (i1 : Fin 2) (i2 : Fin 256) (i3 : Fin 256) :
    iblk m c 14 t (ix4 i0 i1 i2 i3) = (m ((c : Thread nD τ).loc main_arg14)) (ix4 i3 i2 i0.rev i1.rev) := by
  have h := index14 t
  have e : (win0_14.blk t).view.emb (ix4 i0 i1 i2 i3) = ix4 i0 i1 i2 i3 := by blk_ext [h]
  show V m c main_v12 ((win0_14.blk t).view.emb (ix4 i0 i1 i2 i3)) = _
  rw [e, entry_v12]
  clean_types
  pointwise
  rfl

theorem blk15 (c : Dev nD) (t : Fin cfg0.N) (i0 : Fin 1) (i1 : Fin 256) :
    iblk m c 15 t (ix2 i0 i1) = (m ((c : Thread nD τ).loc main_arg15)) (ix1 i1) := by
  have h := index15 t
  have e : (win0_15.blk t).view.emb (ix2 i0 i1) = ix2 i0 i1 := by blk_ext [h]
  show V m c main_v23 ((win0_15.blk t).view.emb (ix2 i0 i1)) = _
  rw [e, entry_v23]
  clean_types
  pointwise

theorem blk16 (c : Dev nD) (t : Fin cfg0.N) (i0 : Fin 256) (i1 : Fin 2) :
    iblk m c 16 t (ix2 i0 i1) = (m ((c : Thread nD τ).loc main_arg16)) (ix4 i1 i0 0 0) := by
  have h := index16 t
  have e : (win0_16.blk t).view.emb (ix2 i0 i1) = ix2 i0 i1 := by blk_ext [h]
  show V m c main_v16 ((win0_16.blk t).view.emb (ix2 i0 i1)) = _
  rw [e, entry_v16]
  clean_types
  pointwise

theorem blk17 (c : Dev nD) (t : Fin cfg0.N) (i0 : Fin 1) (i1 : Fin 2) :
    iblk m c 17 t (ix2 i0 i1) = (m ((c : Thread nD τ).loc main_arg17)) (ix1 i1) := by
  have h := index17 t
  have e : (win0_17.blk t).view.emb (ix2 i0 i1) = ix2 i0 i1 := by blk_ext [h]
  show V m c main_v24 ((win0_17.blk t).view.emb (ix2 i0 i1)) = _
  rw [e, entry_v24]
  clean_types
  pointwise

theorem blk1_at (c : Dev nD) (t : Fin cfg0.N) (k : Fin 64) (a b : Fin 128) :
    iblk m c 1 t (ix2 a ⟨k.val * 128 + b.val, by omega⟩) = (m ((c : Thread nD τ).loc main_arg1)) (ix4 0 k a b) := by
  rw [blk1]
  congr 2 <;> (apply Fin.ext; dsimp only; omega)

end Cert.Head
-- ==== Proof.Arrays.lean ====
module

public import proofs.«01_k».proof.Proof.Blocks

@[expose] public section

set_option maxRecDepth 16384

noncomputable section

namespace Cert.Head

open Idealize.ShloMosaic Idealize.ShloMosaic.TcCoe Idealize.SL.Sem
open Cert.KernelIdeal Cert.KernelIdeal.Gen

variable (m : (ℓ : Loc nD τ sig) → Buf (Elt Ideal) ℓ)

/-! ## The result windows' arrays at the launch's end -/

/-- The four corners of every box are real numbers. -/
def Finite (a0 : S100x6.Idx → EReal) : Prop :=
  ∀ (n : Fin 100) (k : Fin 4), ∃ r : ℝ, a0 (ix2 n ⟨k.val, by omega⟩) = (r : EReal)

/-- The whole array of result window 18. -/
def heatZ (c : Dev nD) (z : S100x4x7x7.Idx) : EReal :=
  heatA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (z 0) ⟨(z 1).val / 2, by have h : (z 1).val < 4 := (z 1).isLt; omega⟩ ⟨(z 1).val % 2, by omega⟩ (z 2) (z 3)

theorem heatZ_block (c : Dev nD) (hf : Finite (m ((c : Thread nD τ).loc main_arg0))) (t : Fin cfg0.N) (n : Fin 25) (i j : Fin 2)
    (y x : Fin 7) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix4 n ⟨i.val * 2 + j.val, by omega⟩ y x)
      = heatA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) ⟨t.val * 25 + n.val, by have := lt_four t; omega⟩ i j y x := by
  have hv : ∀ k : Fin 4, ∃ r : ℝ, (iblk m c 0 t : S1x25x4.Idx → EReal) (ix3 0 n k) = (r : EReal) := fun k => by
    rw [blk0]; exact hf _ k
  rw [out18_apply]
  simp only [img4_apply _ _ _ _ _ _ _ _ _ _ n hv]
  simp only [blk0, blk1_at, blk2, blk3, blk4, blk5, blk6, blk7, blk8, blk9, blk10, blk11, blk12, blk13]
  rfl

set_option maxHeartbeats 1000000 in
theorem heatZ_arr (c : Dev nD) (hf : Finite (m ((c : Thread nD τ).loc main_arg0))) : (dats m 0 c).arrAt 18 cfg0.N = heatZ m c := by
  refine (dats m 0 c).arrAt_eq_of_covers 18 _ (by decide +kernel) fun t hfl y => ?_
  have h := index18 t
  rw [after0_18]
  idx_vars y
  have e : (win0_18.blk t).view.emb (ix4 y0 y1 y2 y3)
      = ix4 ⟨t.val * 25 + y0.val, by have := lt_four t; omega⟩ y1 y2 y3 := by blk_ext [h]
  refine Eq.trans ?_ (congrArg (heatZ m c) e).symm
  have hy : y1 = ⟨(⟨y1.val / 2, by omega⟩ : Fin 2).val * 2 + (⟨y1.val % 2, by omega⟩ : Fin 2).val,
      by dsimp only; omega⟩ := Fin.ext (by dsimp only; omega)
  refine Eq.trans (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (congrArg (fun p => ix4 y0 p y2 y3) hy)) ?_
  exact heatZ_block m c hf t y0 _ _ y2 y3

/-- The whole array of result window 19. -/
def sizeZ (c : Dev nD) (z : S100x4x7x7x2.Idx) : EReal :=
  sizeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg14)) (m ((c : Thread nD τ).loc main_arg15)) (m ((c : Thread nD τ).loc main_arg16)) (m ((c : Thread nD τ).loc main_arg17)) (z 0) (z 4) ⟨(z 1).val / 2, by have h : (z 1).val < 4 := (z 1).isLt; omega⟩ ⟨(z 1).val % 2, by omega⟩ (z 2) (z 3)

theorem sizeZ_block (c : Dev nD) (hf : Finite (m ((c : Thread nD τ).loc main_arg0))) (t : Fin cfg0.N) (n : Fin 25) (i j : Fin 2)
    (y x : Fin 7) (k : Fin 2) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix5 n ⟨i.val * 2 + j.val, by omega⟩ y x k)
      = sizeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg14)) (m ((c : Thread nD τ).loc main_arg15)) (m ((c : Thread nD τ).loc main_arg16)) (m ((c : Thread nD τ).loc main_arg17)) ⟨t.val * 25 + n.val, by have := lt_four t; omega⟩ k i j y x := by
  have hv : ∀ k : Fin 4, ∃ r : ℝ, (iblk m c 0 t : S1x25x4.Idx → EReal) (ix3 0 n k) = (r : EReal) := fun k => by
    rw [blk0]; exact hf _ k
  rw [out19_apply]
  simp only [img4_apply _ _ _ _ _ _ _ _ _ _ n hv]
  simp only [blk0, blk1_at, blk2, blk3, blk4, blk5, blk6, blk7, blk8, blk9, blk14, blk15, blk16, blk17]
  rfl

set_option maxHeartbeats 1000000 in
theorem sizeZ_arr (c : Dev nD) (hf : Finite (m ((c : Thread nD τ).loc main_arg0))) : (dats m 0 c).arrAt 19 cfg0.N = sizeZ m c := by
  refine (dats m 0 c).arrAt_eq_of_covers 19 _ (by decide +kernel) fun t hfl y => ?_
  have h := index19 t
  rw [after0_19]
  idx_vars y
  have e : (win0_19.blk t).view.emb (ix5 y0 y1 y2 y3 y4)
      = ix5 ⟨t.val * 25 + y0.val, by have := lt_four t; omega⟩ y1 y2 y3 y4 := by blk_ext [h]
  refine Eq.trans ?_ (congrArg (sizeZ m c) e).symm
  have hy : y1 = ⟨(⟨y1.val / 2, by omega⟩ : Fin 2).val * 2 + (⟨y1.val % 2, by omega⟩ : Fin 2).val,
      by dsimp only; omega⟩ := Fin.ext (by dsimp only; omega)
  refine Eq.trans (congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (congrArg (fun p => ix5 y0 p y2 y3 y4) hy)) ?_
  exact sizeZ_block m c hf t y0 _ _ y2 y3 y4

end Cert.Head
-- ==== Proof.Results.lean ====
module

public import proofs.«01_k».proof.Proof.Arrays

@[expose] public section

set_option maxRecDepth 16384

noncomputable section

namespace Cert.Head

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the first result holds at the end. -/
def heatV (c : Dev nD) : S100x1x14x14.Idx → EReal :=
  broadcastInDim S100x1x14x14 ![0, 2, 3] bcast_S100x14x14_S100x1x14x14_0_2_3
    (shapeCast S100x14x14 (transpose S100x7x2x7x2 [0, 3, 1, 4, 2]
      (shapeCast S100x2x2x7x7 (heatZ m c) shapeCasts_S100x4x7x7_S100x2x2x7x7)
      transposes_S100x2x2x7x7_S100x7x2x7x2_0_3_1_4_2) shapeCasts_S100x7x2x7x2_S100x14x14)

/-- What the second result holds at the end. -/
def sizeV (c : Dev nD) : S100x2x14x14.Idx → EReal :=
  shapeCast S100x2x14x14 (transpose S100x2x7x2x7x2 [0, 5, 3, 1, 4, 2]
    (shapeCast S100x2x2x7x7x2 (sizeZ m c) shapeCasts_S100x4x7x7x2_S100x2x2x7x7x2)
    transposes_S100x2x2x7x7x2_S100x2x7x2x7x2_0_5_3_1_4_2) shapeCasts_S100x2x7x2x7x2_S100x2x14x14

theorem heat_tail (c : Dev nD) (hf : Finite (m ((c : Thread nD τ).loc main_arg0))) :
    Pipeline.afterTail₀ cfgs (dats m) 0 (V0 m) [hostOps1] c main_v29 = heatV m c := by
  have e : Pipeline.withArrays (cfgs 0).spec c (V0 m c) (fun w => (dats m 0 c).arrAt w (cfgs 0).N)
      (Proc.devRef .tc main_v25_0) = (heatZ m c : S100x4x7x7.Idx → EReal) :=
    (Pipeline.withArrays_arr (cfgs 0).spec launch0.win.arr_inj c (V0 m c) _ 18).trans (heatZ_arr m c hf)
  unfold Pipeline.afterTail₀
  simp only [hostOps1, List.flatten_cons, List.flatten_nil, List.append_nil]
  after_results
  rw [e]
  rfl

theorem size_tail (c : Dev nD) (hf : Finite (m ((c : Thread nD τ).loc main_arg0))) :
    Pipeline.afterTail₀ cfgs (dats m) 0 (V0 m) [hostOps1] c main_v32 = sizeV m c := by
  have e : Pipeline.withArrays (cfgs 0).spec c (V0 m c) (fun w => (dats m 0 c).arrAt w (cfgs 0).N)
      (Proc.devRef .tc main_v25_1) = (sizeZ m c : S100x4x7x7x2.Idx → EReal) :=
    (Pipeline.withArrays_arr (cfgs 0).spec launch0.win.arr_inj c (V0 m c) _ 19).trans (sizeZ_arr m c hf)
  unfold Pipeline.afterTail₀
  simp only [hostOps1, List.flatten_cons, List.flatten_nil, List.append_nil]
  after_results
  rw [e]
  rfl

theorem heatV_apply (c : Dev nD) (n : Fin 100) (i j : Fin 2) (y x : Fin 7) :
    heatV m c (ix4 n 0 ⟨y.val * 2 + i.val, by omega⟩ ⟨x.val * 2 + j.val, by omega⟩)
      = heatZ m c (ix4 n ⟨i.val * 2 + j.val, by omega⟩ y x) := by
  pointwise [heatV]

theorem sizeV_apply (c : Dev nD) (n : Fin 100) (k : Fin 2) (i j : Fin 2) (y x : Fin 7) :
    sizeV m c (ix4 n k ⟨y.val * 2 + i.val, by omega⟩ ⟨x.val * 2 + j.val, by omega⟩)
      = sizeZ m c (ix5 n ⟨i.val * 2 + j.val, by omega⟩ y x k) := by
  pointwise [sizeV]

theorem heatZ_at (c : Dev nD) (n : Fin 100) (i j : Fin 2) (y x : Fin 7) :
    heatZ m c (ix4 n ⟨i.val * 2 + j.val, by omega⟩ y x)
      = heatA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) n i j y x := by
  have hi : (⟨(i.val * 2 + j.val) / 2, by omega⟩ : Fin 2) = i := Fin.ext (by dsimp only; omega)
  have hj : (⟨(i.val * 2 + j.val) % 2, by omega⟩ : Fin 2) = j := Fin.ext (by dsimp only; omega)
  show heatA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) n ⟨(i.val * 2 + j.val) / 2, by omega⟩ ⟨(i.val * 2 + j.val) % 2, by omega⟩ y x = _
  rw [hi, hj]

theorem sizeZ_at (c : Dev nD) (n : Fin 100) (k : Fin 2) (i j : Fin 2) (y x : Fin 7) :
    sizeZ m c (ix5 n ⟨i.val * 2 + j.val, by omega⟩ y x k)
      = sizeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg14)) (m ((c : Thread nD τ).loc main_arg15)) (m ((c : Thread nD τ).loc main_arg16)) (m ((c : Thread nD τ).loc main_arg17)) n k i j y x := by
  have hi : (⟨(i.val * 2 + j.val) / 2, by omega⟩ : Fin 2) = i := Fin.ext (by dsimp only; omega)
  have hj : (⟨(i.val * 2 + j.val) % 2, by omega⟩ : Fin 2) = j := Fin.ext (by dsimp only; omega)
  show sizeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg14)) (m ((c : Thread nD τ).loc main_arg15)) (m ((c : Thread nD τ).loc main_arg16)) (m ((c : Thread nD τ).loc main_arg17)) n k ⟨(i.val * 2 + j.val) / 2, by omega⟩ ⟨(i.val * 2 + j.val) % 2, by omega⟩ y x = _
  rw [hi, hj]

/-- The launch's run: the two results, and the arguments unchanged. -/
theorem run_values (hf : ∀ c : Dev nD, Finite (m ((c : Thread nD τ).loc main_arg0))) :
    θ_run defs (onTc (τ := τ) (main (F := Ideal))) ⟨m, fun _ => 0, ρ⟩ (fun r => ∀ c : Dev nD,
      r.2.mem ((c.tc : Thread nD τ).loc main_v29) = heatV m c
      ∧ r.2.mem ((c.tc : Thread nD τ).loc main_v32) = sizeV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
      ⟨((h.2 c).2 main_v29 (Pipeline.mem_restRefs_of main_v29 (by decide) (by decide))).trans (heat_tail m c (hf c)),
        ((h.2 c).2 main_v32 (Pipeline.mem_restRefs_of main_v32 (by decide) (by decide))).trans (size_tail m c (hf c)),
        h.1 c⟩)
    (θ_run_and (unchanged m ρ) (run_main m ρ))

end Cert.Head
-- ==== Proof.Sample.lean ====
module

public import proofs.«01_k».proof.Proof.Block
public import proofs.«01_k».proof.Proof.Gen.ReferenceIdeal.Run
public import Idealize.ShloMosaic.Lib.Tactic.CleanTypes

@[expose] public section

set_option maxRecDepth 16384

noncomputable section

namespace Cert.Head

open Idealize.ShloMosaic Idealize.SL.Sem
open Cert.ReferenceIdeal Cert.ReferenceIdeal.Gen Cert.ReferenceIdeal.Value

/-! ## The feature looked up at an array of rows and an array of lanes -/

/-- A word below zero counted from the end of an axis of extent 128. -/
def wrap (w : IVec S100x7x7 32) : IVec S100x7x7 32 :=
  select (cmpi .slt w (broadcastInDim S100x7x7 ![] bcast_S_S100x7x7 (constantI S_ 32 0#32)))
    (addi w (broadcastInDim S100x7x7 ![] bcast_S_S100x7x7 (constantI S_ 32 128#32))) w

/-- The rows and the lanes side by side. -/
def pairs (r l : IVec S100x7x7 32) : IVec S100x7x7x2 32 :=
  concatenate S100x7x7x2 3
    [⟨S100x7x7x1, broadcastInDim S100x7x7x1 ![0, 1, 2] bcast_S100x7x7_S100x7x7x1_0_1_2 (wrap r)⟩,
     ⟨S100x7x7x1, broadcastInDim S100x7x7x1 ![0, 1, 2] bcast_S100x7x7_S100x7x7x1_0_1_2 (wrap l)⟩]
    concatenates_S100x7x7x1_S100x7x7x1_S100x7x7x2_d3

/-- Every channel of the feature at those rows and lanes. -/
def look (f : FVec Ideal S64x128x128 .f32) (r l : IVec S100x7x7 32) : FVec Ideal S100x64x7x7 .f32 :=
  Host.gather gather_S64x128x128_S100x7x7x2_S100x64x7x7_1_12_n_n_12_3_6411 f (pairs r l)

theorem wrap_small (w : BitVec 32) (h : w.toNat < 128) :
    Scalar.select (IntOp.cmpi .slt w 0#32) (IntOp.addi w 128#32) w = w := by
  have : ¬ w.slt 0#32 := by
    simp [BitVec.slt, BitVec.toInt_eq_toNat_cond]; omega
  simp [Scalar.select, IntOp.cmpi, this]

theorem pairs_row (r l : IVec S100x7x7 32) (n : Fin 100) (y x : Fin 7)
    (h : (r (ix3 n y x)).toNat < 128) : pairs r l (ix4 n y x 0) = r (ix3 n y x) := by
  pointwise [pairs, wrap]
  exact wrap_small _ h

theorem pairs_lane (r l : IVec S100x7x7 32) (n : Fin 100) (y x : Fin 7)
    (h : (l (ix3 n y x)).toNat < 128) : pairs r l (ix4 n y x 1) = l (ix3 n y x) := by
  pointwise [pairs, wrap]
  exact wrap_small _ h

theorem small_toInt (w : BitVec 32) (h : w.toNat < 128) : min w.toInt.toNat 127 = w.toNat := by
  rw [BitVec.toInt_eq_toNat_cond]; split_ifs <;> omega

theorem look_apply (f : FVec Ideal S64x128x128 .f32) (r l : IVec S100x7x7 32)
    (n : Fin 100) (c : Fin 64) (y x : Fin 7)
    (hr : (r (ix3 n y x)).toNat < 128) (hl : (l (ix3 n y x)).toNat < 128) :
    look f r l (ix4 n c y x) = f (ix3 c ⟨(r (ix3 n y x)).toNat, hr⟩ ⟨(l (ix3 n y x)).toNat, hl⟩) := by
  unfold look Host.gather
  congr 1
  funext a
  refine Fin.ext ?_
  have h0 : ∀ k, gather_S64x128x128_S100x7x7x2_S100x64x7x7_1_12_n_n_12_3_6411.siIdx (ix4 n c y x) ⟨0, k⟩
      = ix4 n y x 0 := by
    intro k; funext b; refine Fin.ext ?_
    match b with
    | ⟨0, _⟩ => rfl
    | ⟨1, _⟩ => rfl
    | ⟨2, _⟩ => rfl
    | ⟨3, _⟩ => rfl
  have h1 : ∀ k, gather_S64x128x128_S100x7x7x2_S100x64x7x7_1_12_n_n_12_3_6411.siIdx (ix4 n c y x) ⟨1, k⟩
      = ix4 n y x 1 := by
    intro k; funext b; refine Fin.ext ?_
    match b with
    | ⟨0, _⟩ => rfl
    | ⟨1, _⟩ => rfl
    | ⟨2, _⟩ => rfl
    | ⟨3, _⟩ => rfl
  match a with
  | ⟨0, _⟩ =>
    show _ + _ + _ = _
    rw [GatherDims.batchCoord_eq_zero _ _ _ List.not_mem_nil]
    unfold GatherDims.start
    rw [dif_neg (by decide +revert)]
    simp only [Nat.zero_add]
    rfl
  | ⟨1, _⟩ =>
    show _ + _ + _ = _
    rw [GatherDims.batchCoord_eq_zero _ _ _ List.not_mem_nil,
      GatherDims.offCoord_eq_zero _ _ _ (by decide +revert)]
    unfold GatherDims.start
    rw [dif_pos (by decide +revert)]
    refine Eq.trans (congrArg (fun w : BitVec 32 => min w.toInt.toNat 127) ((congrArg _ (h0 _)).trans
      (pairs_row r l n y x hr))) (small_toInt _ hr)
  | ⟨2, _⟩ =>
    show _ + _ + _ = _
    rw [GatherDims.batchCoord_eq_zero _ _ _ List.not_mem_nil,
      GatherDims.offCoord_eq_zero _ _ _ (by decide +revert)]
    unfold GatherDims.start
    rw [dif_pos (by decide +revert)]
    refine Eq.trans (congrArg (fun w : BitVec 32 => min w.toInt.toNat 127) ((congrArg _ (h1 _)).trans
      (pairs_lane r l n y x hl))) (small_toInt _ hl)

/-! ## The arguments' values by coordinates -/

section
variable (V0 : Valuation τ sig (Elt Ideal))

/-- The corners of box `n`. -/
def boxAt (n : Fin 100) (k : Fin 4) : EReal :=
  (V0 (Proc.devRef .tc main_arg0) : S100x6.Idx → EReal) (ix2 n ⟨k.val, by omega⟩)

/-- The feature's channel `c`. -/
def featAt (c : Fin 64) (a b : Fin 128) : EReal :=
  (V0 (Proc.devRef .tc main_arg1) : S1x64x128x128.Idx → EReal) (ix4 0 c a b)

theorem gridX (n : Fin 100) (y x : Fin 7) :
    res_main_v43 V0 (ix3 n y x) = grid (boxAt V0 n 0) (boxAt V0 n 2) x := by
  unfold res_main_v43 res_main_v3 res_main_v1
  clean_types
  pointwise
  rfl

theorem gridY (n : Fin 100) (y x : Fin 7) :
    res_main_v42 V0 (ix3 n y x) = grid (boxAt V0 n 1) (boxAt V0 n 3) y := by
  unfold res_main_v42 res_main_v5 res_main_v1
  clean_types
  pointwise
  rfl

theorem fracX (n : Fin 100) (y x : Fin 7) :
    res_main_v46 V0 (ix3 n y x) = frac (grid (boxAt V0 n 0) (boxAt V0 n 2) x) := by
  rw [← gridX V0 n y x]; rfl

theorem fracY (n : Fin 100) (y x : Fin 7) :
    res_main_v47 V0 (ix3 n y x) = frac (grid (boxAt V0 n 1) (boxAt V0 n 3) y) := by
  rw [← gridY V0 n y x]; rfl

theorem laneX0 (n : Fin 100) (y x : Fin 7) :
    res_main_v49 V0 (ix3 n y x) = lane0 (grid (boxAt V0 n 0) (boxAt V0 n 2) x) := by
  rw [← gridX V0 n y x]; rfl

theorem laneY0 (n : Fin 100) (y x : Fin 7) :
    res_main_v54 V0 (ix3 n y x) = lane0 (grid (boxAt V0 n 1) (boxAt V0 n 3) y) := by
  rw [← gridY V0 n y x]; rfl

theorem laneX1 (n : Fin 100) (y x : Fin 7) :
    res_main_v52 V0 (ix3 n y x) = lane1 (grid (boxAt V0 n 0) (boxAt V0 n 2) x) := by
  rw [lane1, ← laneX0 V0 n y x]; rfl

theorem laneY1 (n : Fin 100) (y x : Fin 7) :
    res_main_v57 V0 (ix3 n y x) = lane1 (grid (boxAt V0 n 1) (boxAt V0 n 3) y) := by
  rw [lane1, ← laneY0 V0 n y x]; rfl

/-- A look-up at rows and lanes that are in range, given the words there. -/
theorem look_at (r l : IVec S100x7x7 32) (n : Fin 100) (c : Fin 64) (y x : Fin 7)
    (a b : BitVec 32) (ha : a.toNat < 128) (hb : b.toNat < 128)
    (hr : r (ix3 n y x) = a) (hl : l (ix3 n y x) = b) :
    look (res_main_v0 V0) r l (ix4 n c y x) = featAt V0 c ⟨a.toNat, ha⟩ ⟨b.toNat, hb⟩ := by
  subst hr hl
  rw [look_apply _ r l n c y x ha hb]
  unfold res_main_v0
  clean_types
  pointwise
  rfl

theorem samples (n : Fin 100) (c : Fin 64) (y x : Fin 7) :
    res_main_v148 V0 (ix4 n c y x) = feats (boxAt V0 n) (featAt V0) c y x := by
  have e00 := look_at V0 _ _ n c y x _ _ (clamp_toNat _) (clamp_toNat _) (laneY0 V0 n y x) (laneX0 V0 n y x)
  have e01 := look_at V0 _ _ n c y x _ _ (clamp_toNat _) (clamp_toNat _) (laneY0 V0 n y x) (laneX1 V0 n y x)
  have e10 := look_at V0 _ _ n c y x _ _ (clamp_toNat _) (clamp_toNat _) (laneY1 V0 n y x) (laneX0 V0 n y x)
  have e11 := look_at V0 _ _ n c y x _ _ (clamp_toNat _) (clamp_toNat _) (laneY1 V0 n y x) (laneX1 V0 n y x)
  have dx := fracX V0 n y x
  have dy := fracY V0 n y x
  have key : res_main_v148 V0 (ix4 n c y x)
      = look (res_main_v0 V0) (res_main_v54 V0) (res_main_v49 V0) (ix4 n c y x)
            * (1 - res_main_v46 V0 (ix3 n y x)) * (1 - res_main_v47 V0 (ix3 n y x))
          + look (res_main_v0 V0) (res_main_v54 V0) (res_main_v52 V0) (ix4 n c y x)
            * res_main_v46 V0 (ix3 n y x) * (1 - res_main_v47 V0 (ix3 n y x))
          + look (res_main_v0 V0) (res_main_v57 V0) (res_main_v49 V0) (ix4 n c y x)
            * (1 - res_main_v46 V0 (ix3 n y x)) * res_main_v47 V0 (ix3 n y x)
          + look (res_main_v0 V0) (res_main_v57 V0) (res_main_v52 V0) (ix4 n c y x)
            * res_main_v46 V0 (ix3 n y x) * res_main_v47 V0 (ix3 n y x) := by
    unfold res_main_v148
    clean_types
    pointwise
    rfl
  rw [key, e00, e01, e10, e11, dx, dy]
  rfl

end

end Cert.Head
-- ==== Proof.Reference.lean ====
module

public import proofs.«01_k».proof.Proof.Sample

@[expose] public section

set_option maxRecDepth 16384

noncomputable section

namespace Cert.Head

open Idealize.ShloMosaic Idealize.SL.Sem
open Cert.ReferenceIdeal Cert.ReferenceIdeal.Gen Cert.ReferenceIdeal.Value

/-! ## The plain network's layers -/

theorem sitofp_zero : FloatOps.sitofp (F := Ideal) FTy.f32 0#32 = 0 := by
  simp [FloatOps.sitofp]

/-- The images with 64 channels inside a border of zeros. -/
def rimR64 (v : FVec Ideal S100x64x7x7 .f32) : FVec Ideal S100x64x9x9 .f32 :=
  pad S100x64x9x9 ![0, 0, 1, 1] ![0, 0, 1, 1] ![0, 0, 0, 0] v (sitofp .f32 (constantI S_ 32 0#32))
    pads_S100x64x7x7_S100x64x9x9_000_000_110_110 h_S_

theorem rimR64_apply (v : FVec Ideal S100x64x7x7 .f32) (n : Fin 100) (c : Fin 64) (p q : Fin 9) :
    rimR64 v (ix4 n c p q) = border (fun a b => v (ix4 n c a b)) p q := by
  pointwise [rimR64]
  unfold border
  simp only [sitofp_zero]
  split_ifs <;> first | rfl | omega

/-- One tap of a convolution over 64 channels. -/
def tapR64 (o : Fin 4 → Nat) (o' : Fin 4 → Nat) (h : S256x64x3x3.Slices o S256x64x1x1)
    (h' : S100x64x9x9.Slices o' S100x64x7x7) (w : FVec Ideal S256x64x3x3 .f32) (xp : FVec Ideal S100x64x9x9 .f32) :
    FVec Ideal S100x256x7x7 .f32 :=
  transpose S100x256x7x7 [1, 0, 2, 3]
    (Host.dotGeneral (φ₁ := .f32) (φ₂ := .f32) dot_S256x64_S100x64x7x7_S256x100x7x7_1_1_0_023_n_n none
      (shapeCast S256x64 (extractStridedSlice S256x64x1x1 o w h) shapeCasts_S256x64x1x1_S256x64)
      (extractStridedSlice S100x64x7x7 o' xp h'))
    transposes_S256x100x7x7_S100x256x7x7_1_0_2_3

theorem tapR64_apply (i j : Fin 3) (h : S256x64x3x3.Slices ![0, 0, i.val, j.val] S256x64x1x1)
    (h' : S100x64x9x9.Slices ![0, 0, i.val, j.val] S100x64x7x7)
    (w : FVec Ideal S256x64x3x3 .f32) (xp : FVec Ideal S100x64x9x9 .f32)
    (n : Fin 100) (o : Fin 256) (y x : Fin 7) :
    tapR64 ![0, 0, i.val, j.val] ![0, 0, i.val, j.val] h h' w xp (ix4 n o y x)
      = ∑ c : Fin 64, xp (ix4 n c ⟨i.val + y.val, by omega⟩ ⟨j.val + x.val, by omega⟩) * w (ix4 o c i j) := by
  pointwise [tapR64]
  refine Finset.sum_congr rfl fun c _ => ?_
  rw [mul_comm]
  try congr 2

/-- The nine taps and the bias. -/
def convR64 (w : FVec Ideal S256x64x3x3 .f32) (b : FVec Ideal S256 .f32) (xp : FVec Ideal S100x64x9x9 .f32) :
    FVec Ideal S100x256x7x7 .f32 :=
  addf (addf (addf (addf (addf (addf (addf (addf (addf (tapR64 ![0, 0, 0, 0] ![0, 0, 0, 0] slices_S256x64x3x3_S256x64x1x1_0_0_0_0
      slices_S100x64x9x9_S100x64x7x7_0_0_0_0 w xp)
    (tapR64 ![0, 0, 0, 1] ![0, 0, 0, 1] slices_S256x64x3x3_S256x64x1x1_0_0_0_1
      slices_S100x64x9x9_S100x64x7x7_0_0_0_1 w xp))
    (tapR64 ![0, 0, 0, 2] ![0, 0, 0, 2] slices_S256x64x3x3_S256x64x1x1_0_0_0_2
      slices_S100x64x9x9_S100x64x7x7_0_0_0_2 w xp))
    (tapR64 ![0, 0, 1, 0] ![0, 0, 1, 0] slices_S256x64x3x3_S256x64x1x1_0_0_1_0
      slices_S100x64x9x9_S100x64x7x7_0_0_1_0 w xp))
    (tapR64 ![0, 0, 1, 1] ![0, 0, 1, 1] slices_S256x64x3x3_S256x64x1x1_0_0_1_1
      slices_S100x64x9x9_S100x64x7x7_0_0_1_1 w xp))
    (tapR64 ![0, 0, 1, 2] ![0, 0, 1, 2] slices_S256x64x3x3_S256x64x1x1_0_0_1_2
      slices_S100x64x9x9_S100x64x7x7_0_0_1_2 w xp))
    (tapR64 ![0, 0, 2, 0] ![0, 0, 2, 0] slices_S256x64x3x3_S256x64x1x1_0_0_2_0
      slices_S100x64x9x9_S100x64x7x7_0_0_2_0 w xp))
    (tapR64 ![0, 0, 2, 1] ![0, 0, 2, 1] slices_S256x64x3x3_S256x64x1x1_0_0_2_1
      slices_S100x64x9x9_S100x64x7x7_0_0_2_1 w xp))
    (tapR64 ![0, 0, 2, 2] ![0, 0, 2, 2] slices_S256x64x3x3_S256x64x1x1_0_0_2_2
      slices_S100x64x9x9_S100x64x7x7_0_0_2_2 w xp))
    (broadcastInDim S100x256x7x7 ![0, 1, 2, 3] bcast_S1x256x1x1_S100x256x7x7_0_1_2_3
      (broadcastInDim S1x256x1x1 ![1] bcast_S256_S1x256x1x1_1 b))

theorem convR64_apply (w : FVec Ideal S256x64x3x3 .f32) (b : FVec Ideal S256 .f32)
    (v : FVec Ideal S100x64x7x7 .f32) (n : Fin 100) (o : Fin 256) (y x : Fin 7) :
    convR64 w b (rimR64 v) (ix4 n o y x)
      = conv9 (fun c p q => v (ix4 n c p q)) (fun i j c => w (ix4 o c i j)) y x + b (ix1 o) := by
  have h (i j : Fin 3) (h1 h2) := tapR64_apply i j h1 h2 w (rimR64 v) n o y x
  simp only [rimR64_apply] at h
  pointwise [convR64]
  have h00 := h 0 0 slices_S256x64x3x3_S256x64x1x1_0_0_0_0 slices_S100x64x9x9_S100x64x7x7_0_0_0_0
  have h01 := h 0 1 slices_S256x64x3x3_S256x64x1x1_0_0_0_1 slices_S100x64x9x9_S100x64x7x7_0_0_0_1
  have h02 := h 0 2 slices_S256x64x3x3_S256x64x1x1_0_0_0_2 slices_S100x64x9x9_S100x64x7x7_0_0_0_2
  have h10 := h 1 0 slices_S256x64x3x3_S256x64x1x1_0_0_1_0 slices_S100x64x9x9_S100x64x7x7_0_0_1_0
  have h11 := h 1 1 slices_S256x64x3x3_S256x64x1x1_0_0_1_1 slices_S100x64x9x9_S100x64x7x7_0_0_1_1
  have h12 := h 1 2 slices_S256x64x3x3_S256x64x1x1_0_0_1_2 slices_S100x64x9x9_S100x64x7x7_0_0_1_2
  have h20 := h 2 0 slices_S256x64x3x3_S256x64x1x1_0_0_2_0 slices_S100x64x9x9_S100x64x7x7_0_0_2_0
  have h21 := h 2 1 slices_S256x64x3x3_S256x64x1x1_0_0_2_1 slices_S100x64x9x9_S100x64x7x7_0_0_2_1
  have h22 := h 2 2 slices_S256x64x3x3_S256x64x1x1_0_0_2_2 slices_S100x64x9x9_S100x64x7x7_0_0_2_2
  simp only [Fin.val_zero, Fin.val_one, Fin.val_two] at h00 h01 h02 h10 h11 h12 h20 h21 h22
  rw [h00, h01, h02, h10, h11, h12, h20, h21, h22]
  rfl

/-- The images with 256 channels inside a border of zeros. -/
def rimR256 (v : FVec Ideal S100x256x7x7 .f32) : FVec Ideal S100x256x9x9 .f32 :=
  pad S100x256x9x9 ![0, 0, 1, 1] ![0, 0, 1, 1] ![0, 0, 0, 0] v (sitofp .f32 (constantI S_ 32 0#32))
    pads_S100x256x7x7_S100x256x9x9_000_000_110_110 h_S_

theorem rimR256_apply (v : FVec Ideal S100x256x7x7 .f32) (n : Fin 100) (c : Fin 256) (p q : Fin 9) :
    rimR256 v (ix4 n c p q) = border (fun a b => v (ix4 n c a b)) p q := by
  pointwise [rimR256]
  unfold border
  simp only [sitofp_zero]
  split_ifs <;> first | rfl | omega

/-- One tap of a convolution over 256 channels. -/
def tapR256 (o : Fin 4 → Nat) (o' : Fin 4 → Nat) (h : S256x256x3x3.Slices o S256x256x1x1)
    (h' : S100x256x9x9.Slices o' S100x256x7x7) (w : FVec Ideal S256x256x3x3 .f32) (xp : FVec Ideal S100x256x9x9 .f32) :
    FVec Ideal S100x256x7x7 .f32 :=
  transpose S100x256x7x7 [1, 0, 2, 3]
    (Host.dotGeneral (φ₁ := .f32) (φ₂ := .f32) dot_S256x256_S100x256x7x7_S256x100x7x7_1_1_0_023_n_n none
      (shapeCast S256x256 (extractStridedSlice S256x256x1x1 o w h) shapeCasts_S256x256x1x1_S256x256)
      (extractStridedSlice S100x256x7x7 o' xp h'))
    transposes_S256x100x7x7_S100x256x7x7_1_0_2_3

theorem tapR256_apply (i j : Fin 3) (h : S256x256x3x3.Slices ![0, 0, i.val, j.val] S256x256x1x1)
    (h' : S100x256x9x9.Slices ![0, 0, i.val, j.val] S100x256x7x7)
    (w : FVec Ideal S256x256x3x3 .f32) (xp : FVec Ideal S100x256x9x9 .f32)
    (n : Fin 100) (o : Fin 256) (y x : Fin 7) :
    tapR256 ![0, 0, i.val, j.val] ![0, 0, i.val, j.val] h h' w xp (ix4 n o y x)
      = ∑ c : Fin 256, xp (ix4 n c ⟨i.val + y.val, by omega⟩ ⟨j.val + x.val, by omega⟩) * w (ix4 o c i j) := by
  pointwise [tapR256]
  refine Finset.sum_congr rfl fun c _ => ?_
  rw [mul_comm]
  try congr 2

/-- The nine taps and the bias. -/
def convR256 (w : FVec Ideal S256x256x3x3 .f32) (b : FVec Ideal S256 .f32) (xp : FVec Ideal S100x256x9x9 .f32) :
    FVec Ideal S100x256x7x7 .f32 :=
  addf (addf (addf (addf (addf (addf (addf (addf (addf (tapR256 ![0, 0, 0, 0] ![0, 0, 0, 0] slices_S256x256x3x3_S256x256x1x1_0_0_0_0
      slices_S100x256x9x9_S100x256x7x7_0_0_0_0 w xp)
    (tapR256 ![0, 0, 0, 1] ![0, 0, 0, 1] slices_S256x256x3x3_S256x256x1x1_0_0_0_1
      slices_S100x256x9x9_S100x256x7x7_0_0_0_1 w xp))
    (tapR256 ![0, 0, 0, 2] ![0, 0, 0, 2] slices_S256x256x3x3_S256x256x1x1_0_0_0_2
      slices_S100x256x9x9_S100x256x7x7_0_0_0_2 w xp))
    (tapR256 ![0, 0, 1, 0] ![0, 0, 1, 0] slices_S256x256x3x3_S256x256x1x1_0_0_1_0
      slices_S100x256x9x9_S100x256x7x7_0_0_1_0 w xp))
    (tapR256 ![0, 0, 1, 1] ![0, 0, 1, 1] slices_S256x256x3x3_S256x256x1x1_0_0_1_1
      slices_S100x256x9x9_S100x256x7x7_0_0_1_1 w xp))
    (tapR256 ![0, 0, 1, 2] ![0, 0, 1, 2] slices_S256x256x3x3_S256x256x1x1_0_0_1_2
      slices_S100x256x9x9_S100x256x7x7_0_0_1_2 w xp))
    (tapR256 ![0, 0, 2, 0] ![0, 0, 2, 0] slices_S256x256x3x3_S256x256x1x1_0_0_2_0
      slices_S100x256x9x9_S100x256x7x7_0_0_2_0 w xp))
    (tapR256 ![0, 0, 2, 1] ![0, 0, 2, 1] slices_S256x256x3x3_S256x256x1x1_0_0_2_1
      slices_S100x256x9x9_S100x256x7x7_0_0_2_1 w xp))
    (tapR256 ![0, 0, 2, 2] ![0, 0, 2, 2] slices_S256x256x3x3_S256x256x1x1_0_0_2_2
      slices_S100x256x9x9_S100x256x7x7_0_0_2_2 w xp))
    (broadcastInDim S100x256x7x7 ![0, 1, 2, 3] bcast_S1x256x1x1_S100x256x7x7_0_1_2_3
      (broadcastInDim S1x256x1x1 ![1] bcast_S256_S1x256x1x1_1 b))

theorem convR256_apply (w : FVec Ideal S256x256x3x3 .f32) (b : FVec Ideal S256 .f32)
    (v : FVec Ideal S100x256x7x7 .f32) (n : Fin 100) (o : Fin 256) (y x : Fin 7) :
    convR256 w b (rimR256 v) (ix4 n o y x)
      = conv9 (fun c p q => v (ix4 n c p q)) (fun i j c => w (ix4 o c i j)) y x + b (ix1 o) := by
  have h (i j : Fin 3) (h1 h2) := tapR256_apply i j h1 h2 w (rimR256 v) n o y x
  simp only [rimR256_apply] at h
  pointwise [convR256]
  have h00 := h 0 0 slices_S256x256x3x3_S256x256x1x1_0_0_0_0 slices_S100x256x9x9_S100x256x7x7_0_0_0_0
  have h01 := h 0 1 slices_S256x256x3x3_S256x256x1x1_0_0_0_1 slices_S100x256x9x9_S100x256x7x7_0_0_0_1
  have h02 := h 0 2 slices_S256x256x3x3_S256x256x1x1_0_0_0_2 slices_S100x256x9x9_S100x256x7x7_0_0_0_2
  have h10 := h 1 0 slices_S256x256x3x3_S256x256x1x1_0_0_1_0 slices_S100x256x9x9_S100x256x7x7_0_0_1_0
  have h11 := h 1 1 slices_S256x256x3x3_S256x256x1x1_0_0_1_1 slices_S100x256x9x9_S100x256x7x7_0_0_1_1
  have h12 := h 1 2 slices_S256x256x3x3_S256x256x1x1_0_0_1_2 slices_S100x256x9x9_S100x256x7x7_0_0_1_2
  have h20 := h 2 0 slices_S256x256x3x3_S256x256x1x1_0_0_2_0 slices_S100x256x9x9_S100x256x7x7_0_0_2_0
  have h21 := h 2 1 slices_S256x256x3x3_S256x256x1x1_0_0_2_1 slices_S100x256x9x9_S100x256x7x7_0_0_2_1
  have h22 := h 2 2 slices_S256x256x3x3_S256x256x1x1_0_0_2_2 slices_S100x256x9x9_S100x256x7x7_0_0_2_2
  simp only [Fin.val_zero, Fin.val_one, Fin.val_two] at h00 h01 h02 h10 h11 h12 h20 h21 h22
  rw [h00, h01, h02, h10, h11, h12, h20, h21, h22]
  rfl

/-- The maximum with zero. -/
def reluR (v : FVec Ideal S100x256x7x7 .f32) : FVec Ideal S100x256x7x7 .f32 :=
  maximumf v (broadcastInDim S100x256x7x7 ![] bcast_S_S100x256x7x7 (constant S_ .f32 0x00000000#32))

theorem layerR64 (w : FVec Ideal S256x64x3x3 .f32) (b : FVec Ideal S256 .f32)
    (v : FVec Ideal S100x64x7x7 .f32) (n : Fin 100) (o : Fin 256) (y x : Fin 7) :
    reluR (convR64 w b (rimR64 v)) (ix4 n o y x)
      = layer (fun c p q => v (ix4 n c p q)) (fun i j c o => w (ix4 o c i j)) (fun o => b (ix1 o)) o y x := by
  rw [layer, ← convR64_apply]
  pointwise [reluR]

theorem layerR256 (w : FVec Ideal S256x256x3x3 .f32) (b : FVec Ideal S256 .f32)
    (v : FVec Ideal S100x256x7x7 .f32) (n : Fin 100) (o : Fin 256) (y x : Fin 7) :
    reluR (convR256 w b (rimR256 v)) (ix4 n o y x)
      = layer (fun c p q => v (ix4 n c p q)) (fun i j c o => w (ix4 o c i j)) (fun o => b (ix1 o)) o y x := by
  rw [layer, ← convR256_apply]
  pointwise [reluR]

/-- The transposed convolution with stride two, before its bias. -/
def upR (w : FVec Ideal S256x256x2x2 .f32) (z : FVec Ideal S100x256x7x7 .f32) :
    FVec Ideal S100x256x14x14 .f32 :=
  shapeCast S100x256x14x14
    (transpose S100x256x7x2x7x2 [3, 0, 4, 1, 5, 2]
      (Host.dotGeneral (φ₁ := .f32) (φ₂ := .f32) dot_S256x256x2x2_S100x256x7x7_S256x2x2x100x7x7_1_1_023_023_n_n none
        (Host.reverse [2, 3] w) z)
      transposes_S256x2x2x100x7x7_S100x256x7x2x7x2_3_0_4_1_5_2)
    shapeCasts_S100x256x7x2x7x2_S100x256x14x14

theorem upR_apply (w : FVec Ideal S256x256x2x2 .f32) (z : FVec Ideal S100x256x7x7 .f32)
    (n : Fin 100) (o : Fin 256) (i j : Fin 2) (y x : Fin 7) :
    upR w z (ix4 n o ⟨y.val * 2 + i.val, by omega⟩ ⟨x.val * 2 + j.val, by omega⟩)
      = ∑ c, z (ix4 n c y x) * w (ix4 o c i.rev j.rev) := by
  pointwise [upR]
  refine Finset.sum_congr rfl fun c _ => ?_
  rw [mul_comm]
  congr 2

/-- The 1x1 convolution after it with one output, both with their biases. -/
def headR1 (wd : FVec Ideal S256x256x2x2 .f32) (bd : FVec Ideal S256 .f32)
    (wo : FVec Ideal S1x256x1x1 .f32) (bo : FVec Ideal S1 .f32) (z : FVec Ideal S100x256x7x7 .f32) :
    FVec Ideal S100x1x14x14 .f32 :=
  addf (transpose S100x1x14x14 [1, 0, 2, 3]
      (Host.dotGeneral (φ₁ := .f32) (φ₂ := .f32) dot_S1x256_S100x256x14x14_S1x100x14x14_1_1_0_023_n_n none
        (shapeCast S1x256 wo shapeCasts_S1x256x1x1_S1x256)
        (addf (upR wd z) (broadcastInDim S100x256x14x14 ![0, 1, 2, 3] bcast_S1x256x1x1_S100x256x14x14_0_1_2_3
          (broadcastInDim S1x256x1x1 ![1] bcast_S256_S1x256x1x1_1 bd))))
      transposes_S1x100x14x14_S100x1x14x14_1_0_2_3)
    (broadcastInDim S100x1x14x14 ![0, 1, 2, 3] bcast_S1x1x1x1_S100x1x14x14_0_1_2_3
      (broadcastInDim S1x1x1x1 ![1] bcast_S1_S1x1x1x1_1 bo))

theorem headR1_apply (wd : FVec Ideal S256x256x2x2 .f32) (bd : FVec Ideal S256 .f32)
    (wo : FVec Ideal S1x256x1x1 .f32) (bo : FVec Ideal S1 .f32) (z : FVec Ideal S100x256x7x7 .f32)
    (n : Fin 100) (i j : Fin 2) (y x : Fin 7) :
    headR1 wd bd wo bo z (ix4 n 0 ⟨y.val * 2 + i.val, by omega⟩ ⟨x.val * 2 + j.val, by omega⟩)
      = headOf (fun c => z (ix4 n c y x)) (fun c o => wd (ix4 o c i.rev j.rev)) (fun o => bd (ix1 o))
          (fun o => wo (ix4 0 o 0 0)) (bo (ix1 0)) := by
  have h (o : Fin 256) := upR_apply wd z n o i j y x
  pointwise [headR1]
  unfold headOf
  congr 1
  refine Finset.sum_congr rfl fun o _ => ?_
  rw [h, mul_comm]

/-- The 1x1 convolution after it with two outputs, both with their biases. -/
def headR2 (wd : FVec Ideal S256x256x2x2 .f32) (bd : FVec Ideal S256 .f32)
    (wo : FVec Ideal S2x256x1x1 .f32) (bo : FVec Ideal S2 .f32) (z : FVec Ideal S100x256x7x7 .f32) :
    FVec Ideal S100x2x14x14 .f32 :=
  addf (transpose S100x2x14x14 [1, 0, 2, 3]
      (Host.dotGeneral (φ₁ := .f32) (φ₂ := .f32) dot_S2x256_S100x256x14x14_S2x100x14x14_1_1_0_023_n_n none
        (shapeCast S2x256 wo shapeCasts_S2x256x1x1_S2x256)
        (addf (upR wd z) (broadcastInDim S100x256x14x14 ![0, 1, 2, 3] bcast_S1x256x1x1_S100x256x14x14_0_1_2_3
          (broadcastInDim S1x256x1x1 ![1] bcast_S256_S1x256x1x1_1 bd))))
      transposes_S2x100x14x14_S100x2x14x14_1_0_2_3)
    (broadcastInDim S100x2x14x14 ![0, 1, 2, 3] bcast_S1x2x1x1_S100x2x14x14_0_1_2_3
      (broadcastInDim S1x2x1x1 ![1] bcast_S2_S1x2x1x1_1 bo))

theorem headR2_apply (wd : FVec Ideal S256x256x2x2 .f32) (bd : FVec Ideal S256 .f32)
    (wo : FVec Ideal S2x256x1x1 .f32) (bo : FVec Ideal S2 .f32) (z : FVec Ideal S100x256x7x7 .f32)
    (n : Fin 100) (k : Fin 2) (i j : Fin 2) (y x : Fin 7) :
    headR2 wd bd wo bo z (ix4 n k ⟨y.val * 2 + i.val, by omega⟩ ⟨x.val * 2 + j.val, by omega⟩)
      = headOf (fun c => z (ix4 n c y x)) (fun c o => wd (ix4 o c i.rev j.rev)) (fun o => bd (ix1 o))
          (fun o => wo (ix4 k o 0 0)) (bo (ix1 k)) := by
  have h (o : Fin 256) := upR_apply wd z n o i j y x
  pointwise [headR2]
  unfold headOf
  congr 1
  refine Finset.sum_congr rfl fun o _ => ?_
  rw [h, mul_comm]

/-! ## The whole network -/

/-- The four layers on the samples. -/
def netR (w1 : FVec Ideal S256x64x3x3 .f32) (b1 : FVec Ideal S256 .f32)
    (w2 : FVec Ideal S256x256x3x3 .f32) (b2 : FVec Ideal S256 .f32)
    (w3 : FVec Ideal S256x256x3x3 .f32) (b3 : FVec Ideal S256 .f32)
    (w4 : FVec Ideal S256x256x3x3 .f32) (b4 : FVec Ideal S256 .f32)
    (v : FVec Ideal S100x64x7x7 .f32) : FVec Ideal S100x256x7x7 .f32 :=
  reluR (convR256 w4 b4 (rimR256 (reluR (convR256 w3 b3 (rimR256 (reluR (convR256 w2 b2 (rimR256
    (reluR (convR64 w1 b1 (rimR64 v)))))))))))

section
variable (V0 : Valuation τ sig (Elt Ideal))

theorem net_eq : res_main_v380 V0
    = netR (V0 (Proc.devRef .tc main_arg2)) (V0 (Proc.devRef .tc main_arg3))
        (V0 (Proc.devRef .tc main_arg4)) (V0 (Proc.devRef .tc main_arg5))
        (V0 (Proc.devRef .tc main_arg6)) (V0 (Proc.devRef .tc main_arg7))
        (V0 (Proc.devRef .tc main_arg8)) (V0 (Proc.devRef .tc main_arg9)) (res_main_v148 V0) := by
  have h1 : res_main_v205 V0 = convR64 (V0 (Proc.devRef .tc main_arg2)) (V0 (Proc.devRef .tc main_arg3))
      (rimR64 (res_main_v148 V0)) := rfl
  have h2 : res_main_v263 V0 = convR256 (V0 (Proc.devRef .tc main_arg4)) (V0 (Proc.devRef .tc main_arg5))
      (rimR256 (reluR (res_main_v205 V0))) := rfl
  have h3 : res_main_v321 V0 = convR256 (V0 (Proc.devRef .tc main_arg6)) (V0 (Proc.devRef .tc main_arg7))
      (rimR256 (reluR (res_main_v263 V0))) := rfl
  have h4 : res_main_v379 V0 = convR256 (V0 (Proc.devRef .tc main_arg8)) (V0 (Proc.devRef .tc main_arg9))
      (rimR256 (reluR (res_main_v321 V0))) := rfl
  have h5 : res_main_v380 V0 = reluR (res_main_v379 V0) := rfl
  rw [h5, h4, h3, h2, h1]
  rfl

/-- An argument's contents. -/
theorem net_apply (n : Fin 100) (o : Fin 256) (y x : Fin 7) :
    res_main_v380 V0 (ix4 n o y x)
      = stem (boxAt V0 n) (featAt V0)
          (fun i j c o => (V0 (Proc.devRef .tc main_arg2) : S256x64x3x3.Idx → EReal) (ix4 o c i j))
          (fun o => (V0 (Proc.devRef .tc main_arg3) : S256.Idx → EReal) (ix1 o))
          (fun i j c o => (V0 (Proc.devRef .tc main_arg4) : S256x256x3x3.Idx → EReal) (ix4 o c i j))
          (fun o => (V0 (Proc.devRef .tc main_arg5) : S256.Idx → EReal) (ix1 o))
          (fun i j c o => (V0 (Proc.devRef .tc main_arg6) : S256x256x3x3.Idx → EReal) (ix4 o c i j))
          (fun o => (V0 (Proc.devRef .tc main_arg7) : S256.Idx → EReal) (ix1 o))
          (fun i j c o => (V0 (Proc.devRef .tc main_arg8) : S256x256x3x3.Idx → EReal) (ix4 o c i j))
          (fun o => (V0 (Proc.devRef .tc main_arg9) : S256.Idx → EReal) (ix1 o)) o y x := by
  rw [net_eq, netR]
  simp only [layerR256, layerR64, samples]
  rfl

end

end Cert.Head
-- ==== Proof.Equal.lean ====
module

public import proofs.«01_k».proof.Proof.Results
public import proofs.«01_k».proof.Proof.Reference
public import proofs.«01_k».proof.Proof.Gen.Pre_finite_boxes
public import Idealize.ShloMosaic.Lib.ReduceAll

@[expose] public section

set_option maxRecDepth 16384

noncomputable section

namespace Cert.Head

open Idealize.ShloMosaic Idealize.SL.Sem

/-! ## The precondition -/

section
open Cert.Pre_finite_boxes Cert.Pre_finite_boxes.Gen

theorem infinity_eq : Ideal.ofBits FTy.f32 0x7F800000#32 = ⊤ := by
  simp [Ideal.ofBits, Ideal.ieee]

theorem real_of_abs (v : EReal) (h : FloatOps.hostAbsf (F := Ideal) (φ := .f32) v < ⊤) :
    ∃ r : ℝ, v = (r : EReal) := by
  induction v with
  | bot => simp [FloatOps.hostAbsf] at h
  | top => simp [FloatOps.hostAbsf] at h
  | coe r => exact ⟨r, rfl⟩

theorem finite_of_pre a0 a1 a2 a3 a4 a5 a6 a7 a8 a9 a10 a11 a12 a13 a14 a15 a16 a17
    (h : Cert.Pre_finite_boxes.fn (F := Ideal) a0 a1 a2 a3 a4 a5 a6 a7 a8 a9 a10 a11 a12 a13 a14 a15 a16 a17 = fun _ => 1#1) :
    Finite a0 := by
  intro n k
  have : Subsingleton S_.Idx := ⟨fun a b => funext fun i => i.elim0⟩
  have e := Host.reduce_andi_all _ _ _ _ _ (congrFun h (fun a => a.elim0)) (ix2 n k)
  have lhs : extractStridedSlice S100x4 ![0, 0] a0 (by decide) (ix2 n k) = a0 (ix2 n ⟨k.val, by omega⟩) := by
    clean_types
    pointwise
  have e' : BitVec.ofBool (decide (FloatOps.hostAbsf (F := Ideal) (φ := .f32)
      (extractStridedSlice S100x4 ![0, 0] a0 (by decide) (ix2 n k)) < Ideal.ofBits FTy.f32 0x7F800000#32)) = 1#1 := e
  rw [lhs, infinity_eq] at e'
  refine real_of_abs _ (by_contra fun hn => ?_)
  rw [decide_eq_false hn] at e'
  exact absurd e' (by decide)

end

/-! ## The reference's results, of the launch contents -/

section
open Cert.ReferenceIdeal Cert.ReferenceIdeal.Gen Cert.ReferenceIdeal.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

theorem ref_heat (c : Dev Cert.KernelIdeal.nD) (h : Agree m m' c) :
    headR1 (StableHlo.launchContents m' c (Proc.devRef .tc main_arg10)) (StableHlo.launchContents m' c (Proc.devRef .tc main_arg11))
      (StableHlo.launchContents m' c (Proc.devRef .tc main_arg12)) (StableHlo.launchContents m' c (Proc.devRef .tc main_arg13)) (res_main_v380 (StableHlo.launchContents m' c)) = heatV m c := by
  obtain ⟨h0, h1, h2, h3, h4, h5, h6, h7, h8, h9, h10, h11, h12, h13, h14, h15, h16, h17⟩ := h
  have key (n : Fin 100) (i j : Fin 2) (y x : Fin 7) :
      headR1 (StableHlo.launchContents m' c (Proc.devRef .tc main_arg10)) (StableHlo.launchContents m' c (Proc.devRef .tc main_arg11)) (StableHlo.launchContents m' c (Proc.devRef .tc main_arg12)) (StableHlo.launchContents m' c (Proc.devRef .tc main_arg13))
        (res_main_v380 (StableHlo.launchContents m' c))
        (ix4 n 0 ⟨y.val * 2 + i.val, by omega⟩ ⟨x.val * 2 + j.val, by omega⟩)
      = heatV m c (ix4 n 0 ⟨y.val * 2 + i.val, by omega⟩ ⟨x.val * 2 + j.val, by omega⟩) := by
    rw [headR1_apply, heatV_apply, heatZ_at]
    simp only [net_apply]
    rw [← h0, ← h1, ← h2, ← h3, ← h4, ← h5, ← h6, ← h7, ← h8, ← h9, ← h10, ← h11, ← h12, ← h13]
    rfl
  funext z
  idx_vars z
  obtain rfl : z1 = 0 := Subsingleton.elim _ _
  have e2 : z2 = ⟨(⟨z2.val / 2, by omega⟩ : Fin 7).val * 2 + (⟨z2.val % 2, by omega⟩ : Fin 2).val,
      by dsimp only; omega⟩ := Fin.ext (by dsimp only; omega)
  have e3 : z3 = ⟨(⟨z3.val / 2, by omega⟩ : Fin 7).val * 2 + (⟨z3.val % 2, by omega⟩ : Fin 2).val,
      by dsimp only; omega⟩ := Fin.ext (by dsimp only; omega)
  rw [e2, e3]
  exact key z0 _ _ _ _

theorem ref_size (c : Dev Cert.KernelIdeal.nD) (h : Agree m m' c) :
    headR2 (StableHlo.launchContents m' c (Proc.devRef .tc main_arg14)) (StableHlo.launchContents m' c (Proc.devRef .tc main_arg15))
      (StableHlo.launchContents m' c (Proc.devRef .tc main_arg16)) (StableHlo.launchContents m' c (Proc.devRef .tc main_arg17)) (res_main_v380 (StableHlo.launchContents m' c)) = sizeV m c := by
  obtain ⟨h0, h1, h2, h3, h4, h5, h6, h7, h8, h9, h10, h11, h12, h13, h14, h15, h16, h17⟩ := h
  have key (n : Fin 100) (k : Fin 2) (i j : Fin 2) (y x : Fin 7) :
      headR2 (StableHlo.launchContents m' c (Proc.devRef .tc main_arg14)) (StableHlo.launchContents m' c (Proc.devRef .tc main_arg15)) (StableHlo.launchContents m' c (Proc.devRef .tc main_arg16)) (StableHlo.launchContents m' c (Proc.devRef .tc main_arg17))
        (res_main_v380 (StableHlo.launchContents m' c))
        (ix4 n k ⟨y.val * 2 + i.val, by omega⟩ ⟨x.val * 2 + j.val, by omega⟩)
      = sizeV m c (ix4 n k ⟨y.val * 2 + i.val, by omega⟩ ⟨x.val * 2 + j.val, by omega⟩) := by
    rw [headR2_apply, sizeV_apply, sizeZ_at]
    simp only [net_apply]
    rw [← h0, ← h1, ← h2, ← h3, ← h4, ← h5, ← h6, ← h7, ← h8, ← h9, ← h14, ← h15, ← h16, ← h17]
    rfl
  funext z
  idx_vars z

  have e2 : z2 = ⟨(⟨z2.val / 2, by omega⟩ : Fin 7).val * 2 + (⟨z2.val % 2, by omega⟩ : Fin 2).val,
      by dsimp only; omega⟩ := Fin.ext (by dsimp only; omega)
  have e3 : z3 = ⟨(⟨z3.val / 2, by omega⟩ : Fin 7).val * 2 + (⟨z3.val % 2, by omega⟩ : Fin 2).val,
      by dsimp only; omega⟩ := Fin.ext (by dsimp only; omega)
  rw [e2, e3]
  exact key z0 z1 _ _ _ _

end

end Cert.Head
-- ==== Proof.RefRun.lean ====
module

public import proofs.«01_k».proof.Proof.Gen.Reference2Ideal
public import Idealize.ShloMosaic.Lib.StableHlo.RunLoop
public import Idealize.ShloMosaic.Lib.Pipeline.Regions
public import Idealize.ShloMosaic.Lib.Quiescent
public import Idealize.ShloMosaic.Lib.Claim
public import Idealize.ShloMosaic.Lib.WordCmp
public import Idealize.ShloMosaic.Lib.Exec

/-! The reference of the suppression program, run: its host lines in stretches, the counted loop between them, and
what every buffer holds at the end. -/

@[expose] public section

set_option maxRecDepth 16384

noncomputable section

namespace Cert.NmsRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held atTrip afterL CondSpec entryContents finalContents)
open Idealize.ShloMosaic.Pipeline (ucRefs sub_ucRefs)
open Cert.Reference2Ideal Cert.Reference2Ideal.Gen

variable {F : FTy → Type} [FloatOps F]

/-- A stretch of 11 host lines. -/
abbrev a0 : List (HloOp τ sig (Elt F)) :=
  ( StableHlo.reshape main_arg0 main_v0 (rfl : (.f32 : EltTy) = .f32) shapeCasts_S1x5000x6_S5000x6
  :: StableHlo.unary main_v0 main_v1 ((extractStridedSlice S5000x4 ![0, 0] · slices_S5000x6_S5000x4_0_0) : (⟨S5000x6, .f32⟩ : BufTy).Contents (Elt F) → (⟨S5000x4, .f32⟩ : BufTy).Contents (Elt F))
  :: StableHlo.unary main_v0 main_v2 ((extractStridedSlice S5000x1 ![0, 4] · slices_S5000x6_S5000x1_0_4) : (⟨S5000x6, .f32⟩ : BufTy).Contents (Elt F) → (⟨S5000x1, .f32⟩ : BufTy).Contents (Elt F))
  :: StableHlo.reshape main_v2 main_v3 (rfl : (.f32 : EltTy) = .f32) shapeCasts_S5000x1_S5000
  :: StableHlo.unary main_v0 main_v4 ((extractStridedSlice S5000x1 ![0, 5] · slices_S5000x6_S5000x1_0_5) : (⟨S5000x6, .f32⟩ : BufTy).Contents (Elt F) → (⟨S5000x1, .f32⟩ : BufTy).Contents (Elt F))
  :: StableHlo.reshape main_v4 main_v5 (rfl : (.f32 : EltTy) = .f32) shapeCasts_S5000x1_S5000
  :: StableHlo.nullary main_v6 (iotaInDim S5000 32 0)
  :: StableHlo.nullary main_cst (constant S_ .f32 0x00000000#32)
  :: StableHlo.unary main_cst main_v7 (broadcastInDim S5000 ![] bcast_S_S5000 : (⟨S_, .f32⟩ : BufTy).Contents (Elt F) → (⟨S5000, .f32⟩ : BufTy).Contents (Elt F))
  :: StableHlo.binary main_v5 main_v7 main_v8 (cmpf .oeq : (⟨S5000, .f32⟩ : BufTy).Contents (Elt F) → (⟨S5000, .f32⟩ : BufTy).Contents (Elt F) → (⟨S5000, .i1⟩ : BufTy).Contents (Elt F))
  :: StableHlo.nullary main_cst_0 (constant S_ .f32 0xCE6E6B28#32)
  :: [] )

theorem a0_sub : (a0 : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.unary_bufs_sub .., StableHlo.binary_bufs_sub .., StableHlo.nullary_bufs_sub ..⟩

/-- A stretch of 3 host lines. -/
abbrev a1 : List (HloOp τ sig (Elt F)) :=
  ( StableHlo.TRef.unary (.of main_cst_0 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S5000, .f32⟩) (broadcastInDim S5000 ![] bcast_S_S5000)
  :: StableHlo.TRef.ternary (.of main_v8 : StableHlo.TRef sig ⟨S5000, .i1⟩) (.of main_v3 : StableHlo.TRef sig ⟨S5000, .f32⟩) (.of main_call0_v1 : StableHlo.TRef sig ⟨S5000, .f32⟩) (.of main_v9 : StableHlo.TRef sig ⟨S5000, .f32⟩) select
  :: [] )

theorem a1_sub : (a1 : List (HloOp τ sig (Elt F))).Forall fun op => op.bufs ⊆ StableHlo.tcRefs τ sig :=
  ⟨StableHlo.unary_bufs_sub .., StableHlo.unary_bufs_sub .., StableHlo.ternary_bufs_sub ..⟩

/-- A stretch of 1 host lines. -/
abbrev a2 : List (HloOp τ sig (Elt F)) :=
  ( StableHlo.unary main_v9 main_v10 (Host.negf : (⟨S5000, .f32⟩ : BufTy).Contents (Elt F) → (⟨S5000, .f32⟩ : BufTy).Contents (Elt F))
  :: [] )

theorem a2_sub : (a2 : List (HloOp τ sig (Elt F))).Forall fun op => op.bufs ⊆ StableHlo.tcRefs τ sig :=
  StableHlo.unary_bufs_sub ..

/-- A stretch of 3 host lines. -/
abbrev a3 : List (HloOp τ sig (Elt F)) :=
  ( StableHlo.TRef.nullary (.of main_call1_v0 : StableHlo.TRef sig ⟨S5000, .i32⟩) (iotaInDim S5000 32 0)
  :: StableHlo.TRef.binary (.of main_v10 : StableHlo.TRef sig ⟨S5000, .f32⟩) (.of main_call1_v0 : StableHlo.TRef sig ⟨S5000, .i32⟩) (.of main_call1_v1_0 : StableHlo.TRef sig ⟨S5000, .f32⟩) (fun x y => (Host.sort2 S5000 0 comparator_f32_i32_d0 x y).1)
  :: StableHlo.TRef.binary (.of main_v10 : StableHlo.TRef sig ⟨S5000, .f32⟩) (.of main_call1_v0 : StableHlo.TRef sig ⟨S5000, .i32⟩) (.of main_v11 : StableHlo.TRef sig ⟨S5000, .i32⟩) (fun x y => (Host.sort2 S5000 0 comparator_f32_i32_d0 x y).2)
  :: [] )

theorem a3_sub : (a3 : List (HloOp τ sig (Elt F))).Forall fun op => op.bufs ⊆ StableHlo.tcRefs τ sig :=
  ⟨StableHlo.nullary_bufs_sub .., StableHlo.binary_bufs_sub .., StableHlo.binary_bufs_sub ..⟩

/-- A stretch of 9 host lines. -/
abbrev a4 : List (HloOp τ sig (Elt F)) :=
  ( StableHlo.nullary main_c (constantI S_ 32 0#32)
  :: StableHlo.unary main_c main_v12 (broadcastInDim S5000 ![] bcast_S_S5000 : (⟨S_, .i32⟩ : BufTy).Contents (Elt F) → (⟨S5000, .i32⟩ : BufTy).Contents (Elt F))
  :: StableHlo.binary main_v11 main_v12 main_v13 (cmpi .slt : (⟨S5000, .i32⟩ : BufTy).Contents (Elt F) → (⟨S5000, .i32⟩ : BufTy).Contents (Elt F) → (⟨S5000, .i1⟩ : BufTy).Contents (Elt F))
  :: StableHlo.nullary main_c_1 (constantI S_ 32 5000#32)
  :: StableHlo.unary main_c_1 main_v14 (broadcastInDim S5000 ![] bcast_S_S5000 : (⟨S_, .i32⟩ : BufTy).Contents (Elt F) → (⟨S5000, .i32⟩ : BufTy).Contents (Elt F))
  :: StableHlo.binary main_v11 main_v14 main_v15 (addi : (⟨S5000, .i32⟩ : BufTy).Contents (Elt F) → (⟨S5000, .i32⟩ : BufTy).Contents (Elt F) → (⟨S5000, .i32⟩ : BufTy).Contents (Elt F))
  :: StableHlo.ternary main_v13 main_v15 main_v11 main_v16 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F))
  :: StableHlo.unary main_v16 main_v17 (broadcastInDim S5000x1 ![0] bcast_S5000_S5000x1_0 : (⟨S5000, .i32⟩ : BufTy).Contents (Elt F) → (⟨S5000x1, .i32⟩ : BufTy).Contents (Elt F))
  :: StableHlo.binary main_v1 main_v17 main_v18 ((fun x i => Host.gather gather_S5000x4_S5000x1_S5000x4_1_0_n_n_0_1_14 x i) : (⟨S5000x4, .f32⟩ : BufTy).Contents (Elt F) → (⟨S5000x1, .i32⟩ : BufTy).Contents (Elt F) → (⟨S5000x4, .f32⟩ : BufTy).Contents (Elt F))
  :: [] )

theorem a4_sub : (a4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- A stretch of 33 host lines. -/
abbrev a5 : List (HloOp τ sig (Elt F)) :=
  ( StableHlo.unary main_v18 main_v19 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_v19 main_v20 (rfl : (.f32 : EltTy) = .f32) shapeCasts_S5000x1_S5000
  :: StableHlo.unary main_v18 main_v21 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_v21 main_v22 (rfl : (.f32 : EltTy) = .f32) shapeCasts_S5000x1_S5000
  :: StableHlo.unary main_v18 main_v23 ((extractStridedSlice S5000x1 ![0, 2] · slices_S5000x4_S5000x1_0_2) : (⟨S5000x4, .f32⟩ : BufTy).Contents (Elt F) → (⟨S5000x1, .f32⟩ : BufTy).Contents (Elt F))
  :: StableHlo.reshape main_v23 main_v24 (rfl : (.f32 : EltTy) = .f32) shapeCasts_S5000x1_S5000
  :: StableHlo.unary main_v18 main_v25 ((extractStridedSlice S5000x1 ![0, 3] · slices_S5000x4_S5000x1_0_3) : (⟨S5000x4, .f32⟩ : BufTy).Contents (Elt F) → (⟨S5000x1, .f32⟩ : BufTy).Contents (Elt F))
  :: StableHlo.reshape main_v25 main_v26 (rfl : (.f32 : EltTy) = .f32) shapeCasts_S5000x1_S5000
  :: StableHlo.binary main_v24 main_v20 main_v27 (subf : (⟨S5000, .f32⟩ : BufTy).Contents (Elt F) → (⟨S5000, .f32⟩ : BufTy).Contents (Elt F) → (⟨S5000, .f32⟩ : BufTy).Contents (Elt F))
  :: StableHlo.binary main_v26 main_v22 main_v28 (subf : (⟨S5000, .f32⟩ : BufTy).Contents (Elt F) → (⟨S5000, .f32⟩ : BufTy).Contents (Elt F) → (⟨S5000, .f32⟩ : BufTy).Contents (Elt F))
  :: StableHlo.binary main_v27 main_v28 main_v29 (mulf : (⟨S5000, .f32⟩ : BufTy).Contents (Elt F) → (⟨S5000, .f32⟩ : BufTy).Contents (Elt F) → (⟨S5000, .f32⟩ : BufTy).Contents (Elt F))
  :: StableHlo.unary main_v20 main_v30 (broadcastInDim S5000x1 ![0] bcast_S5000_S5000x1_0 : (⟨S5000, .f32⟩ : BufTy).Contents (Elt F) → (⟨S5000x1, .f32⟩ : BufTy).Contents (Elt F))
  :: StableHlo.unary main_v20 main_v31 (broadcastInDim S1x5000 ![1] bcast_S5000_S1x5000_1 : (⟨S5000, .f32⟩ : BufTy).Contents (Elt F) → (⟨S1x5000, .f32⟩ : BufTy).Contents (Elt F))
  :: StableHlo.unary main_v30 main_v32 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v31 main_v33 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v32 main_v33 main_v34 (maximumf : (⟨S5000x5000, .f32⟩ : BufTy).Contents (Elt F) → (⟨S5000x5000, .f32⟩ : BufTy).Contents (Elt F) → (⟨S5000x5000, .f32⟩ : BufTy).Contents (Elt F))
  :: StableHlo.unary main_v22 main_v35 (broadcastInDim S5000x1 ![0] bcast_S5000_S5000x1_0 : (⟨S5000, .f32⟩ : BufTy).Contents (Elt F) → (⟨S5000x1, .f32⟩ : BufTy).Contents (Elt F))
  :: StableHlo.unary main_v22 main_v36 (broadcastInDim S1x5000 ![1] bcast_S5000_S1x5000_1 : (⟨S5000, .f32⟩ : BufTy).Contents (Elt F) → (⟨S1x5000, .f32⟩ : BufTy).Contents (Elt F))
  :: StableHlo.unary main_v35 main_v37 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v36 main_v38 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v37 main_v38 main_v39 (maximumf : (⟨S5000x5000, .f32⟩ : BufTy).Contents (Elt F) → (⟨S5000x5000, .f32⟩ : BufTy).Contents (Elt F) → (⟨S5000x5000, .f32⟩ : BufTy).Contents (Elt F))
  :: StableHlo.unary main_v24 main_v40 (broadcastInDim S5000x1 ![0] bcast_S5000_S5000x1_0 : (⟨S5000, .f32⟩ : BufTy).Contents (Elt F) → (⟨S5000x1, .f32⟩ : BufTy).Contents (Elt F))
  :: StableHlo.unary main_v24 main_v41 (broadcastInDim S1x5000 ![1] bcast_S5000_S1x5000_1 : (⟨S5000, .f32⟩ : BufTy).Contents (Elt F) → (⟨S1x5000, .f32⟩ : BufTy).Contents (Elt F))
  :: StableHlo.unary main_v40 main_v42 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v41 main_v43 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v42 main_v43 main_v44 (minimumf : (⟨S5000x5000, .f32⟩ : BufTy).Contents (Elt F) → (⟨S5000x5000, .f32⟩ : BufTy).Contents (Elt F) → (⟨S5000x5000, .f32⟩ : BufTy).Contents (Elt F))
  :: StableHlo.unary main_v26 main_v45 (broadcastInDim S5000x1 ![0] bcast_S5000_S5000x1_0 : (⟨S5000, .f32⟩ : BufTy).Contents (Elt F) → (⟨S5000x1, .f32⟩ : BufTy).Contents (Elt F))
  :: StableHlo.unary main_v26 main_v46 (broadcastInDim S1x5000 ![1] bcast_S5000_S1x5000_1 : (⟨S5000, .f32⟩ : BufTy).Contents (Elt F) → (⟨S1x5000, .f32⟩ : BufTy).Contents (Elt F))
  :: StableHlo.unary main_v45 main_v47 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v46 main_v48 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v47 main_v48 main_v49 (minimumf : (⟨S5000x5000, .f32⟩ : BufTy).Contents (Elt F) → (⟨S5000x5000, .f32⟩ : BufTy).Contents (Elt F) → (⟨S5000x5000, .f32⟩ : BufTy).Contents (Elt F))
  :: StableHlo.binary main_v44 main_v34 main_v50 (subf : (⟨S5000x5000, .f32⟩ : BufTy).Contents (Elt F) → (⟨S5000x5000, .f32⟩ : BufTy).Contents (Elt F) → (⟨S5000x5000, .f32⟩ : BufTy).Contents (Elt F))
  :: StableHlo.nullary main_cst_2 (constant S_ .f32 0x00000000#32)
  :: [] )

theorem a5_sub : (a5 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩

/-- A stretch of 3 host lines. -/
abbrev a6 : List (HloOp τ sig (Elt F)) :=
  ( StableHlo.TRef.unary (.of main_cst_2 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S5000x5000, .f32⟩) (broadcastInDim S5000x5000 ![] bcast_S_S5000x5000)
  :: StableHlo.TRef.binary (.of main_call2_v1 : StableHlo.TRef sig ⟨S5000x5000, .f32⟩) (.of main_v50 : StableHlo.TRef sig ⟨S5000x5000, .f32⟩) (.of main_v51 : StableHlo.TRef sig ⟨S5000x5000, .f32⟩) maximumf
  :: [] )

theorem a6_sub : (a6 : List (HloOp τ sig (Elt F))).Forall fun op => op.bufs ⊆ StableHlo.tcRefs τ sig :=
  ⟨StableHlo.unary_bufs_sub .., StableHlo.unary_bufs_sub .., StableHlo.binary_bufs_sub ..⟩

/-- A stretch of 2 host lines. -/
abbrev a7 : List (HloOp τ sig (Elt F)) :=
  ( StableHlo.binary main_v49 main_v39 main_v52 (subf : (⟨S5000x5000, .f32⟩ : BufTy).Contents (Elt F) → (⟨S5000x5000, .f32⟩ : BufTy).Contents (Elt F) → (⟨S5000x5000, .f32⟩ : BufTy).Contents (Elt F))
  :: StableHlo.nullary main_cst_3 (constant S_ .f32 0x00000000#32)
  :: [] )

theorem a7_sub : (a7 : List (HloOp τ sig (Elt F))).Forall fun op => op.bufs ⊆ StableHlo.tcRefs τ sig :=
  ⟨StableHlo.binary_bufs_sub .., StableHlo.nullary_bufs_sub ..⟩

/-- A stretch of 3 host lines. -/
abbrev a8 : List (HloOp τ sig (Elt F)) :=
  ( StableHlo.TRef.unary (.of main_cst_3 : StableHlo.TRef sig ⟨S_, .f32⟩) (.of main_call3_v0 : StableHlo.TRef sig ⟨S_, .f32⟩) id
  :: StableHlo.TRef.unary (.of main_call3_v0 : StableHlo.TRef sig ⟨S_, .f32⟩) (.of main_call3_v1 : StableHlo.TRef sig ⟨S5000x5000, .f32⟩) (broadcastInDim S5000x5000 ![] bcast_S_S5000x5000)
  :: StableHlo.TRef.binary (.of main_call3_v1 : StableHlo.TRef sig ⟨S5000x5000, .f32⟩) (.of main_v52 : StableHlo.TRef sig ⟨S5000x5000, .f32⟩) (.of main_v53 : StableHlo.TRef sig ⟨S5000x5000, .f32⟩) maximumf
  :: [] )

theorem a8_sub : (a8 : List (HloOp τ sig (Elt F))).Forall fun op => op.bufs ⊆ StableHlo.tcRefs τ sig :=
  ⟨StableHlo.unary_bufs_sub .., StableHlo.unary_bufs_sub .., StableHlo.binary_bufs_sub ..⟩

/-- A stretch of 11 host lines. -/
abbrev b0 : List (HloOp τ sig (Elt F)) :=
  ( StableHlo.binary main_v51 main_v53 main_v54 (mulf : (⟨S5000x5000, .f32⟩ : BufTy).Contents (Elt F) → (⟨S5000x5000, .f32⟩ : BufTy).Contents (Elt F) → (⟨S5000x5000, .f32⟩ : BufTy).Contents (Elt F))
  :: StableHlo.unary main_v29 main_v55 (broadcastInDim S5000x1 ![0] bcast_S5000_S5000x1_0 : (⟨S5000, .f32⟩ : BufTy).Contents (Elt F) → (⟨S5000x1, .f32⟩ : BufTy).Contents (Elt F))
  :: StableHlo.unary main_v29 main_v56 (broadcastInDim S1x5000 ![1] bcast_S5000_S1x5000_1 : (⟨S5000, .f32⟩ : BufTy).Contents (Elt F) → (⟨S1x5000, .f32⟩ : BufTy).Contents (Elt F))
  :: StableHlo.unary main_v55 main_v57 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v56 main_v58 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v57 main_v58 main_v59 (addf : (⟨S5000x5000, .f32⟩ : BufTy).Contents (Elt F) → (⟨S5000x5000, .f32⟩ : BufTy).Contents (Elt F) → (⟨S5000x5000, .f32⟩ : BufTy).Contents (Elt F))
  :: StableHlo.binary main_v59 main_v54 main_v60 (subf : (⟨S5000x5000, .f32⟩ : BufTy).Contents (Elt F) → (⟨S5000x5000, .f32⟩ : BufTy).Contents (Elt F) → (⟨S5000x5000, .f32⟩ : BufTy).Contents (Elt F))
  :: StableHlo.nullary main_cst_4 (constant S_ .f32 0x3089705F#32)
  :: StableHlo.unary main_cst_4 main_v61 (broadcastInDim S5000x5000 ![] bcast_S_S5000x5000 : (⟨S_, .f32⟩ : BufTy).Contents (Elt F) → (⟨S5000x5000, .f32⟩ : BufTy).Contents (Elt F))
  :: StableHlo.binary main_v60 main_v61 main_v62 (addf : (⟨S5000x5000, .f32⟩ : BufTy).Contents (Elt F) → (⟨S5000x5000, .f32⟩ : BufTy).Contents (Elt F) → (⟨S5000x5000, .f32⟩ : BufTy).Contents (Elt F))
  :: StableHlo.binary main_v54 main_v62 main_v63 (Host.divf : (⟨S5000x5000, .f32⟩ : BufTy).Contents (Elt F) → (⟨S5000x5000, .f32⟩ : BufTy).Contents (Elt F) → (⟨S5000x5000, .f32⟩ : BufTy).Contents (Elt F))
  :: [] )

theorem b0_sub : (b0 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- A stretch of 4 host lines. -/
abbrev b1 : List (HloOp τ sig (Elt F)) :=
  ( StableHlo.nullary main_cst_5 (constant S_ .f32 0x3F800000#32)
  :: StableHlo.unary main_cst_5 main_v64 (broadcastInDim S5000 ![] bcast_S_S5000 : (⟨S_, .f32⟩ : BufTy).Contents (Elt F) → (⟨S5000, .f32⟩ : BufTy).Contents (Elt F))
  :: StableHlo.binary main_v5 main_v64 main_v65 (cmpf .oeq : (⟨S5000, .f32⟩ : BufTy).Contents (Elt F) → (⟨S5000, .f32⟩ : BufTy).Contents (Elt F) → (⟨S5000, .i1⟩ : BufTy).Contents (Elt F))
  :: StableHlo.nullary main_cst_6 (constant S_ .f32 0xCE6E6B28#32)
  :: [] )

theorem b1_sub : (b1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩

/-- A stretch of 3 host lines. -/
abbrev b2 : List (HloOp τ sig (Elt F)) :=
  ( StableHlo.TRef.unary (.of main_cst_6 : StableHlo.TRef sig ⟨S_, .f32⟩) (.of main_call4_v0 : StableHlo.TRef sig ⟨S_, .f32⟩) id
  :: StableHlo.TRef.unary (.of main_call4_v0 : StableHlo.TRef sig ⟨S_, .f32⟩) (.of main_call4_v1 : StableHlo.TRef sig ⟨S5000, .f32⟩) (broadcastInDim S5000 ![] bcast_S_S5000)
  :: StableHlo.TRef.ternary (.of main_v65 : StableHlo.TRef sig ⟨S5000, .i1⟩) (.of main_v3 : StableHlo.TRef sig ⟨S5000, .f32⟩) (.of main_call4_v1 : StableHlo.TRef sig ⟨S5000, .f32⟩) (.of main_v66 : StableHlo.TRef sig ⟨S5000, .f32⟩) select
  :: [] )

theorem b2_sub : (b2 : List (HloOp τ sig (Elt F))).Forall fun op => op.bufs ⊆ StableHlo.tcRefs τ sig :=
  ⟨StableHlo.unary_bufs_sub .., StableHlo.unary_bufs_sub .., StableHlo.ternary_bufs_sub ..⟩

/-- A stretch of 1 host lines. -/
abbrev b3 : List (HloOp τ sig (Elt F)) :=
  ( StableHlo.unary main_v66 main_v67 (Host.negf : (⟨S5000, .f32⟩ : BufTy).Contents (Elt F) → (⟨S5000, .f32⟩ : BufTy).Contents (Elt F))
  :: [] )

theorem b3_sub : (b3 : List (HloOp τ sig (Elt F))).Forall fun op => op.bufs ⊆ StableHlo.tcRefs τ sig :=
  StableHlo.unary_bufs_sub ..

/-- A stretch of 3 host lines. -/
abbrev b4 : List (HloOp τ sig (Elt F)) :=
  ( StableHlo.TRef.nullary (.of main_call5_v0 : StableHlo.TRef sig ⟨S5000, .i32⟩) (iotaInDim S5000 32 0)
  :: StableHlo.TRef.binary (.of main_v67 : StableHlo.TRef sig ⟨S5000, .f32⟩) (.of main_call5_v0 : StableHlo.TRef sig ⟨S5000, .i32⟩) (.of main_call5_v1_0 : StableHlo.TRef sig ⟨S5000, .f32⟩) (fun x y => (Host.sort2 S5000 0 comparator_f32_i32_d0 x y).1)
  :: StableHlo.TRef.binary (.of main_v67 : StableHlo.TRef sig ⟨S5000, .f32⟩) (.of main_call5_v0 : StableHlo.TRef sig ⟨S5000, .i32⟩) (.of main_v68 : StableHlo.TRef sig ⟨S5000, .i32⟩) (fun x y => (Host.sort2 S5000 0 comparator_f32_i32_d0 x y).2)
  :: [] )

theorem b4_sub : (b4 : List (HloOp τ sig (Elt F))).Forall fun op => op.bufs ⊆ StableHlo.tcRefs τ sig :=
  ⟨StableHlo.nullary_bufs_sub .., StableHlo.binary_bufs_sub .., StableHlo.binary_bufs_sub ..⟩

/-- A stretch of 9 host lines. -/
abbrev b5 : List (HloOp τ sig (Elt F)) :=
  ( StableHlo.nullary main_c_7 (constantI S_ 32 0#32)
  :: StableHlo.unary main_c_7 main_v69 (broadcastInDim S5000 ![] bcast_S_S5000 : (⟨S_, .i32⟩ : BufTy).Contents (Elt F) → (⟨S5000, .i32⟩ : BufTy).Contents (Elt F))
  :: StableHlo.binary main_v68 main_v69 main_v70 (cmpi .slt : (⟨S5000, .i32⟩ : BufTy).Contents (Elt F) → (⟨S5000, .i32⟩ : BufTy).Contents (Elt F) → (⟨S5000, .i1⟩ : BufTy).Contents (Elt F))
  :: StableHlo.nullary main_c_8 (constantI S_ 32 5000#32)
  :: StableHlo.unary main_c_8 main_v71 (broadcastInDim S5000 ![] bcast_S_S5000 : (⟨S_, .i32⟩ : BufTy).Contents (Elt F) → (⟨S5000, .i32⟩ : BufTy).Contents (Elt F))
  :: StableHlo.binary main_v68 main_v71 main_v72 (addi : (⟨S5000, .i32⟩ : BufTy).Contents (Elt F) → (⟨S5000, .i32⟩ : BufTy).Contents (Elt F) → (⟨S5000, .i32⟩ : BufTy).Contents (Elt F))
  :: StableHlo.ternary main_v70 main_v72 main_v68 main_v73 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F))
  :: StableHlo.unary main_v73 main_v74 (broadcastInDim S5000x1 ![0] bcast_S5000_S5000x1_0 : (⟨S5000, .i32⟩ : BufTy).Contents (Elt F) → (⟨S5000x1, .i32⟩ : BufTy).Contents (Elt F))
  :: StableHlo.binary main_v1 main_v74 main_v75 ((fun x i => Host.gather gather_S5000x4_S5000x1_S5000x4_1_0_n_n_0_1_14 x i) : (⟨S5000x4, .f32⟩ : BufTy).Contents (Elt F) → (⟨S5000x1, .i32⟩ : BufTy).Contents (Elt F) → (⟨S5000x4, .f32⟩ : BufTy).Contents (Elt F))
  :: [] )

theorem b5_sub : (b5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- A stretch of 33 host lines. -/
abbrev b6 : List (HloOp τ sig (Elt F)) :=
  ( StableHlo.unary main_v75 main_v76 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_v76 main_v77 (rfl : (.f32 : EltTy) = .f32) shapeCasts_S5000x1_S5000
  :: StableHlo.unary main_v75 main_v78 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_v78 main_v79 (rfl : (.f32 : EltTy) = .f32) shapeCasts_S5000x1_S5000
  :: StableHlo.unary main_v75 main_v80 ((extractStridedSlice S5000x1 ![0, 2] · slices_S5000x4_S5000x1_0_2) : (⟨S5000x4, .f32⟩ : BufTy).Contents (Elt F) → (⟨S5000x1, .f32⟩ : BufTy).Contents (Elt F))
  :: StableHlo.reshape main_v80 main_v81 (rfl : (.f32 : EltTy) = .f32) shapeCasts_S5000x1_S5000
  :: StableHlo.unary main_v75 main_v82 ((extractStridedSlice S5000x1 ![0, 3] · slices_S5000x4_S5000x1_0_3) : (⟨S5000x4, .f32⟩ : BufTy).Contents (Elt F) → (⟨S5000x1, .f32⟩ : BufTy).Contents (Elt F))
  :: StableHlo.reshape main_v82 main_v83 (rfl : (.f32 : EltTy) = .f32) shapeCasts_S5000x1_S5000
  :: StableHlo.binary main_v81 main_v77 main_v84 (subf : (⟨S5000, .f32⟩ : BufTy).Contents (Elt F) → (⟨S5000, .f32⟩ : BufTy).Contents (Elt F) → (⟨S5000, .f32⟩ : BufTy).Contents (Elt F))
  :: StableHlo.binary main_v83 main_v79 main_v85 (subf : (⟨S5000, .f32⟩ : BufTy).Contents (Elt F) → (⟨S5000, .f32⟩ : BufTy).Contents (Elt F) → (⟨S5000, .f32⟩ : BufTy).Contents (Elt F))
  :: StableHlo.binary main_v84 main_v85 main_v86 (mulf : (⟨S5000, .f32⟩ : BufTy).Contents (Elt F) → (⟨S5000, .f32⟩ : BufTy).Contents (Elt F) → (⟨S5000, .f32⟩ : BufTy).Contents (Elt F))
  :: StableHlo.unary main_v77 main_v87 (broadcastInDim S5000x1 ![0] bcast_S5000_S5000x1_0 : (⟨S5000, .f32⟩ : BufTy).Contents (Elt F) → (⟨S5000x1, .f32⟩ : BufTy).Contents (Elt F))
  :: StableHlo.unary main_v77 main_v88 (broadcastInDim S1x5000 ![1] bcast_S5000_S1x5000_1 : (⟨S5000, .f32⟩ : BufTy).Contents (Elt F) → (⟨S1x5000, .f32⟩ : BufTy).Contents (Elt F))
  :: StableHlo.unary main_v87 main_v89 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v88 main_v90 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v89 main_v90 main_v91 (maximumf : (⟨S5000x5000, .f32⟩ : BufTy).Contents (Elt F) → (⟨S5000x5000, .f32⟩ : BufTy).Contents (Elt F) → (⟨S5000x5000, .f32⟩ : BufTy).Contents (Elt F))
  :: StableHlo.unary main_v79 main_v92 (broadcastInDim S5000x1 ![0] bcast_S5000_S5000x1_0 : (⟨S5000, .f32⟩ : BufTy).Contents (Elt F) → (⟨S5000x1, .f32⟩ : BufTy).Contents (Elt F))
  :: StableHlo.unary main_v79 main_v93 (broadcastInDim S1x5000 ![1] bcast_S5000_S1x5000_1 : (⟨S5000, .f32⟩ : BufTy).Contents (Elt F) → (⟨S1x5000, .f32⟩ : BufTy).Contents (Elt F))
  :: StableHlo.unary main_v92 main_v94 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v93 main_v95 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v94 main_v95 main_v96 (maximumf : (⟨S5000x5000, .f32⟩ : BufTy).Contents (Elt F) → (⟨S5000x5000, .f32⟩ : BufTy).Contents (Elt F) → (⟨S5000x5000, .f32⟩ : BufTy).Contents (Elt F))
  :: StableHlo.unary main_v81 main_v97 (broadcastInDim S5000x1 ![0] bcast_S5000_S5000x1_0 : (⟨S5000, .f32⟩ : BufTy).Contents (Elt F) → (⟨S5000x1, .f32⟩ : BufTy).Contents (Elt F))
  :: StableHlo.unary main_v81 main_v98 (broadcastInDim S1x5000 ![1] bcast_S5000_S1x5000_1 : (⟨S5000, .f32⟩ : BufTy).Contents (Elt F) → (⟨S1x5000, .f32⟩ : BufTy).Contents (Elt F))
  :: StableHlo.unary main_v97 main_v99 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v98 main_v100 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v99 main_v100 main_v101 (minimumf : (⟨S5000x5000, .f32⟩ : BufTy).Contents (Elt F) → (⟨S5000x5000, .f32⟩ : BufTy).Contents (Elt F) → (⟨S5000x5000, .f32⟩ : BufTy).Contents (Elt F))
  :: StableHlo.unary main_v83 main_v102 (broadcastInDim S5000x1 ![0] bcast_S5000_S5000x1_0 : (⟨S5000, .f32⟩ : BufTy).Contents (Elt F) → (⟨S5000x1, .f32⟩ : BufTy).Contents (Elt F))
  :: StableHlo.unary main_v83 main_v103 (broadcastInDim S1x5000 ![1] bcast_S5000_S1x5000_1 : (⟨S5000, .f32⟩ : BufTy).Contents (Elt F) → (⟨S1x5000, .f32⟩ : BufTy).Contents (Elt F))
  :: StableHlo.unary main_v102 main_v104 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v103 main_v105 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v104 main_v105 main_v106 (minimumf : (⟨S5000x5000, .f32⟩ : BufTy).Contents (Elt F) → (⟨S5000x5000, .f32⟩ : BufTy).Contents (Elt F) → (⟨S5000x5000, .f32⟩ : BufTy).Contents (Elt F))
  :: StableHlo.binary main_v101 main_v91 main_v107 (subf : (⟨S5000x5000, .f32⟩ : BufTy).Contents (Elt F) → (⟨S5000x5000, .f32⟩ : BufTy).Contents (Elt F) → (⟨S5000x5000, .f32⟩ : BufTy).Contents (Elt F))
  :: StableHlo.nullary main_cst_9 (constant S_ .f32 0x00000000#32)
  :: [] )

theorem b6_sub : (b6 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩

/-- A stretch of 3 host lines. -/
abbrev c0 : List (HloOp τ sig (Elt F)) :=
  ( StableHlo.TRef.unary (.of main_cst_9 : StableHlo.TRef sig ⟨S_, .f32⟩) (.of main_call6_v0 : StableHlo.TRef sig ⟨S_, .f32⟩) id
  :: StableHlo.TRef.unary (.of main_call6_v0 : StableHlo.TRef sig ⟨S_, .f32⟩) (.of main_call6_v1 : StableHlo.TRef sig ⟨S5000x5000, .f32⟩) (broadcastInDim S5000x5000 ![] bcast_S_S5000x5000)
  :: StableHlo.TRef.binary (.of main_call6_v1 : StableHlo.TRef sig ⟨S5000x5000, .f32⟩) (.of main_v107 : StableHlo.TRef sig ⟨S5000x5000, .f32⟩) (.of main_v108 : StableHlo.TRef sig ⟨S5000x5000, .f32⟩) maximumf
  :: [] )

theorem c0_sub : (c0 : List (HloOp τ sig (Elt F))).Forall fun op => op.bufs ⊆ StableHlo.tcRefs τ sig :=
  ⟨StableHlo.unary_bufs_sub .., StableHlo.unary_bufs_sub .., StableHlo.binary_bufs_sub ..⟩

/-- A stretch of 2 host lines. -/
abbrev c1 : List (HloOp τ sig (Elt F)) :=
  ( StableHlo.binary main_v106 main_v96 main_v109 (subf : (⟨S5000x5000, .f32⟩ : BufTy).Contents (Elt F) → (⟨S5000x5000, .f32⟩ : BufTy).Contents (Elt F) → (⟨S5000x5000, .f32⟩ : BufTy).Contents (Elt F))
  :: StableHlo.nullary main_cst_10 (constant S_ .f32 0x00000000#32)
  :: [] )

theorem c1_sub : (c1 : List (HloOp τ sig (Elt F))).Forall fun op => op.bufs ⊆ StableHlo.tcRefs τ sig :=
  ⟨StableHlo.binary_bufs_sub .., StableHlo.nullary_bufs_sub ..⟩

/-- A stretch of 3 host lines. -/
abbrev c2 : List (HloOp τ sig (Elt F)) :=
  ( StableHlo.TRef.unary (.of main_cst_10 : StableHlo.TRef sig ⟨S_, .f32⟩) (.of main_call7_v0 : StableHlo.TRef sig ⟨S_, .f32⟩) id
  :: StableHlo.TRef.unary (.of main_call7_v0 : StableHlo.TRef sig ⟨S_, .f32⟩) (.of main_call7_v1 : StableHlo.TRef sig ⟨S5000x5000, .f32⟩) (broadcastInDim S5000x5000 ![] bcast_S_S5000x5000)
  :: StableHlo.TRef.binary (.of main_call7_v1 : StableHlo.TRef sig ⟨S5000x5000, .f32⟩) (.of main_v109 : StableHlo.TRef sig ⟨S5000x5000, .f32⟩) (.of main_v110 : StableHlo.TRef sig ⟨S5000x5000, .f32⟩) maximumf
  :: [] )

theorem c2_sub : (c2 : List (HloOp τ sig (Elt F))).Forall fun op => op.bufs ⊆ StableHlo.tcRefs τ sig :=
  ⟨StableHlo.unary_bufs_sub .., StableHlo.unary_bufs_sub .., StableHlo.binary_bufs_sub ..⟩

/-- A stretch of 11 host lines. -/
abbrev c3 : List (HloOp τ sig (Elt F)) :=
  ( StableHlo.binary main_v108 main_v110 main_v111 (mulf : (⟨S5000x5000, .f32⟩ : BufTy).Contents (Elt F) → (⟨S5000x5000, .f32⟩ : BufTy).Contents (Elt F) → (⟨S5000x5000, .f32⟩ : BufTy).Contents (Elt F))
  :: StableHlo.unary main_v86 main_v112 (broadcastInDim S5000x1 ![0] bcast_S5000_S5000x1_0 : (⟨S5000, .f32⟩ : BufTy).Contents (Elt F) → (⟨S5000x1, .f32⟩ : BufTy).Contents (Elt F))
  :: StableHlo.unary main_v86 main_v113 (broadcastInDim S1x5000 ![1] bcast_S5000_S1x5000_1 : (⟨S5000, .f32⟩ : BufTy).Contents (Elt F) → (⟨S1x5000, .f32⟩ : BufTy).Contents (Elt F))
  :: StableHlo.unary main_v112 main_v114 (broadcastInDim S5000x5000 ![0, 1] bcast_S5000x1_S5000x5000_0_1 : (⟨S5000x1, .f32⟩ : BufTy).Contents (Elt F) → (⟨S5000x5000, .f32⟩ : BufTy).Contents (Elt F))
  :: StableHlo.unary main_v113 main_v115 (broadcastInDim S5000x5000 ![0, 1] bcast_S1x5000_S5000x5000_0_1 : (⟨S1x5000, .f32⟩ : BufTy).Contents (Elt F) → (⟨S5000x5000, .f32⟩ : BufTy).Contents (Elt F))
  :: StableHlo.binary main_v114 main_v115 main_v116 (addf : (⟨S5000x5000, .f32⟩ : BufTy).Contents (Elt F) → (⟨S5000x5000, .f32⟩ : BufTy).Contents (Elt F) → (⟨S5000x5000, .f32⟩ : BufTy).Contents (Elt F))
  :: StableHlo.binary main_v116 main_v111 main_v117 (subf : (⟨S5000x5000, .f32⟩ : BufTy).Contents (Elt F) → (⟨S5000x5000, .f32⟩ : BufTy).Contents (Elt F) → (⟨S5000x5000, .f32⟩ : BufTy).Contents (Elt F))
  :: StableHlo.nullary main_cst_11 (constant S_ .f32 0x3089705F#32)
  :: StableHlo.unary main_cst_11 main_v118 (broadcastInDim S5000x5000 ![] bcast_S_S5000x5000 : (⟨S_, .f32⟩ : BufTy).Contents (Elt F) → (⟨S5000x5000, .f32⟩ : BufTy).Contents (Elt F))
  :: StableHlo.binary main_v117 main_v118 main_v119 (addf : (⟨S5000x5000, .f32⟩ : BufTy).Contents (Elt F) → (⟨S5000x5000, .f32⟩ : BufTy).Contents (Elt F) → (⟨S5000x5000, .f32⟩ : BufTy).Contents (Elt F))
  :: StableHlo.binary main_v111 main_v119 main_v120 (Host.divf : (⟨S5000x5000, .f32⟩ : BufTy).Contents (Elt F) → (⟨S5000x5000, .f32⟩ : BufTy).Contents (Elt F) → (⟨S5000x5000, .f32⟩ : BufTy).Contents (Elt F))
  :: [] )

theorem c3_sub : (c3 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- A stretch of 13 host lines. -/
abbrev c4 : List (HloOp τ sig (Elt F)) :=
  ( StableHlo.nullary main_c_12 (constantI S_ 1 0#1)
  :: StableHlo.unary main_c_12 main_v121 (broadcastInDim S5000 ![] bcast_S_S5000 : (⟨S_, .i1⟩ : BufTy).Contents (Elt F) → (⟨S5000, .i1⟩ : BufTy).Contents (Elt F))
  :: StableHlo.nullary main_c_13 (constantI S_ 1 0#1)
  :: StableHlo.unary main_c_13 main_v122 (broadcastInDim S5000 ![] bcast_S_S5000 : (⟨S_, .i1⟩ : BufTy).Contents (Elt F) → (⟨S5000, .i1⟩ : BufTy).Contents (Elt F))
  :: StableHlo.nullary main_c_14 (constantI S_ 32 0#32)
  :: StableHlo.nullary main_c_15 (constantI S_ 32 0#32)
  :: StableHlo.unary main_v63 main_v123_0 id
  :: StableHlo.unary main_v6 main_v123_1 id
  :: StableHlo.unary main_v120 main_v123_2 id
  :: StableHlo.unary main_c_15 main_v123_3 id
  :: StableHlo.unary main_c_14 main_v123_4 id
  :: StableHlo.unary main_v121 main_v123_5 id
  :: StableHlo.unary main_v122 main_v123_6 id
  :: [] )

theorem c4_sub : (c4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- A stretch of 31 host lines. -/
abbrev c5 : List (HloOp τ sig (Elt F)) :=
  ( StableHlo.nullary main_c_16 (constantI S_ 1 0#1)
  :: StableHlo.unary main_c_16 main_v124 (broadcastInDim S5000 ![] bcast_S_S5000 : (⟨S_, .i1⟩ : BufTy).Contents (Elt F) → (⟨S5000, .i1⟩ : BufTy).Contents (Elt F))
  :: StableHlo.nullary main_c_17 (constantI S_ 1 0#1)
  :: StableHlo.unary main_c_17 main_v125 (broadcastInDim S5000 ![] bcast_S_S5000 : (⟨S_, .i1⟩ : BufTy).Contents (Elt F) → (⟨S5000, .i1⟩ : BufTy).Contents (Elt F))
  :: StableHlo.unary main_v123_5 main_v126 (noti : (⟨S5000, .i1⟩ : BufTy).Contents (Elt F) → (⟨S5000, .i1⟩ : BufTy).Contents (Elt F))
  :: StableHlo.nullary main_c_18 (constantI S_ 32 0#32)
  :: StableHlo.unary main_c_18 main_v127 (broadcastInDim S5000 ![] bcast_S_S5000 : (⟨S_, .i32⟩ : BufTy).Contents (Elt F) → (⟨S5000, .i32⟩ : BufTy).Contents (Elt F))
  :: StableHlo.binary main_v11 main_v127 main_v128 (cmpi .slt : (⟨S5000, .i32⟩ : BufTy).Contents (Elt F) → (⟨S5000, .i32⟩ : BufTy).Contents (Elt F) → (⟨S5000, .i1⟩ : BufTy).Contents (Elt F))
  :: StableHlo.nullary main_c_19 (constantI S_ 32 5000#32)
  :: StableHlo.unary main_c_19 main_v129 (broadcastInDim S5000 ![] bcast_S_S5000 : (⟨S_, .i32⟩ : BufTy).Contents (Elt F) → (⟨S5000, .i32⟩ : BufTy).Contents (Elt F))
  :: StableHlo.binary main_v11 main_v129 main_v130 (addi : (⟨S5000, .i32⟩ : BufTy).Contents (Elt F) → (⟨S5000, .i32⟩ : BufTy).Contents (Elt F) → (⟨S5000, .i32⟩ : BufTy).Contents (Elt F))
  :: StableHlo.ternary main_v128 main_v130 main_v11 main_v131 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F))
  :: StableHlo.unary main_v131 main_v132 (broadcastInDim S5000x1 ![0] bcast_S5000_S5000x1_0 : (⟨S5000, .i32⟩ : BufTy).Contents (Elt F) → (⟨S5000x1, .i32⟩ : BufTy).Contents (Elt F))
  :: StableHlo.ternary main_v125 main_v132 main_v126 main_v133 ((fun x i u => Host.scatter scatter_S5000_S5000x1_S5000_n_0_0_1 (fun _ b => b) x i u) : (⟨S5000, .i1⟩ : BufTy).Contents (Elt F) → (⟨S5000x1, .i32⟩ : BufTy).Contents (Elt F) → (⟨S5000, .i1⟩ : BufTy).Contents (Elt F) → (⟨S5000, .i1⟩ : BufTy).Contents (Elt F))
  :: StableHlo.binary main_v133 main_v8 main_v134 (andi : (⟨S5000, .i1⟩ : BufTy).Contents (Elt F) → (⟨S5000, .i1⟩ : BufTy).Contents (Elt F) → (⟨S5000, .i1⟩ : BufTy).Contents (Elt F))
  :: StableHlo.nullary main_cst_20 (constant S_ .f32 0x3D4CCCCD#32)
  :: StableHlo.unary main_cst_20 main_v135 (broadcastInDim S5000 ![] bcast_S_S5000 : (⟨S_, .f32⟩ : BufTy).Contents (Elt F) → (⟨S5000, .f32⟩ : BufTy).Contents (Elt F))
  :: StableHlo.binary main_v3 main_v135 main_v136 (cmpf .ogt : (⟨S5000, .f32⟩ : BufTy).Contents (Elt F) → (⟨S5000, .f32⟩ : BufTy).Contents (Elt F) → (⟨S5000, .i1⟩ : BufTy).Contents (Elt F))
  :: StableHlo.binary main_v134 main_v136 main_v137 (andi : (⟨S5000, .i1⟩ : BufTy).Contents (Elt F) → (⟨S5000, .i1⟩ : BufTy).Contents (Elt F) → (⟨S5000, .i1⟩ : BufTy).Contents (Elt F))
  :: StableHlo.binary main_v124 main_v137 main_v138 (ori : (⟨S5000, .i1⟩ : BufTy).Contents (Elt F) → (⟨S5000, .i1⟩ : BufTy).Contents (Elt F) → (⟨S5000, .i1⟩ : BufTy).Contents (Elt F))
  :: StableHlo.nullary main_c_21 (constantI S_ 1 0#1)
  :: StableHlo.unary main_c_21 main_v139 (broadcastInDim S5000 ![] bcast_S_S5000 : (⟨S_, .i1⟩ : BufTy).Contents (Elt F) → (⟨S5000, .i1⟩ : BufTy).Contents (Elt F))
  :: StableHlo.unary main_v123_6 main_v140 (noti : (⟨S5000, .i1⟩ : BufTy).Contents (Elt F) → (⟨S5000, .i1⟩ : BufTy).Contents (Elt F))
  :: StableHlo.nullary main_c_22 (constantI S_ 32 0#32)
  :: StableHlo.unary main_c_22 main_v141 (broadcastInDim S5000 ![] bcast_S_S5000 : (⟨S_, .i32⟩ : BufTy).Contents (Elt F) → (⟨S5000, .i32⟩ : BufTy).Contents (Elt F))
  :: StableHlo.binary main_v68 main_v141 main_v142 (cmpi .slt : (⟨S5000, .i32⟩ : BufTy).Contents (Elt F) → (⟨S5000, .i32⟩ : BufTy).Contents (Elt F) → (⟨S5000, .i1⟩ : BufTy).Contents (Elt F))
  :: StableHlo.nullary main_c_23 (constantI S_ 32 5000#32)
  :: StableHlo.unary main_c_23 main_v143 (broadcastInDim S5000 ![] bcast_S_S5000 : (⟨S_, .i32⟩ : BufTy).Contents (Elt F) → (⟨S5000, .i32⟩ : BufTy).Contents (Elt F))
  :: StableHlo.binary main_v68 main_v143 main_v144 (addi : (⟨S5000, .i32⟩ : BufTy).Contents (Elt F) → (⟨S5000, .i32⟩ : BufTy).Contents (Elt F) → (⟨S5000, .i32⟩ : BufTy).Contents (Elt F))
  :: StableHlo.ternary main_v142 main_v144 main_v68 main_v145 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F))
  :: StableHlo.unary main_v145 main_v146 (broadcastInDim S5000x1 ![0] bcast_S5000_S5000x1_0 : (⟨S5000, .i32⟩ : BufTy).Contents (Elt F) → (⟨S5000x1, .i32⟩ : BufTy).Contents (Elt F))
  :: [] )

theorem c5_sub : (c5 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩

/-- A stretch of 8 host lines. -/
abbrev d0 : List (HloOp τ sig (Elt F)) :=
  ( StableHlo.ternary main_v139 main_v146 main_v140 main_v147 ((fun x i u => Host.scatter scatter_S5000_S5000x1_S5000_n_0_0_1 (fun _ b => b) x i u) : (⟨S5000, .i1⟩ : BufTy).Contents (Elt F) → (⟨S5000x1, .i32⟩ : BufTy).Contents (Elt F) → (⟨S5000, .i1⟩ : BufTy).Contents (Elt F) → (⟨S5000, .i1⟩ : BufTy).Contents (Elt F))
  :: StableHlo.binary main_v147 main_v65 main_v148 (andi : (⟨S5000, .i1⟩ : BufTy).Contents (Elt F) → (⟨S5000, .i1⟩ : BufTy).Contents (Elt F) → (⟨S5000, .i1⟩ : BufTy).Contents (Elt F))
  :: StableHlo.nullary main_cst_24 (constant S_ .f32 0x3D4CCCCD#32)
  :: StableHlo.unary main_cst_24 main_v149 (broadcastInDim S5000 ![] bcast_S_S5000 : (⟨S_, .f32⟩ : BufTy).Contents (Elt F) → (⟨S5000, .f32⟩ : BufTy).Contents (Elt F))
  :: StableHlo.binary main_v3 main_v149 main_v150 (cmpf .ogt : (⟨S5000, .f32⟩ : BufTy).Contents (Elt F) → (⟨S5000, .f32⟩ : BufTy).Contents (Elt F) → (⟨S5000, .i1⟩ : BufTy).Contents (Elt F))
  :: StableHlo.binary main_v148 main_v150 main_v151 (andi : (⟨S5000, .i1⟩ : BufTy).Contents (Elt F) → (⟨S5000, .i1⟩ : BufTy).Contents (Elt F) → (⟨S5000, .i1⟩ : BufTy).Contents (Elt F))
  :: StableHlo.binary main_v138 main_v151 main_v152 (ori : (⟨S5000, .i1⟩ : BufTy).Contents (Elt F) → (⟨S5000, .i1⟩ : BufTy).Contents (Elt F) → (⟨S5000, .i1⟩ : BufTy).Contents (Elt F))
  :: StableHlo.nullary main_cst_25 (constant S_ .f32 0xCE6E6B28#32)
  :: [] )

theorem d0_sub : (d0 : List (HloOp τ sig (Elt F))).Forall fun op => op.bufs ⊆ StableHlo.tcRefs τ sig :=
  ⟨StableHlo.ternary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub ..⟩

/-- A stretch of 3 host lines. -/
abbrev d1 : List (HloOp τ sig (Elt F)) :=
  ( StableHlo.TRef.unary (.of main_cst_25 : StableHlo.TRef sig ⟨S_, .f32⟩) (.of main_call8_v0 : StableHlo.TRef sig ⟨S_, .f32⟩) id
  :: StableHlo.TRef.unary (.of main_call8_v0 : StableHlo.TRef sig ⟨S_, .f32⟩) (.of main_call8_v1 : StableHlo.TRef sig ⟨S5000, .f32⟩) (broadcastInDim S5000 ![] bcast_S_S5000)
  :: StableHlo.TRef.ternary (.of main_v152 : StableHlo.TRef sig ⟨S5000, .i1⟩) (.of main_v3 : StableHlo.TRef sig ⟨S5000, .f32⟩) (.of main_call8_v1 : StableHlo.TRef sig ⟨S5000, .f32⟩) (.of main_v153 : StableHlo.TRef sig ⟨S5000, .f32⟩) select
  :: [] )

theorem d1_sub : (d1 : List (HloOp τ sig (Elt F))).Forall fun op => op.bufs ⊆ StableHlo.tcRefs τ sig :=
  ⟨StableHlo.unary_bufs_sub .., StableHlo.unary_bufs_sub .., StableHlo.ternary_bufs_sub ..⟩

/-- A stretch of 11 host lines. -/
abbrev d2 : List (HloOp τ sig (Elt F)) :=
  ( StableHlo.unary main_v153 main_values ((fun x => (Host.topK S100 0 (FloatOps.cmpfTotal .gt) x sliceFits_S5000_S100).1) : (⟨S5000, .f32⟩ : BufTy).Contents (Elt F) → (⟨S100, .f32⟩ : BufTy).Contents (Elt F))
  :: StableHlo.unary main_v153 main_indices ((fun x => (Host.topK S100 0 (FloatOps.cmpfTotal .gt) x sliceFits_S5000_S100).2) : (⟨S5000, .f32⟩ : BufTy).Contents (Elt F) → (⟨S100, .i32⟩ : BufTy).Contents (Elt F))
  :: StableHlo.nullary main_c_26 (constantI S_ 32 0#32)
  :: StableHlo.unary main_c_26 main_v154 (broadcastInDim S100 ![] bcast_S_S100 : (⟨S_, .i32⟩ : BufTy).Contents (Elt F) → (⟨S100, .i32⟩ : BufTy).Contents (Elt F))
  :: StableHlo.binary main_indices main_v154 main_v155 (cmpi .slt : (⟨S100, .i32⟩ : BufTy).Contents (Elt F) → (⟨S100, .i32⟩ : BufTy).Contents (Elt F) → (⟨S100, .i1⟩ : BufTy).Contents (Elt F))
  :: StableHlo.nullary main_c_27 (constantI S_ 32 5000#32)
  :: StableHlo.unary main_c_27 main_v156 (broadcastInDim S100 ![] bcast_S_S100 : (⟨S_, .i32⟩ : BufTy).Contents (Elt F) → (⟨S100, .i32⟩ : BufTy).Contents (Elt F))
  :: StableHlo.binary main_indices main_v156 main_v157 (addi : (⟨S100, .i32⟩ : BufTy).Contents (Elt F) → (⟨S100, .i32⟩ : BufTy).Contents (Elt F) → (⟨S100, .i32⟩ : BufTy).Contents (Elt F))
  :: StableHlo.ternary main_v155 main_v157 main_indices main_v158 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v158 main_v159 (broadcastInDim S100x1 ![0] bcast_S100_S100x1_0 : (⟨S100, .i32⟩ : BufTy).Contents (Elt F) → (⟨S100x1, .i32⟩ : BufTy).Contents (Elt F))
  :: StableHlo.binary main_v0 main_v159 main_v160 ((fun x i => Host.gather gather_S5000x6_S100x1_S100x6_1_0_n_n_0_1_16 x i) : (⟨S5000x6, .f32⟩ : BufTy).Contents (Elt F) → (⟨S100x1, .i32⟩ : BufTy).Contents (Elt F) → (⟨S100x6, .f32⟩ : BufTy).Contents (Elt F))
  :: [] )

theorem d2_sub : (d2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- A stretch of 60 host lines of the loop's body. -/
abbrev w0 : List (HloOp τ sig (Elt F)) :=
  ( StableHlo.nullary main_while0b_c_34 (constantI S_ 32 1#32)
  :: StableHlo.binary main_v123_4 main_while0b_c_34 main_while0b_v161 (addi : (⟨S_, .i32⟩ : BufTy).Contents (Elt F) → (⟨S_, .i32⟩ : BufTy).Contents (Elt F) → (⟨S_, .i32⟩ : BufTy).Contents (Elt F))
  :: StableHlo.nullary main_while0b_c_35 (constantI S_ 32 0#32)
  :: StableHlo.binary main_v123_4 main_while0b_c_35 main_while0b_v162 (cmpi .slt : (⟨S_, .i32⟩ : BufTy).Contents (Elt F) → (⟨S_, .i32⟩ : BufTy).Contents (Elt F) → (⟨S_, .i1⟩ : BufTy).Contents (Elt F))
  :: StableHlo.unary main_v123_4 main_while0b_v163 (id : (⟨S_, .i32⟩ : BufTy).Contents (Elt F) → (⟨S_, .i32⟩ : BufTy).Contents (Elt F))
  :: StableHlo.nullary main_while0b_c_36 (constantI S_ 32 5000#32)
  :: StableHlo.binary main_while0b_v163 main_while0b_c_36 main_while0b_v164 (addi : (⟨S_, .i32⟩ : BufTy).Contents (Elt F) → (⟨S_, .i32⟩ : BufTy).Contents (Elt F) → (⟨S_, .i32⟩ : BufTy).Contents (Elt F))
  :: StableHlo.ternary main_while0b_v162 main_while0b_v164 main_v123_4 main_while0b_v165 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v123_5 ![main_while0b_v165] ⟨S_, .i32⟩ main_while0b_v166 ((fun x i => Host.dynamicSlice S1 x (fun k => (i k (Shape.Idx.first h_S_)).toInt) sliceFits_S5000_S1) : (⟨S5000, .i1⟩ : BufTy).Contents (Elt F) → (Fin 1 → (⟨S_, .i32⟩ : BufTy).Contents (Elt F)) → (⟨S1, .i1⟩ : BufTy).Contents (Elt F))
  :: StableHlo.reshape main_while0b_v166 main_while0b_v167 (rfl : (.i1 : EltTy) = .i1) shapeCasts_S1_S_
  :: StableHlo.unary main_while0b_v167 main_while0b_v168 (noti : (⟨S_, .i1⟩ : BufTy).Contents (Elt F) → (⟨S_, .i1⟩ : BufTy).Contents (Elt F))
  :: StableHlo.unary main_v123_4 main_while0b_v169 (id : (⟨S_, .i32⟩ : BufTy).Contents (Elt F) → (⟨S_, .i32⟩ : BufTy).Contents (Elt F))
  :: StableHlo.nullary main_while0b_c_37 (constantI S_ 32 0#32)
  :: StableHlo.binary main_while0b_v169 main_while0b_c_37 main_while0b_v170 (cmpi .slt : (⟨S_, .i32⟩ : BufTy).Contents (Elt F) → (⟨S_, .i32⟩ : BufTy).Contents (Elt F) → (⟨S_, .i1⟩ : BufTy).Contents (Elt F))
  :: StableHlo.nullary main_while0b_c_38 (constantI S_ 32 5000#32)
  :: StableHlo.binary main_while0b_v169 main_while0b_c_38 main_while0b_v171 (addi : (⟨S_, .i32⟩ : BufTy).Contents (Elt F) → (⟨S_, .i32⟩ : BufTy).Contents (Elt F) → (⟨S_, .i32⟩ : BufTy).Contents (Elt F))
  :: StableHlo.ternary main_while0b_v170 main_while0b_v171 main_while0b_v169 main_while0b_v172 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_39 (constantI S_ 32 0#32)
  :: StableHlo.nullary main_while0b_c_40 (constantI S_ 32 0#32)
  :: StableHlo.binary main_while0b_c_39 main_while0b_c_40 main_while0b_v173 (cmpi .slt : (⟨S_, .i32⟩ : BufTy).Contents (Elt F) → (⟨S_, .i32⟩ : BufTy).Contents (Elt F) → (⟨S_, .i1⟩ : BufTy).Contents (Elt F))
  :: StableHlo.nullary main_while0b_c_41 (constantI S_ 32 0#32)
  :: StableHlo.nullary main_while0b_c_42 (constantI S_ 32 5000#32)
  :: StableHlo.binary main_while0b_c_41 main_while0b_c_42 main_while0b_v174 (addi : (⟨S_, .i32⟩ : BufTy).Contents (Elt F) → (⟨S_, .i32⟩ : BufTy).Contents (Elt F) → (⟨S_, .i32⟩ : BufTy).Contents (Elt F))
  :: StableHlo.nullary main_while0b_c_43 (constantI S_ 32 0#32)
  :: StableHlo.ternary main_while0b_v173 main_while0b_v174 main_while0b_c_43 main_while0b_v175 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v123_0 ![main_while0b_v172, main_while0b_v175] ⟨S_, .i32⟩ main_while0b_v176 ((fun x i => Host.dynamicSlice S1x5000 x (fun k => (i k (Shape.Idx.first h_S_)).toInt) sliceFits_S5000x5000_S1x5000) : (⟨S5000x5000, .f32⟩ : BufTy).Contents (Elt F) → (Fin 2 → (⟨S_, .i32⟩ : BufTy).Contents (Elt F)) → (⟨S1x5000, .f32⟩ : BufTy).Contents (Elt F))
  :: StableHlo.reshape main_while0b_v176 main_while0b_v177 (rfl : (.f32 : EltTy) = .f32) shapeCasts_S1x5000_S5000
  :: StableHlo.nullary main_while0b_cst_44 (constant S_ .f32 0x3F333333#32)
  :: StableHlo.unary main_while0b_cst_44 main_while0b_v178 (broadcastInDim S5000 ![] bcast_S_S5000 : (⟨S_, .f32⟩ : BufTy).Contents (Elt F) → (⟨S5000, .f32⟩ : BufTy).Contents (Elt F))
  :: StableHlo.binary main_while0b_v177 main_while0b_v178 main_while0b_v179 (cmpf .ogt : (⟨S5000, .f32⟩ : BufTy).Contents (Elt F) → (⟨S5000, .f32⟩ : BufTy).Contents (Elt F) → (⟨S5000, .i1⟩ : BufTy).Contents (Elt F))
  :: StableHlo.unary main_while0b_v168 main_while0b_v180 (broadcastInDim S5000 ![] bcast_S_S5000 : (⟨S_, .i1⟩ : BufTy).Contents (Elt F) → (⟨S5000, .i1⟩ : BufTy).Contents (Elt F))
  :: StableHlo.binary main_while0b_v180 main_while0b_v179 main_while0b_v181 (andi : (⟨S5000, .i1⟩ : BufTy).Contents (Elt F) → (⟨S5000, .i1⟩ : BufTy).Contents (Elt F) → (⟨S5000, .i1⟩ : BufTy).Contents (Elt F))
  :: StableHlo.unary main_v123_4 main_while0b_v182 (id : (⟨S_, .i32⟩ : BufTy).Contents (Elt F) → (⟨S_, .i32⟩ : BufTy).Contents (Elt F))
  :: StableHlo.unary main_while0b_v182 main_while0b_v183 (broadcastInDim S5000 ![] bcast_S_S5000 : (⟨S_, .i32⟩ : BufTy).Contents (Elt F) → (⟨S5000, .i32⟩ : BufTy).Contents (Elt F))
  :: StableHlo.binary main_v123_1 main_while0b_v183 main_while0b_v184 (cmpi .sgt : (⟨S5000, .i32⟩ : BufTy).Contents (Elt F) → (⟨S5000, .i32⟩ : BufTy).Contents (Elt F) → (⟨S5000, .i1⟩ : BufTy).Contents (Elt F))
  :: StableHlo.binary main_while0b_v181 main_while0b_v184 main_while0b_v185 (andi : (⟨S5000, .i1⟩ : BufTy).Contents (Elt F) → (⟨S5000, .i1⟩ : BufTy).Contents (Elt F) → (⟨S5000, .i1⟩ : BufTy).Contents (Elt F))
  :: StableHlo.binary main_v123_5 main_while0b_v185 main_while0b_v186 (ori : (⟨S5000, .i1⟩ : BufTy).Contents (Elt F) → (⟨S5000, .i1⟩ : BufTy).Contents (Elt F) → (⟨S5000, .i1⟩ : BufTy).Contents (Elt F))
  :: StableHlo.nullary main_while0b_c_45 (constantI S_ 32 0#32)
  :: StableHlo.binary main_v123_4 main_while0b_c_45 main_while0b_v187 (cmpi .slt : (⟨S_, .i32⟩ : BufTy).Contents (Elt F) → (⟨S_, .i32⟩ : BufTy).Contents (Elt F) → (⟨S_, .i1⟩ : BufTy).Contents (Elt F))
  :: StableHlo.unary main_v123_4 main_while0b_v188 (id : (⟨S_, .i32⟩ : BufTy).Contents (Elt F) → (⟨S_, .i32⟩ : BufTy).Contents (Elt F))
  :: StableHlo.nullary main_while0b_c_46 (constantI S_ 32 5000#32)
  :: StableHlo.binary main_while0b_v188 main_while0b_c_46 main_while0b_v189 (addi : (⟨S_, .i32⟩ : BufTy).Contents (Elt F) → (⟨S_, .i32⟩ : BufTy).Contents (Elt F) → (⟨S_, .i32⟩ : BufTy).Contents (Elt F))
  :: StableHlo.ternary main_while0b_v187 main_while0b_v189 main_v123_4 main_while0b_v190 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v123_6 ![main_while0b_v190] ⟨S_, .i32⟩ main_while0b_v191 ((fun x i => Host.dynamicSlice S1 x (fun k => (i k (Shape.Idx.first h_S_)).toInt) sliceFits_S5000_S1) : (⟨S5000, .i1⟩ : BufTy).Contents (Elt F) → (Fin 1 → (⟨S_, .i32⟩ : BufTy).Contents (Elt F)) → (⟨S1, .i1⟩ : BufTy).Contents (Elt F))
  :: StableHlo.reshape main_while0b_v191 main_while0b_v192 (rfl : (.i1 : EltTy) = .i1) shapeCasts_S1_S_
  :: StableHlo.unary main_while0b_v192 main_while0b_v193 (noti : (⟨S_, .i1⟩ : BufTy).Contents (Elt F) → (⟨S_, .i1⟩ : BufTy).Contents (Elt F))
  :: StableHlo.unary main_v123_4 main_while0b_v194 (id : (⟨S_, .i32⟩ : BufTy).Contents (Elt F) → (⟨S_, .i32⟩ : BufTy).Contents (Elt F))
  :: StableHlo.nullary main_while0b_c_47 (constantI S_ 32 0#32)
  :: StableHlo.binary main_while0b_v194 main_while0b_c_47 main_while0b_v195 (cmpi .slt : (⟨S_, .i32⟩ : BufTy).Contents (Elt F) → (⟨S_, .i32⟩ : BufTy).Contents (Elt F) → (⟨S_, .i1⟩ : BufTy).Contents (Elt F))
  :: StableHlo.nullary main_while0b_c_48 (constantI S_ 32 5000#32)
  :: StableHlo.binary main_while0b_v194 main_while0b_c_48 main_while0b_v196 (addi : (⟨S_, .i32⟩ : BufTy).Contents (Elt F) → (⟨S_, .i32⟩ : BufTy).Contents (Elt F) → (⟨S_, .i32⟩ : BufTy).Contents (Elt F))
  :: StableHlo.ternary main_while0b_v195 main_while0b_v196 main_while0b_v194 main_while0b_v197 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_49 (constantI S_ 32 0#32)
  :: StableHlo.nullary main_while0b_c_50 (constantI S_ 32 0#32)
  :: StableHlo.binary main_while0b_c_49 main_while0b_c_50 main_while0b_v198 (cmpi .slt : (⟨S_, .i32⟩ : BufTy).Contents (Elt F) → (⟨S_, .i32⟩ : BufTy).Contents (Elt F) → (⟨S_, .i1⟩ : BufTy).Contents (Elt F))
  :: StableHlo.nullary main_while0b_c_51 (constantI S_ 32 0#32)
  :: StableHlo.nullary main_while0b_c_52 (constantI S_ 32 5000#32)
  :: StableHlo.binary main_while0b_c_51 main_while0b_c_52 main_while0b_v199 (addi : (⟨S_, .i32⟩ : BufTy).Contents (Elt F) → (⟨S_, .i32⟩ : BufTy).Contents (Elt F) → (⟨S_, .i32⟩ : BufTy).Contents (Elt F))
  :: StableHlo.nullary main_while0b_c_53 (constantI S_ 32 0#32)
  :: StableHlo.ternary main_while0b_v198 main_while0b_v199 main_while0b_c_53 main_while0b_v200 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: [] )

theorem w0_sub : (w0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.unary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.unary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub ..⟩

/-- A stretch of 18 host lines of the loop's body. -/
abbrev w1 : List (HloOp τ sig (Elt F)) :=
  ( StableHlo.unaryIndexed main_v123_2 ![main_while0b_v197, main_while0b_v200] ⟨S_, .i32⟩ main_while0b_v201 ((fun x i => Host.dynamicSlice S1x5000 x (fun k => (i k (Shape.Idx.first h_S_)).toInt) sliceFits_S5000x5000_S1x5000) : (⟨S5000x5000, .f32⟩ : BufTy).Contents (Elt F) → (Fin 2 → (⟨S_, .i32⟩ : BufTy).Contents (Elt F)) → (⟨S1x5000, .f32⟩ : BufTy).Contents (Elt F))
  :: StableHlo.reshape main_while0b_v201 main_while0b_v202 (rfl : (.f32 : EltTy) = .f32) shapeCasts_S1x5000_S5000
  :: StableHlo.nullary main_while0b_cst_54 (constant S_ .f32 0x3F333333#32)
  :: StableHlo.unary main_while0b_cst_54 main_while0b_v203 (broadcastInDim S5000 ![] bcast_S_S5000 : (⟨S_, .f32⟩ : BufTy).Contents (Elt F) → (⟨S5000, .f32⟩ : BufTy).Contents (Elt F))
  :: StableHlo.binary main_while0b_v202 main_while0b_v203 main_while0b_v204 (cmpf .ogt : (⟨S5000, .f32⟩ : BufTy).Contents (Elt F) → (⟨S5000, .f32⟩ : BufTy).Contents (Elt F) → (⟨S5000, .i1⟩ : BufTy).Contents (Elt F))
  :: StableHlo.unary main_while0b_v193 main_while0b_v205 (broadcastInDim S5000 ![] bcast_S_S5000 : (⟨S_, .i1⟩ : BufTy).Contents (Elt F) → (⟨S5000, .i1⟩ : BufTy).Contents (Elt F))
  :: StableHlo.binary main_while0b_v205 main_while0b_v204 main_while0b_v206 (andi : (⟨S5000, .i1⟩ : BufTy).Contents (Elt F) → (⟨S5000, .i1⟩ : BufTy).Contents (Elt F) → (⟨S5000, .i1⟩ : BufTy).Contents (Elt F))
  :: StableHlo.unary main_v123_4 main_while0b_v207 (id : (⟨S_, .i32⟩ : BufTy).Contents (Elt F) → (⟨S_, .i32⟩ : BufTy).Contents (Elt F))
  :: StableHlo.unary main_while0b_v207 main_while0b_v208 (broadcastInDim S5000 ![] bcast_S_S5000 : (⟨S_, .i32⟩ : BufTy).Contents (Elt F) → (⟨S5000, .i32⟩ : BufTy).Contents (Elt F))
  :: StableHlo.binary main_v123_1 main_while0b_v208 main_while0b_v209 (cmpi .sgt : (⟨S5000, .i32⟩ : BufTy).Contents (Elt F) → (⟨S5000, .i32⟩ : BufTy).Contents (Elt F) → (⟨S5000, .i1⟩ : BufTy).Contents (Elt F))
  :: StableHlo.binary main_while0b_v206 main_while0b_v209 main_while0b_v210 (andi : (⟨S5000, .i1⟩ : BufTy).Contents (Elt F) → (⟨S5000, .i1⟩ : BufTy).Contents (Elt F) → (⟨S5000, .i1⟩ : BufTy).Contents (Elt F))
  :: StableHlo.binary main_v123_6 main_while0b_v210 main_while0b_v211 (ori : (⟨S5000, .i1⟩ : BufTy).Contents (Elt F) → (⟨S5000, .i1⟩ : BufTy).Contents (Elt F) → (⟨S5000, .i1⟩ : BufTy).Contents (Elt F))
  :: StableHlo.nullary main_while0b_c_55 (constantI S_ 32 1#32)
  :: StableHlo.binary main_v123_3 main_while0b_c_55 main_while0b_v212 (addi : (⟨S_, .i32⟩ : BufTy).Contents (Elt F) → (⟨S_, .i32⟩ : BufTy).Contents (Elt F) → (⟨S_, .i32⟩ : BufTy).Contents (Elt F))
  :: StableHlo.unary main_while0b_v212 main_v123_3 id
  :: StableHlo.unary main_while0b_v161 main_v123_4 id
  :: StableHlo.unary main_while0b_v186 main_v123_5 id
  :: StableHlo.unary main_while0b_v211 main_v123_6 id
  :: [] )

theorem w1_sub : (w1 : List (HloOp τ sig (Elt F))).Forall fun op => op.bufs ⊆ StableHlo.tcRefs τ sig :=
  ⟨StableHlo.unaryIndexed_bufs_sub .., StableHlo.reshape_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub ..⟩

/-- The lines of the loop's condition. -/
abbrev condOps : List (HloOp τ sig (Elt F)) :=
  [ StableHlo.nullary main_while0c_c_34 (constantI S_ 32 5000#32),
    StableHlo.binary main_v123_3 main_while0c_c_34 main_while0c_v161 (cmpi .slt) ]

/-- The stretches before the loop, of its body, and after it. -/
abbrev preI : List (List (HloOp τ sig (Elt F))) := [a0, a1, a2, a3, a4, a5, a6, a7, a8, b0, b1, b2, b3, b4, b5, b6, c0, c1, c2, c3, c4]
abbrev bodyI : List (List (HloOp τ sig (Elt F))) := [w0, w1]
abbrev postI : List (List (HloOp τ sig (Elt F))) := [c5, d0, d1, d2]

theorem part0_chain (c : Dev nD) : main_part0 (F := F) c = (Pipeline.chainK
    [StableHlo.seq a0, StableHlo.seq a1, StableHlo.seq a2, StableHlo.seq a3, StableHlo.seq a4, StableHlo.seq a5, StableHlo.seq a6, StableHlo.seq a7] (StableHlo.seq a8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

theorem part1_chain (c : Dev nD) : main_part1 (F := F) c = (Pipeline.chainK
    [StableHlo.seq b0, StableHlo.seq b1, StableHlo.seq b2, StableHlo.seq b3, StableHlo.seq b4, StableHlo.seq b5] (StableHlo.seq b6) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

theorem part2_chain (c : Dev nD) : main_part2 (F := F) c = (Pipeline.chainK
    [StableHlo.seq c0, StableHlo.seq c1, StableHlo.seq c2, StableHlo.seq c3, StableHlo.seq c4, HostLoop.enter 0] (StableHlo.seq c5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

theorem part3_chain (c : Dev nD) : main_part3 (F := F) c = (Pipeline.chain [StableHlo.seq d0, StableHlo.seq d1, StableHlo.seq d2] : Prog (TpuEff nD τ sig (Elt F) (HostLoop.Sig (Pipeline.Sig Λ₀ (Fin 0) fun p => (pcfgs (F := F) p).Adm) 1) .tc) PUnit) := by
  chain_rfl

theorem main_chain (c : Dev nD) : main (F := F) c = (Pipeline.chain ((preI.map fun ops => StableHlo.seq ops) ++ HostLoop.enter 0 :: postI.map fun ops => StableHlo.seq ops) : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c >>= fun _ => main_part3 (F := F) c) = _
  rewrite [part3_chain, part2_chain, part1_chain, part0_chain, Pipeline.chainK_bind_chain, Pipeline.chainK_bind_chain, Pipeline.chainK_bind_chain]
  chain_rfl

theorem body0_chain : main_while0_body_part0 (F := F) = (Pipeline.chainK [] (StableHlo.seq w0) : Prog (TpuEff nD τ sig (Elt F) (HostLoop.Sig (Pipeline.Sig Λ₀ (Fin 0) fun p => (pcfgs (F := F) p).Adm) 1) .tc) PUnit) := by
  chain_rfl
theorem body1_chain : main_while0_body_part1 (F := F) = (Pipeline.chain [StableHlo.seq w1] : Prog (TpuEff nD τ sig (Elt F) (HostLoop.Sig (Pipeline.Sig Λ₀ (Fin 0) fun p => (pcfgs (F := F) p).Adm) 1) .tc) PUnit) := by
  chain_rfl
theorem body_chain : main_while0_body (F := F) = (Pipeline.chain (bodyI.map fun ops => StableHlo.seq ops) : Prog (TpuEff nD τ sig (Elt F) (HostLoop.Sig (Pipeline.Sig Λ₀ (Fin 0) fun p => (pcfgs (F := F) p).Adm) 1) .tc) PUnit) := by
  show (main_while0_body_part0 (F := F) >>= fun _ => main_while0_body_part1 (F := F)) = _
  rewrite [body1_chain, body0_chain, Pipeline.chainK_bind_chain]
  chain_rfl

theorem plain_pre : StableHlo.Plain (preI (F := F)) :=
  StableHlo.Plain.cons a0_sub <| StableHlo.Plain.cons a1_sub <| StableHlo.Plain.cons a2_sub <| StableHlo.Plain.cons a3_sub <| StableHlo.Plain.cons a4_sub <| StableHlo.Plain.cons a5_sub <| StableHlo.Plain.cons a6_sub <| StableHlo.Plain.cons a7_sub <| StableHlo.Plain.cons a8_sub <| StableHlo.Plain.cons b0_sub <| StableHlo.Plain.cons b1_sub <| StableHlo.Plain.cons b2_sub <| StableHlo.Plain.cons b3_sub <| StableHlo.Plain.cons b4_sub <| StableHlo.Plain.cons b5_sub <| StableHlo.Plain.cons b6_sub <| StableHlo.Plain.cons c0_sub <| StableHlo.Plain.cons c1_sub <| StableHlo.Plain.cons c2_sub <| StableHlo.Plain.cons c3_sub <| StableHlo.Plain.cons c4_sub StableHlo.Plain.nil
theorem plain_body : StableHlo.Plain (bodyI (F := F)) := StableHlo.Plain.cons w0_sub <| StableHlo.Plain.cons w1_sub StableHlo.Plain.nil
theorem plain_post : StableHlo.Plain (postI (F := F)) :=
  StableHlo.Plain.cons c5_sub <| StableHlo.Plain.cons d0_sub <| StableHlo.Plain.cons d1_sub <| StableHlo.Plain.cons d2_sub StableHlo.Plain.nil

variable (m : (ℓ : Loc nD τ sig) → Buf (Elt F) ℓ) (ρ : Dev nD → PrngReg)

/-- What the buffers hold before trip `k`. -/
abbrev at' (k : ℕ) (c : Dev nD) : Valuation τ sig (Elt F) := atTrip condOps bodyI (entryContents preI m) k c

/-- The condition's lines leave a carried buffer. -/
theorem cond_keeps (W : Valuation τ sig (Elt F)) (b : Ref sig .tc) (h0 : b ≠ main_while0c_c_34) (h1 : b ≠ main_while0c_v161) :
    after condOps W b = W b := by
  rw [StableHlo.after_cons, StableHlo.after_cons, StableHlo.after_nil, StableHlo.binary_result_ne _ _ _ _ _ _ _ _ h1,
    StableHlo.nullary_result_ne _ _ _ _ h0]

set_option maxHeartbeats 4000000 in
/-- One trip adds one to the counter, -/
theorem body_count (W : Valuation τ sig (Elt F)) : afterL bodyI W main_v123_3 = addi (W main_v123_3) (constantI S_ 32 1#32) := by
  show after w1 (after w0 W) main_v123_3 = _
  simp only [w0, w1]
  after_results
  rfl

set_option maxHeartbeats 4000000 in
/-- and to its copy that the lines of the body read; -/
theorem body_count' (W : Valuation τ sig (Elt F)) : afterL bodyI W main_v123_4 = addi (W main_v123_4) (constantI S_ 32 1#32) := by
  show after w1 (after w0 W) main_v123_4 = _
  simp only [w0, w1]
  after_results
  rfl

set_option maxHeartbeats 4000000 in
/-- at the loop's entry both are zero. -/
theorem entry_count (c : Dev nD) : entryContents preI m c main_v123_3 = constantI S_ 32 0#32 := by
  show after (c4 (F := F)) (afterL [a0, a1, a2, a3, a4, a5, a6, a7, a8, b0, b1, b2, b3, b4, b5, b6, c0, c1, c2, c3] (StableHlo.launchContents m c)) main_v123_3 = _
  simp only [c4]
  after_results
  rfl
set_option maxHeartbeats 4000000 in
theorem entry_count' (c : Dev nD) : entryContents preI m c main_v123_4 = constantI S_ 32 0#32 := by
  show after (c4 (F := F)) (afterL [a0, a1, a2, a3, a4, a5, a6, a7, a8, b0, b1, b2, b3, b4, b5, b6, c0, c1, c2, c3] (StableHlo.launchContents m c)) main_v123_4 = _
  simp only [c4]
  after_results
  rfl

theorem at_succ (k : ℕ) (c : Dev nD) : at' m (k + 1) c = afterL bodyI (after condOps (at' m k c)) := rfl

/-- Before trip `k` the counter is `k`, -/
theorem at_count (c : Dev nD) : ∀ k, at' m k c main_v123_3 = fun _ => BitVec.ofNat 32 k
  | 0 => entry_count m c
  | k + 1 => by
    rw [at_succ, body_count, cond_keeps _ _ (by decide) (by decide), at_count c k]
    funext i
    exact WordCmp.addi_ofNat k 1
/-- and so is its copy. -/
theorem at_count' (c : Dev nD) : ∀ k, at' m k c main_v123_4 = fun _ => BitVec.ofNat 32 k
  | 0 => entry_count' m c
  | k + 1 => by
    rw [at_succ, body_count', cond_keeps _ _ (by decide) (by decide), at_count' c k]
    funext i
    exact WordCmp.addi_ofNat k 1

/-- The condition is true before trip `k` exactly while `k < 5000`. -/
theorem cond_spec : CondSpec (pcfgs (F := F)) defs₀ loops main_while0_cond condOps bodyI (entryContents preI m) 5000 := by
  intro k hk c bd
  have hctr := at_count m c k
  simp only [main_while0_cond, bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply]
  rw [wp_ret]; imodintro
  isplitr
  · ipureintro
    show Iff (IntOp.cmpi .slt (HloOp.result _ (at' m k c) main_v123_3 HostLoop.idx0)
        (HloOp.result _ (at' m k c) main_while0c_c_34 HostLoop.idx0) = 1#1) (k < 5000)
    rw [StableHlo.nullary_result_ne _ _ _ _ (by decide), StableHlo.nullary_result, hctr]
    exact WordCmp.cmpi_slt_ofNat_eq_one_iff (by omega) (by decide)
  isplitl [Hb]; · iexact Hb
  rw [StableHlo.after_cons, StableHlo.after_cons, StableHlo.after_nil]; iexact Hh

/-- The run: every buffer ends at what the lines and the five thousand trips leave. -/
theorem run [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 5000 m c (Proc.devRef .tc b)) :=
  StableHlo.run_loop (pcfgs (F := F)) defs₀ loops main 0 main_while0_cond main_while0_body rfl preI bodyI postI condOps
    plain_pre plain_body plain_post main_chain body_chain 5000 m ρ (cond_spec m)

end Cert.NmsRef

end
-- ==== Proof.NmsFold.lean ====
module

public import proofs.«01_k».proof.Proof.Gen.Kernel2Ideal.Skeleton

/-! What the suppression kernel's body computes, as functions of the contents of its buffers: the
fixed-point loop, the loop over later blocks and the loop over blocks, each as a recursion over its
trips. -/

@[expose] public section

set_option maxRecDepth 16384

noncomputable section

namespace Cert.Nms

open Idealize.ShloMosaic Idealize.ShloMosaic.TcCoe Idealize.SL.Sem
open Cert.Kernel2Ideal Cert.Kernel2Ideal.Gen

variable {F : FTy → Type} [FloatOps F]

/-- The contents of the row-major operand's buffer. -/
abbrev RowsT (F : FTy → Type) := (cc0_stg0_0 : Ref sig .tc).ty.Contents (Elt F)
/-- The contents of the transposed operand's buffer. -/
abbrev ColsT (F : FTy → Type) := (cc0_stg1_0 : Ref sig .tc).ty.Contents (Elt F)
/-- The contents of the scratch buffer. -/
abbrev SuppT (F : FTy → Type) := (cc0_scratch0 : Ref sig .tc).ty.Contents (Elt F)

/-- Reading 256 lanes of one row of the row-major operand. -/
abbrev rd0 (off : Fin 2 → Nat) (inb : ∀ a, off a + S1x256.size a ≤ S8x5120.size a) (f : RowsT F) : Vec F S1x256 .f32 :=
  (Memref.whole cc0_stg0_0 : Memref sig .tc _ _ _).view.readAt (Elt F) (Rect.unit (s := S8x5120) off S1x256.size inb).toLoadRect f
/-- Reading 256 rows of one column of the transposed operand. -/
abbrev rd1 (off : Fin 2 → Nat) (inb : ∀ a, off a + S256x1.size a ≤ S5120x8.size a) (f : ColsT F) : Vec F S256x1 .f32 :=
  (Memref.whole cc0_stg1_0 : Memref sig .tc _ _ _).view.readAt (Elt F) (Rect.unit (s := S5120x8) off S256x1.size inb).toLoadRect f
/-- Reading 256 lanes of the scratch. -/
abbrev rd3 (off : Fin 2 → Nat) (inb : ∀ a, off a + S1x256.size a ≤ S1x5120.size a) (f : SuppT F) : Vec F S1x256 .f32 :=
  (Memref.whole cc0_scratch0 : Memref sig .tc _ _ _).view.readAt (Elt F) (Rect.unit (s := S1x5120) off S1x256.size inb).toLoadRect f
/-- Writing 256 lanes of the scratch. -/
abbrev wr3 (off : Fin 2 → Nat) (inb : ∀ a, off a + S1x256.size a ≤ S1x5120.size a) (f : SuppT F) (w : Vec F S1x256 .f32) : SuppT F :=
  ((Memref.whole cc0_scratch0 : Memref sig .tc _ _ _).access (Rect.unit (s := S1x5120) off S1x256.size inb)).write (Elt F) f w Finset.univ

/-- The fixed-point loop with `n` trips allowed: the current and the previous iterate. -/
def whileN (C : FVec F S256x256 .f32) (valid : FVec F S1x256 .f32) : ℕ → FVec F S1x256 .f32 → FVec F S1x256 .f32 → FVec F S1x256 .f32
  | 0, K, _ => K
  | n + 1, K, Kp => if Scalar.cmpf .ogt (k0_pay5 K Kp) (Scalar.ofBits .f32 0x00000000#32 : F .f32) = 1#1
      then whileN C valid n (k0_pay6 C valid K) K else K

section Trip
variable (k : Fin k0_t1_loop.trips) (f0 : RowsT F) (f1 : ColsT F)

/-- The block's own conflict matrix. -/
def selfC : FVec F S256x256 .f32 :=
  k0_pay32 (k0_pay19 (rd1 (k0_off5 k) (k0_off5_inb k) f1))
    (k0_pay20 (rd1 (k0_off1 k) (k0_off1_inb k) f1) (rd1 (k0_off2 k) (k0_off2_inb k) f1) (rd1 (k0_off3 k) (k0_off3_inb k) f1) (rd1 (k0_off4 k) (k0_off4_inb k) f1))
    (k0_pay25 (rd0 (k0_off10 k) (k0_off10_inb k) f0))
    (k0_pay26 (rd0 (k0_off6 k) (k0_off6_inb k) f0) (rd0 (k0_off7 k) (k0_off7_inb k) f0) (rd0 (k0_off8 k) (k0_off8_inb k) f0) (rd0 (k0_off9 k) (k0_off9_inb k) f0))
    (k0_pay27 (rd1 (k0_off1 k) (k0_off1_inb k) f1) (rd0 (k0_off6 k) (k0_off6_inb k) f0))
    (k0_pay28 (rd1 (k0_off2 k) (k0_off2_inb k) f1) (rd0 (k0_off7 k) (k0_off7_inb k) f0))
    (k0_pay29 (rd1 (k0_off3 k) (k0_off3_inb k) f1) (rd0 (k0_off8 k) (k0_off8_inb k) f0))
    (k0_pay30 (rd1 (k0_off4 k) (k0_off4_inb k) f1))
    (k0_pay31 (rd0 (k0_off9 k) (k0_off9_inb k) f0))

/-- The candidates of the block that earlier blocks did not suppress. -/
def validK (s : SuppT F) : FVec F S1x256 .f32 := k0_pay33 (rd3 (k0_off11 k) (k0_off11_inb k) s)

/-- The candidates of the block that survive. -/
def kept (s : SuppT F) : FVec F S1x256 .f32 :=
  whileN (selfC k f0 f1) (validK k s) 258 (validK k s) (k0_pay34 (rd3 (k0_off11 k) (k0_off11_inb k) s))

/-- The scratch after the block's own suppressions are stored. -/
def selfStep (s : SuppT F) : SuppT F := wr3 (k0_off11 k) (k0_off11_inb k) s (k0_pay35 (kept k f0 f1 s))

/-- One trip of the loop over later blocks. -/
def crossStep (K : FVec F S1x256 .f32) (k2 : Fin (k0_t2_loop k).trips) (s : SuppT F) : SuppT F :=
  wr3 (k0_off17 k k2) (k0_off17_inb k k2) s
    (k0_pay2 (k0_pay19 (rd1 (k0_off5 k) (k0_off5_inb k) f1)) K (k0_pay7 (rd0 (k0_off16 k k2) (k0_off16_inb k k2) f0))
      (k0_pay8 (k0_pay15 (rd1 (k0_off1 k) (k0_off1_inb k) f1)) (k0_pay16 (rd1 (k0_off2 k) (k0_off2_inb k) f1))
        (k0_pay17 (rd1 (k0_off3 k) (k0_off3_inb k) f1)) (k0_pay18 (rd1 (k0_off4 k) (k0_off4_inb k) f1))
        (k0_pay20 (rd1 (k0_off1 k) (k0_off1_inb k) f1) (rd1 (k0_off2 k) (k0_off2_inb k) f1) (rd1 (k0_off3 k) (k0_off3_inb k) f1) (rd1 (k0_off4 k) (k0_off4_inb k) f1))
        (rd0 (k0_off12 k k2) (k0_off12_inb k k2) f0) (rd0 (k0_off13 k k2) (k0_off13_inb k k2) f0)
        (rd0 (k0_off14 k k2) (k0_off14_inb k k2) f0) (rd0 (k0_off15 k k2) (k0_off15_inb k k2) f0))
      (k0_pay9 (Scalar.muli (Scf.iv 0#32 1#32 k) 256#32)) (iota .tc S256x256 32 [1] iota_S256x256_d1_w32)
      (k0_pay10 k (Scf.iv 0#32 1#32 k) 1#32 k2)
      (rd3 (k0_off17 k k2) (k0_off17_inb k k2) s))

/-- The loop over later blocks, its first `n` trips. -/
def crossN (K : FVec F S1x256 .f32) (s : SuppT F) : ℕ → SuppT F
  | 0 => s
  | n + 1 => if h : n < (k0_t2_loop k).trips then crossStep k f0 f1 K ⟨n, h⟩ (crossN K s n) else crossN K s n

/-- One trip of the loop over blocks. -/
def outerStep (s : SuppT F) : SuppT F :=
  crossN k f0 f1 (kept k f0 f1 s) (selfStep k f0 f1 s) (k0_t2_loop k).trips

end Trip

/-- The scratch after the first `n` trips of the loop over blocks. -/
def suppN (f0 : RowsT F) (f1 : ColsT F) : ℕ → SuppT F
  | 0 => k0_pay1
  | n + 1 => if h : n < k0_t1_loop.trips then outerStep ⟨n, h⟩ f0 f1 (suppN f0 f1 n) else suppN f0 f1 n

/-- What the body stores into the result's buffer. -/
def nmsOut (f0 : RowsT F) (f1 : ColsT F) : (cc0_stg2_0 : Ref sig .tc).ty.Contents (Elt F) :=
  k0_pay4 ((Memref.whole cc0_stg0_0 : Memref sig .tc _ _ _).view.readAt (Elt F)
      (Rect.unit (s := S8x5120) ![5, 0] S1x5120.size inb_S8x5120_S1x5120_5_0).toLoadRect f0)
    (suppN f0 f1 k0_t1_loop.trips)

end Cert.Nms
-- ==== Proof.NmsKeep.lean ====
module

public import Idealize.ShloMosaic.Lib.Pointwise

/-! Greedy suppression as plain mathematics: the candidates that survive, what the first `b` of them suppress, and
the fixed point that decides one block. -/

@[expose] public section

namespace Cert.Keep

/-- Candidate `j` survives: no earlier survivor conflicts with it. -/
def keep (S : ℕ → ℕ → Prop) (j : ℕ) : Prop := ∀ i : Fin j, keep S i.val → ¬ S i.val j
termination_by j
decreasing_by exact i.2

theorem keep_iff (S : ℕ → ℕ → Prop) (j : ℕ) : keep S j ↔ ∀ i < j, keep S i → ¬ S i j := by
  constructor
  · intro h i hi; rw [keep] at h; exact h ⟨i, hi⟩
  · intro h; rw [keep]; exact fun i => h i.val i.2

/-- One of the first `b` candidates survives and suppresses `j`. -/
def supp (S : ℕ → ℕ → Prop) (b j : ℕ) : Prop := ∃ i, i < b ∧ i < j ∧ keep S i ∧ S i j

theorem supp_zero (S : ℕ → ℕ → Prop) (j : ℕ) : ¬ supp S 0 j := fun ⟨_, h, _⟩ => Nat.not_lt_zero _ h

/-- From `j` on, being suppressed is not surviving. -/
theorem supp_iff_not_keep (S : ℕ → ℕ → Prop) {b j : ℕ} (h : j ≤ b) : supp S b j ↔ ¬ keep S j := by
  rw [keep_iff]; push Not
  constructor
  · rintro ⟨i, _, hi, hk, hs⟩; exact ⟨i, hi, hk, hs⟩
  · rintro ⟨i, hi, hk, hs⟩; exact ⟨i, by omega, hi, hk, hs⟩

/-- A block of `w` more candidates. -/
theorem supp_add (S : ℕ → ℕ → Prop) (b w j : ℕ) :
    supp S (b + w) j ↔ supp S b j ∨ ∃ i, i < w ∧ b + i < j ∧ keep S (b + i) ∧ S (b + i) j := by
  constructor
  · rintro ⟨i, hi, hj, hk, hs⟩
    by_cases h : i < b
    · exact .inl ⟨i, h, hj, hk, hs⟩
    · obtain ⟨d, rfl⟩ := Nat.exists_eq_add_of_le (Nat.le_of_not_lt h)
      exact .inr ⟨d, by omega, hj, hk, hs⟩
  · rintro (⟨i, hi, hj, hk, hs⟩ | ⟨i, hi, hj, hk, hs⟩)
    · exact ⟨i, by omega, hj, hk, hs⟩
    · exact ⟨b + i, by omega, hj, hk, hs⟩

theorem supp_succ (S : ℕ → ℕ → Prop) (b j : ℕ) :
    supp S (b + 1) j ↔ supp S b j ∨ (b < j ∧ keep S b ∧ S b j) := by
  rw [supp_add]
  constructor
  · rintro (h | ⟨i, hi, h⟩)
    · exact .inl h
    · obtain rfl : i = 0 := by omega
      exact .inr h
  · rintro (h | h)
    · exact .inl h
    · exact .inr ⟨0, by omega, h⟩

/-- Survival depends on the conflicts among earlier candidates only. -/
theorem keep_congr {S T : ℕ → ℕ → Prop} {n : ℕ} (h : ∀ i j, i < j → j < n → (S i j ↔ T i j)) (j : ℕ) (hj : j < n) :
    keep S j ↔ keep T j := by
  induction j using Nat.strong_induction_on with
  | _ j ih =>
    rw [keep_iff, keep_iff]
    constructor
    · intro H i hi hk hs; exact H i hi ((ih i hi (by omega)).2 hk) ((h i j hi hj).2 hs)
    · intro H i hi hk hs; exact H i hi ((ih i hi (by omega)).1 hk) ((h i j hi hj).1 hs)

/-- One step of the iteration on a block: the valid ones that no member of `K` conflicts with. -/
def next {n : ℕ} (v : Fin n → Prop) (C : Fin n → Fin n → Prop) (K : Fin n → Prop) (j : Fin n) : Prop :=
  v j ∧ ¬ ∃ i, K i ∧ C i j

section Block
variable {n : ℕ} {v : Fin n → Prop} {C : Fin n → Fin n → Prop} (hC : ∀ i j, C i j → i < j)
include hC

/-- A step gains one more right place. -/
theorem next_agree {K R : Fin n → Prop} (hR : R = next v C R) {t : ℕ} (h : ∀ j : Fin n, j.val < t → (K j ↔ R j)) :
    ∀ j : Fin n, j.val < t + 1 → (next v C K j ↔ R j) := by
  intro j hj
  rw [hR]
  unfold next
  refine and_congr Iff.rfl (not_congr ?_)
  constructor
  · rintro ⟨i, hk, hc⟩
    have := hC i j hc
    exact ⟨i, (h i (by have := Fin.lt_def.1 this; omega)).1 hk, hc⟩
  · rintro ⟨i, hk, hc⟩
    have := hC i j hc
    exact ⟨i, (h i (by have := Fin.lt_def.1 this; omega)).2 hk, hc⟩

/-- There is one fixed point only. -/
theorem next_unique {K R : Fin n → Prop} (hK : K = next v C K) (hR : R = next v C R) : K = R := by
  have : ∀ t : ℕ, ∀ j : Fin n, j.val < t → (K j ↔ R j) := by
    intro t
    induction t with
    | zero => intro j hj; omega
    | succ t ih => intro j hj; rw [hK]; exact next_agree hC hR ih j hj
  funext j
  exact propext (this (j.val + 1) j (by omega))

end Block

/-- The survivors of a block are its fixed point. -/
theorem keep_next (S : ℕ → ℕ → Prop) (b n : ℕ) :
    (fun j : Fin n => keep S (b + j)) = next (fun j : Fin n => ¬ supp S b (b + j)) (fun i j : Fin n => S (b + i) (b + j) ∧ i < j)
      (fun j : Fin n => keep S (b + j)) := by
  funext j
  apply propext
  have e : keep S (b + j) ↔ ¬ supp S (b + n) (b + j) := by
    rw [supp_iff_not_keep S (b := b + n) (by omega), not_not]
  rw [e, supp_add]
  unfold next
  rw [not_or]
  refine and_congr Iff.rfl (not_congr ?_)
  constructor
  · rintro ⟨i, hi, hij, hk, hs⟩
    exact ⟨⟨i, hi⟩, hk, hs, Fin.lt_def.2 (by simpa using hij)⟩
  · rintro ⟨i, hk, hs, hij⟩
    exact ⟨i.val, i.2, by have := Fin.lt_def.1 hij; omega, hk, hs⟩

end Cert.Keep
-- ==== Proof.NmsPay.lean ====
module

public import proofs.«01_k».proof.Proof.NmsFold
public import proofs.«01_k».proof.Proof.NmsKeep
public import Idealize.ShloMosaic.Lib.Pointwise
public import Idealize.ShloMosaic.Lib.WordCmp

/-! The values of the suppression kernel's vector operations over the extended reals: a truth value is the number
one or zero, the product with a conflict matrix counts, and a comparison with one half asks whether the count is
positive. -/

@[expose] public section

set_option maxRecDepth 16384

noncomputable section

namespace Cert.Nms

open Idealize.ShloMosaic Idealize.ShloMosaic.TcCoe Idealize.SL.Sem
open Cert.Kernel2Ideal Cert.Kernel2Ideal.Gen
open scoped Classical

/-- One when `p` holds, zero otherwise. -/
def ind (p : Prop) : EReal := if p then 1 else 0

theorem ind_true {p : Prop} (h : p) : ind p = 1 := if_pos h
theorem ind_false {p : Prop} (h : ¬ p) : ind p = 0 := if_neg h
theorem ind_congr {p q : Prop} (h : p ↔ q) : ind p = ind q := by rw [propext h]
theorem ind_nonneg (p : Prop) : 0 ≤ ind p := by unfold ind; split <;> simp
theorem ind_inj {p q : Prop} : ind p = ind q ↔ (p ↔ q) := by
  unfold ind; by_cases hp : p <;> by_cases hq : q <;> simp [hp, hq]
theorem ind_mul (p q : Prop) : ind p * ind q = ind (p ∧ q) := by
  unfold ind; by_cases hp : p <;> by_cases hq : q <;> simp [hp, hq]
theorem ind_not (p : Prop) : 1 - ind p = ind (¬ p) := by
  unfold ind; by_cases hp : p
  · simp only [hp, if_true, not_true, if_false]
    have : (1 : EReal) = ((1 : ℝ) : EReal) := rfl
    rw [this, ← EReal.coe_sub]; simp
  · simp [hp]
theorem ind_sub_one_ne (p : Prop) : ind p - 1 ≠ ind p := by
  unfold ind
  have e1 : (1 : EReal) = ((1 : ℝ) : EReal) := rfl
  by_cases hp : p
  · simp only [hp, if_true]
    rw [e1, ← EReal.coe_sub]; simp
  · simp only [hp, if_false]
    rw [e1, ← EReal.coe_zero, ← EReal.coe_sub, Ne, EReal.coe_eq_coe_iff]; norm_num

theorem half_val : Ideal.ofBits FTy.f32 0x3F000000#32 = ((1/2 : ℝ) : EReal) := by
  simp [Ideal.ofBits, Ideal.ieee]
  norm_num
  rw [← EReal.coe_mul]
  norm_num
theorem negInf_val : Ideal.ofBits FTy.f32 0xFF800000#32 = ⊥ := by
  simp [Ideal.ofBits, Ideal.ieee]
theorem half_pos : (0 : EReal) < Ideal.ofBits FTy.f32 0x3F000000#32 := by
  rw [half_val, ← EReal.coe_zero, EReal.coe_lt_coe_iff]; norm_num
theorem half_lt_one : Ideal.ofBits FTy.f32 0x3F000000#32 < (1 : EReal) := by
  rw [half_val, ← EReal.coe_one, EReal.coe_lt_coe_iff]; norm_num

theorem half_lt_ind (p : Prop) : Ideal.ofBits FTy.f32 0x3F000000#32 < ind p ↔ p := by
  unfold ind; split
  · exact iff_of_true half_lt_one ‹_›
  · exact iff_of_false (not_lt.2 half_pos.le) ‹_›
theorem ind_lt_half (p : Prop) : ind p < Ideal.ofBits FTy.f32 0x3F000000#32 ↔ ¬ p := by
  unfold ind; split
  · exact iff_of_false (not_lt.2 half_lt_one.le) (not_not.2 ‹_›)
  · exact iff_of_true half_pos ‹_›

/-- A sum of truth values is zero or at least one. -/
theorem sum_ind {n : ℕ} (p : Fin n → Prop) :
    (∃ x, p x) ∧ 1 ≤ ∑ x, ind (p x) ∨ (¬ ∃ x, p x) ∧ ∑ x, ind (p x) = 0 := by
  by_cases h : ∃ x, p x
  · obtain ⟨x, hx⟩ := h
    refine .inl ⟨⟨x, hx⟩, ?_⟩
    rw [← ind_true hx]
    exact Finset.single_le_sum (f := fun x => ind (p x)) (fun i _ => ind_nonneg _) (Finset.mem_univ x)
  · refine .inr ⟨h, Finset.sum_eq_zero fun x _ => ind_false fun hx => h ⟨x, hx⟩⟩
theorem half_lt_sum {n : ℕ} (p : Fin n → Prop) :
    Ideal.ofBits FTy.f32 0x3F000000#32 < ∑ x, ind (p x) ↔ ∃ x, p x := by
  rcases sum_ind p with ⟨h, e⟩ | ⟨h, e⟩
  · exact iff_of_true (half_lt_one.trans_le e) h
  · rw [e]; exact iff_of_false (not_lt.2 half_pos.le) h
theorem min_sum {n : ℕ} (p : Fin n → Prop) : min (∑ x, ind (p x)) 1 = ind (∃ x, p x) := by
  rcases sum_ind p with ⟨h, e⟩ | ⟨h, e⟩
  · rw [min_eq_right e, ind_true h]
  · rw [e, ind_false h]; simp
theorem max_ind (p q : Prop) : max (ind p) (ind q) = ind (p ∨ q) := by
  unfold ind; by_cases hp : p <;> by_cases hq : q <;> simp [hp, hq]

/-- The area of two boxes' intersection over the area of their union. -/
def iou (a b c d f g h k : EReal) : EReal :=
  Ideal.div (max 0 (min c h - max a f) * max 0 (min d k - max b g))
    ((c - a) * (d - b) + (h - f) * (k - g) - max 0 (min c h - max a f) * max 0 (min d k - max b g)
      + Ideal.ofBits FTy.f32 0x3089705F#32)

/-- Two candidates conflict: same class and an overlap above the threshold. -/
def hit (a b c d e f g h k l : EReal) : Prop := Ideal.ofBits FTy.f32 0x3F333333#32 < iou a b c d f g h k ∧ e = l

theorem andi_ofBool (p q : Bool) : IntOp.andi (BitVec.ofBool p) (BitVec.ofBool q) = BitVec.ofBool (p && q) := by
  cases p <;> cases q <;> rfl
/-- A bit widened to a word and converted is the number it stands for. -/
theorem bit_val (p : Prop) [Decidable p] :
    (FloatOps.sitofp FTy.f32 (BitVec.setWidth 32 (BitVec.ofBool (decide p))) : Ideal .f32) = ind p := by
  by_cases h : p
  · rw [ind_true h, decide_eq_true h]
    show (((1#32 : BitVec 32).toInt : ℝ) : EReal) = 1
    rw [show (1#32 : BitVec 32).toInt = 1 by decide]; simp
  · rw [ind_false h, decide_eq_false h]
    show (((0#32 : BitVec 32).toInt : ℝ) : EReal) = 0
    rw [show (0#32 : BitVec 32).toInt = 0 by decide]; simp

theorem sgt_ofNat {i j : ℕ} (hi : i < 2 ^ 31) (hj : j < 2 ^ 31) :
    IntOp.cmpi CmpIPredicate.sgt (BitVec.ofNat 32 j) (BitVec.ofNat 32 i) = BitVec.ofBool (decide (i < j)) := by
  rw [WordCmp.cmpi_sgt_eq]
  congr 1
  rw [decide_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  exact Int.ofNat_lt

section Pay
variable (a b c d e : FVec Ideal S256x1 .f32) (f g h k l : FVec Ideal S1x256 .f32)

/-- Candidate `i` of the one block against candidate `j` of the other. -/
def hitAt (i j : Fin 256) : Prop :=
  hit (a (ix2 i 0)) (b (ix2 i 0)) (c (ix2 i 0)) (d (ix2 i 0)) (e (ix2 i 0)) (f (ix2 0 j)) (g (ix2 0 j)) (h (ix2 0 j)) (k (ix2 0 j)) (l (ix2 0 j))

theorem self_val (i j : Fin 256) :
    (k0_pay32 (F := Ideal) (k0_pay19 e) (k0_pay20 a b c d) (k0_pay25 l) (k0_pay26 f g h k) (k0_pay27 a f) (k0_pay28 b g)
      (k0_pay29 c h) (k0_pay30 d) (k0_pay31 k) (ix2 i j) : EReal) = ind (hitAt a b c d e f g h k l i j ∧ i < j) := by
  unfold k0_pay32 k0_pay19 k0_pay20 k0_pay25 k0_pay26 k0_pay27 k0_pay28 k0_pay29 k0_pay30 k0_pay31
  unfold k0_pay15 k0_pay16 k0_pay17 k0_pay18 k0_pay21 k0_pay22 k0_pay23 k0_pay24
  pointwise
  rw [sgt_ofNat (by omega) (by omega), andi_ofBool, andi_ofBool, ← Bool.decide_and, ← Bool.decide_and, bit_val]
  exact Iff.rfl |> ind_congr

theorem iou_val (i j : Fin 256) :
    (k0_pay8 (F := Ideal) (k0_pay15 a) (k0_pay16 b) (k0_pay17 c) (k0_pay18 d) (k0_pay20 a b c d) f g h k (ix2 i j) : EReal)
      = iou (a (ix2 i 0)) (b (ix2 i 0)) (c (ix2 i 0)) (d (ix2 i 0)) (f (ix2 0 j)) (g (ix2 0 j)) (h (ix2 0 j)) (k (ix2 0 j)) := by
  unfold k0_pay8 k0_pay20 k0_pay15 k0_pay16 k0_pay17 k0_pay18
  pointwise
  rfl

theorem cross_val (K s : FVec Ideal S1x256 .f32) (p q r : IVec S256x256 32) (kp sp : Fin 256 → Prop) (M N : ℕ)
    (hM : M + 256 < 2 ^ 31) (hN : N + 256 < 2 ^ 31) (hK : ∀ j, K (ix2 0 j) = ind (kp j)) (j : Fin 256) (hs : s (ix2 0 j) = ind (sp j))
    (hp : ∀ i, p (ix2 i j) = BitVec.ofNat 32 (M + i)) (hq : ∀ i, IntOp.addi (r (ix2 i j)) (q (ix2 i j)) = BitVec.ofNat 32 (N + j)) :
    (k0_pay2 (F := Ideal) (k0_pay19 e) K (k0_pay7 l)
      (k0_pay8 (F := Ideal) (k0_pay15 a) (k0_pay16 b) (k0_pay17 c) (k0_pay18 d) (k0_pay20 a b c d) f g h k) p q r s (ix2 0 j) : EReal)
      = ind (sp j ∨ ∃ i : Fin 256, kp i ∧ hitAt a b c d e f g h k l i j ∧ M + i < N + j) := by
  generalize hI : k0_pay8 (F := Ideal) (k0_pay15 a) (k0_pay16 b) (k0_pay17 c) (k0_pay18 d) (k0_pay20 a b c d) f g h k = I
  unfold k0_pay2 k0_pay19 k0_pay7
  pointwise
  simp only [hK, hs, hp, hq]
  have : ∀ x : Fin 256, IntOp.cmpi CmpIPredicate.sgt (BitVec.ofNat 32 (N + j)) (BitVec.ofNat 32 (M + x)) = BitVec.ofBool (decide (M + x.val < N + j.val)) :=
    fun x => sgt_ofNat (by omega) (by omega)
  simp only [this, andi_ofBool, ← Bool.decide_and, bit_val, ind_mul]
  rw [min_sum, max_ind]
  refine ind_congr (or_congr Iff.rfl (exists_congr fun i => and_congr Iff.rfl (and_congr ?_ Iff.rfl)))
  rw [← hI, iou_val]
  exact Iff.rfl

end Pay

theorem valid_val (s : FVec Ideal S1x256 .f32) (j : Fin 256) (p : Prop) (hs : s (ix2 0 j) = ind p) :
    (k0_pay33 (F := Ideal) s (ix2 0 j) : EReal) = ind (¬ p) := by
  unfold k0_pay33; pointwise; rw [hs, ind_not]
theorem prev_val (s : FVec Ideal S1x256 .f32) (j : Fin 256) (p : Prop) (hs : s (ix2 0 j) = ind p) :
    (k0_pay34 (F := Ideal) s (ix2 0 j) : EReal) = ind (¬ p) - 1 := by
  unfold k0_pay34; pointwise; rw [valid_val s j p hs]
theorem drop_val (s : FVec Ideal S1x256 .f32) (j : Fin 256) (p : Prop) (hs : s (ix2 0 j) = ind p) :
    (k0_pay35 (F := Ideal) s (ix2 0 j) : EReal) = ind (¬ p) := by
  unfold k0_pay35; pointwise; rw [hs, ind_not]
theorem out_val (s t : FVec Ideal S1x5120 .f32) (j : Fin 5120) (p : Prop) (ht : t (ix2 0 j) = ind p) :
    (k0_pay4 (F := Ideal) s t (ix2 0 j) : EReal) = ind (¬ p ∧ Ideal.ofBits FTy.f32 0x3D4CCCCD#32 < s (ix2 0 j)) := by
  unfold k0_pay4; pointwise
  rw [ht, andi_ofBool, ← Bool.decide_and, bit_val]
  exact ind_congr (and_congr (ind_lt_half p) Iff.rfl)

/-- The loop's test: some lane changed. -/
theorem test_val (K Kp : FVec Ideal S1x256 .f32) :
    Scalar.cmpf .ogt (k0_pay5 K Kp) (Scalar.ofBits .f32 0x00000000#32 : Ideal .f32) = 1#1 ↔ ∃ j : Fin 256, K (ix2 0 j) ≠ Kp (ix2 0 j) := by
  have e : (k0_pay5 K Kp : EReal) = Finset.fold max (Ideal.ofBits FTy.f32 4286578688#32)
      (fun x : Fin 1 × Fin 256 => if K (ix2 0 x.2) ≠ Kp (ix2 0 x.2) then (1 : EReal) else 0) Finset.univ := by
    unfold k0_pay5; pointwise
  have e2 : Scalar.cmpf .ogt (k0_pay5 K Kp) (Scalar.ofBits .f32 0x00000000#32 : Ideal .f32) = BitVec.ofBool (decide ((0 : EReal) < k0_pay5 K Kp)) := by
    pointwise
  rw [e2, e]
  have e3 : ∀ b : Bool, BitVec.ofBool b = 1#1 ↔ b = true := by decide
  rw [e3, decide_eq_true_iff, Finset.lt_fold_max, negInf_val]
  constructor
  · rintro (h | ⟨x, _, h⟩)
    · exact absurd h (by simp)
    · by_contra hn
      push Not at hn
      rw [if_neg (not_not.2 (hn x.2))] at h
      exact lt_irrefl _ h
  · rintro ⟨j, h⟩
    exact .inr ⟨(0, j), Finset.mem_univ _, by rw [if_pos h]; exact zero_lt_one⟩

theorem step_val (C : FVec Ideal S256x256 .f32) (v K : FVec Ideal S1x256 .f32) (c : Fin 256 → Fin 256 → Prop) (vp kp : Fin 256 → Prop)
    (hC : ∀ i j, C (ix2 i j) = ind (c i j)) (hv : ∀ j, v (ix2 0 j) = ind (vp j)) (hK : ∀ j, K (ix2 0 j) = ind (kp j)) (j : Fin 256) :
    (k0_pay6 C v K (ix2 0 j) : EReal) = ind (Keep.next vp c kp j) := by
  unfold k0_pay6
  pointwise
  simp only [hC, hK, hv, ind_mul]
  unfold Keep.next
  by_cases h : ∃ x, kp x ∧ c x j
  · rw [if_pos ((half_lt_sum _).2 h), ind_false (fun q => q.2 h)]
  · rw [if_neg (fun q => h ((half_lt_sum _).1 q))]
    exact ind_congr (by simp only [h, not_false_eq_true, and_true])

/-- The loop ends at the fixed point, if it is allowed as many trips as there are lanes. -/
theorem whileN_val (C : FVec Ideal S256x256 .f32) (v : FVec Ideal S1x256 .f32) (c : Fin 256 → Fin 256 → Prop) (vp R : Fin 256 → Prop)
    (hC : ∀ i j, C (ix2 i j) = ind (c i j)) (hv : ∀ j, v (ix2 0 j) = ind (vp j)) (hc : ∀ i j, c i j → i < j)
    (hR : R = Keep.next vp c R) :
    ∀ (n t : ℕ) (K Kp : FVec Ideal S1x256 .f32) (kp : Fin 256 → Prop), 256 ≤ t + n → (∀ j, K (ix2 0 j) = ind (kp j)) →
      (∀ j : Fin 256, j.val < t → (kp j ↔ R j)) →
      ((∀ j, K (ix2 0 j) = Kp (ix2 0 j)) → kp = Keep.next vp c kp) → ∀ j, whileN C v n K Kp (ix2 0 j) = ind (R j) := by
  intro n
  induction n with
  | zero =>
    intro t K Kp kp ht hK hagree _ j
    rw [whileN, hK]
    exact ind_congr (hagree j (by omega))
  | succ n ih =>
    intro t K Kp kp ht hK hagree hfix j
    rw [whileN]
    by_cases hne : ∃ j : Fin 256, K (ix2 0 j) ≠ Kp (ix2 0 j)
    · rw [if_pos ((test_val K Kp).2 hne)]
      refine ih (t + 1) _ _ (Keep.next vp c kp) (by omega) (step_val C v K c vp kp hC hv hK)
        (Keep.next_agree hc hR hagree) (fun he => ?_) j
      have : Keep.next vp c kp = kp := by
        funext i
        have := he i
        rw [step_val C v K c vp kp hC hv hK i, hK i] at this
        exact propext (ind_inj.1 this)
      rw [this, this]
    · rw [if_neg (fun q => hne ((test_val K Kp).1 q)), hK]
      push Not at hne
      rw [Keep.next_unique hc (hfix hne) hR]

end Cert.Nms
-- ==== Proof.RefVal.lean ====
module

public import proofs.«01_k».proof.Proof.RefRun
public import proofs.«01_k».proof.Proof.NmsPay

/-! What the lines of the suppression program's reference compute over the extended reals, stretch by stretch: for each
class the order of the candidates and the matrix of overlaps, then one trip of the loop that runs both classes' passes. -/

@[expose] public section

set_option maxRecDepth 16384

noncomputable section

namespace Cert.NmsRef

open Idealize.ShloMosaic Idealize.ShloMosaic.TcCoe Idealize.SL.Sem
open Idealize.ShloMosaic.StableHlo (after held atTrip afterL CondSpec entryContents finalContents)
open Cert.Reference2Ideal Cert.Reference2Ideal.Gen

variable {F : FTy → Type} [FloatOps F]

theorem start_val (k : ℕ) (hk : k < 5000) :
    ((select (cmpi .slt (fun _ => BitVec.ofNat 32 k) (constantI S_ 32 0#32)) (addi (fun _ => BitVec.ofNat 32 k) (constantI S_ 32 5000#32)) (fun _ => BitVec.ofNat 32 k) : IVec S_ 32)
      (Shape.Idx.first h_S_)).toInt = (k : Int) := by
  have : ∀ k : Fin 5000, ((select (cmpi .slt (fun _ => BitVec.ofNat 32 k.val) (constantI S_ 32 0#32)) (addi (fun _ => BitVec.ofNat 32 k.val) (constantI S_ 32 5000#32)) (fun _ => BitVec.ofNat 32 k.val) : IVec S_ 32)
      (Shape.Idx.first h_S_)).toInt = (k.val : Int) := by
    intro k
    show ((Scalar.select (IntOp.cmpi .slt (BitVec.ofNat 32 k.val) 0#32) (BitVec.ofNat 32 k.val + 5000#32) (BitVec.ofNat 32 k.val)) : BitVec 32).toInt = _
    have e : IntOp.cmpi .slt (BitVec.ofNat 32 k.val) 0#32 = 0#1 := by
      have := (WordCmp.cmpi_slt_ofNat_eq_zero_iff (w := 32) (a := k.val) (b := 0) (by omega) (by omega)).2 (by omega)
      exact this
    rw [show Scalar.select (IntOp.cmpi .slt (BitVec.ofNat 32 k.val) 0#32) (BitVec.ofNat 32 k.val + 5000#32) (BitVec.ofNat 32 k.val) = BitVec.ofNat 32 k.val from WordCmp.select_of_eq_zero e _ _, BitVec.toInt_eq_toNat_of_lt (by simp; omega), BitVec.toNat_ofNat, Nat.mod_eq_of_lt (by omega)]
  exact this ⟨k, hk⟩

theorem sl1 (k : ℕ) (hk : k < 5000) : S5000.Slices ![k] S1 := by
  refine ⟨rfl, fun a => ?_⟩
  match a with
  | ⟨0, _⟩ => show k + 1 ≤ 5000; omega
theorem sl2 (k : ℕ) (hk : k < 5000) : S5000x5000.Slices ![k, 0] S1x5000 := by
  refine ⟨rfl, fun a => ?_⟩
  match a with
  | ⟨0, _⟩ => show k + 1 ≤ 5000; omega
  | ⟨1, _⟩ => exact le_refl 5000

set_option maxHeartbeats 4000000 in
/-- One trip's marks of class zero. -/
theorem body_supp (W : Valuation τ sig (Elt F)) (k : ℕ) (hk : k < 5000) (h4 : W main_v123_4 = fun _ => BitVec.ofNat 32 k) (j : Fin 5000) :
    afterL bodyI W main_v123_5 (ix1 j) = IntOp.ori (W main_v123_5 (ix1 j))
      (IntOp.andi (IntOp.andi (~~~ (W main_v123_5 (ix1 ⟨k, hk⟩) : BitVec 1)) (FloatOps.cmpf .ogt (W main_v123_0 (ix2 ⟨k, hk⟩ j)) (FloatOps.ofBits .f32 0x3F333333#32 : F .f32)))
        (IntOp.cmpi .sgt (W main_v123_1 (ix1 j)) (BitVec.ofNat 32 k))) := by
  show after w1 (after w0 W) main_v123_5 (ix1 j) = _
  simp only [w0, w1]
  after_results_simp_entrywise
  rw [h4]
  rw [WordCmp.dynamicSlice_eq_extract S1 (W main_v123_5) _ _ ![k] (sl1 k hk) (by
    intro a
    match a with
    | ⟨0, _⟩ => exact start_val k hk)]
  rw [WordCmp.dynamicSlice_eq_extract S1x5000 (W main_v123_0) _ _ ![k, 0] (sl2 k hk) (by
    intro a
    match a with
    | ⟨0, _⟩ => exact start_val k hk
    | ⟨1, _⟩ => exact start_val 0 (by decide))]
  pointwise
  rfl

set_option maxHeartbeats 4000000 in
/-- One trip's marks of class one. -/
theorem body_supp' (W : Valuation τ sig (Elt F)) (k : ℕ) (hk : k < 5000) (h4 : W main_v123_4 = fun _ => BitVec.ofNat 32 k) (j : Fin 5000) :
    afterL bodyI W main_v123_6 (ix1 j) = IntOp.ori (W main_v123_6 (ix1 j))
      (IntOp.andi (IntOp.andi (~~~ (W main_v123_6 (ix1 ⟨k, hk⟩) : BitVec 1)) (FloatOps.cmpf .ogt (W main_v123_2 (ix2 ⟨k, hk⟩ j)) (FloatOps.ofBits .f32 0x3F333333#32 : F .f32)))
        (IntOp.cmpi .sgt (W main_v123_1 (ix1 j)) (BitVec.ofNat 32 k))) := by
  show after w1 (after w0 W) main_v123_6 (ix1 j) = _
  simp only [w0, w1]
  after_results_simp_entrywise
  rw [h4]
  rw [WordCmp.dynamicSlice_eq_extract S1 (W main_v123_6) _ _ ![k] (sl1 k hk) (by
    intro a
    match a with
    | ⟨0, _⟩ => exact start_val k hk)]
  rw [WordCmp.dynamicSlice_eq_extract S1x5000 (W main_v123_2) _ _ ![k, 0] (sl2 k hk) (by
    intro a
    match a with
    | ⟨0, _⟩ => exact start_val k hk
    | ⟨1, _⟩ => exact start_val 0 (by decide))]
  pointwise
  rfl

theorem trip_c0 (W : Valuation τ sig (Elt F)) : afterL bodyI W main_v123_0 = W main_v123_0 := by
  show after w1 (after w0 W) main_v123_0 = _
  simp only [w0, w1]
  after_results
theorem trip_c1 (W : Valuation τ sig (Elt F)) : afterL bodyI W main_v123_1 = W main_v123_1 := by
  show after w1 (after w0 W) main_v123_1 = _
  simp only [w0, w1]
  after_results
theorem trip_c2 (W : Valuation τ sig (Elt F)) : afterL bodyI W main_v123_2 = W main_v123_2 := by
  show after w1 (after w0 W) main_v123_2 = _
  simp only [w0, w1]
  after_results
theorem trip_v0 (W : Valuation τ sig (Elt F)) : afterL bodyI W main_v0 = W main_v0 := by
  show after w1 (after w0 W) main_v0 = _
  simp only [w0, w1]
  after_results
theorem trip_v3 (W : Valuation τ sig (Elt F)) : afterL bodyI W main_v3 = W main_v3 := by
  show after w1 (after w0 W) main_v3 = _
  simp only [w0, w1]
  after_results
theorem trip_v8 (W : Valuation τ sig (Elt F)) : afterL bodyI W main_v8 = W main_v8 := by
  show after w1 (after w0 W) main_v8 = _
  simp only [w0, w1]
  after_results
theorem trip_v11 (W : Valuation τ sig (Elt F)) : afterL bodyI W main_v11 = W main_v11 := by
  show after w1 (after w0 W) main_v11 = _
  simp only [w0, w1]
  after_results
theorem trip_v65 (W : Valuation τ sig (Elt F)) : afterL bodyI W main_v65 = W main_v65 := by
  show after w1 (after w0 W) main_v65 = _
  simp only [w0, w1]
  after_results
theorem trip_v68 (W : Valuation τ sig (Elt F)) : afterL bodyI W main_v68 = W main_v68 := by
  show after w1 (after w0 W) main_v68 = _
  simp only [w0, w1]
  after_results
theorem trip_arg0 (W : Valuation τ sig (Elt F)) : afterL bodyI W main_arg0 = W main_arg0 := by
  show after w1 (after w0 W) main_arg0 = _
  simp only [w0, w1]
  after_results

section Terms
variable (x : FVec Ideal S1x5000x6 .f32)

/-- The candidates, one a row. -/
def cands : FVec Ideal S5000x6 .f32 := shapeCast S5000x6 x shapeCasts_S1x5000x6_S5000x6
/-- Their boxes. -/
def boxes : FVec Ideal S5000x4 .f32 := extractStridedSlice S5000x4 ![0, 0] (cands x) slices_S5000x6_S5000x4_0_0
/-- Their scores. -/
def scores : FVec Ideal S5000 .f32 := shapeCast S5000 (extractStridedSlice S5000x1 ![0, 4] (cands x) slices_S5000x6_S5000x1_0_4) shapeCasts_S5000x1_S5000
/-- Their classes. -/
def classes : FVec Ideal S5000 .f32 := shapeCast S5000 (extractStridedSlice S5000x1 ![0, 5] (cands x) slices_S5000x6_S5000x1_0_5) shapeCasts_S5000x1_S5000
/-- Which candidates are of the class whose number is written `w`. -/
def ofClass (w : BitVec 32) : IVec S5000 1 :=
  cmpf .oeq (classes x) (broadcastInDim S5000 ![] bcast_S_S5000 (constant S_ .f32 w))
/-- A score far below all others. -/
def far : FVec Ideal S5000 .f32 := broadcastInDim S5000 ![] bcast_S_S5000 (constant S_ .f32 0xCE6E6B28#32)
/-- The scores, another class's put far below. -/
def classScores (w : BitVec 32) : FVec Ideal S5000 .f32 := select (ofClass x w) (scores x) far
/-- The candidates' numbers by falling score. -/
def byScore (s : FVec Ideal S5000 .f32) : IVec S5000 32 :=
  (Host.sort2 S5000 0 (comparator_f32_i32_d0 (F := Ideal)) (Host.negf s) (iotaInDim S5000 32 0)).2
/-- Candidate numbers as the gathers and scatters take them. -/
def places (o : IVec S5000 32) : IVec S5000x1 32 :=
  broadcastInDim S5000x1 ![0] bcast_S5000_S5000x1_0
    (select (cmpi .slt o (broadcastInDim S5000 ![] bcast_S_S5000 (constantI S_ 32 0#32)))
      (addi o (broadcastInDim S5000 ![] bcast_S_S5000 (constantI S_ 32 5000#32))) o)
/-- The boxes in an order. -/
def boxesBy (o : IVec S5000 32) : FVec Ideal S5000x4 .f32 :=
  Host.gather gather_S5000x4_S5000x1_S5000x4_1_0_n_n_0_1_14 (boxes x) (places o)
/-- No candidate. -/
def none' : IVec S5000 1 := broadcastInDim S5000 ![] bcast_S_S5000 (constantI S_ 1 0#1)
/-- Marks of the candidates in an order, brought back to the candidates' own order. -/
def bring (o : IVec S5000 32) (kp : IVec S5000 1) : IVec S5000 1 :=
  Host.scatter scatter_S5000_S5000x1_S5000_n_0_0_1 (fun _ b => b) none' (places o) kp
/-- The numbers of the hundred best scores among the marked. -/
def best (kp : IVec S5000 1) : IVec S100 32 :=
  (Host.topK S100 0 (FloatOps.cmpfTotal .gt) (select kp (scores x) far : FVec Ideal S5000 .f32) sliceFits_S5000_S100).2
/-- The candidates with those numbers. -/
def selected (kp : IVec S5000 1) : FVec Ideal S100x6 .f32 :=
  Host.gather gather_S5000x6_S100x1_S100x6_1_0_n_n_0_1_16 (cands x)
    (broadcastInDim S100x1 ![0] bcast_S100_S100x1_0
      (select (cmpi .slt (best x kp) (broadcastInDim S100 ![] bcast_S_S100 (constantI S_ 32 0#32)))
        (addi (best x kp) (broadcastInDim S100 ![] bcast_S_S100 (constantI S_ 32 5000#32))) (best x kp)))
/-- The candidates whose score is above the threshold. -/
def above : IVec S5000 1 := cmpf .ogt (scores x) (broadcastInDim S5000 ![] bcast_S_S5000 (constant S_ .f32 0x3D4CCCCD#32))
/-- What one class's pass keeps: the candidates of the class that no mark excludes and whose score is above the
threshold. -/
def keptOf (w : BitVec 32) (mk : IVec S5000 1) : IVec S5000 1 :=
  andi (andi (bring (byScore (classScores x w)) (noti mk)) (ofClass x w)) (above x)
/-- What the two passes keep. -/
def kept (mk mk' : IVec S5000 1) : IVec S5000 1 := ori (ori none' (keptOf x 0x00000000#32 mk)) (keptOf x 0x3F800000#32 mk')
end Terms

section Overlap
variable (D : FVec Ideal S5000x4 .f32)

/-- A value of each row candidate, along the columns. -/
def bi (x : FVec Ideal S5000 .f32) : FVec Ideal S5000x5000 .f32 :=
  broadcastInDim S5000x5000 ![0, 1] bcast_S5000x1_S5000x5000_0_1 (broadcastInDim S5000x1 ![0] bcast_S5000_S5000x1_0 x)
/-- A value of each column candidate, along the rows. -/
def bj (x : FVec Ideal S5000 .f32) : FVec Ideal S5000x5000 .f32 :=
  broadcastInDim S5000x5000 ![0, 1] bcast_S1x5000_S5000x5000_0_1 (broadcastInDim S1x5000 ![1] bcast_S5000_S1x5000_1 x)
/-- One column of the sorted boxes. -/
def colX1 : FVec Ideal S5000 .f32 := shapeCast S5000 (extractStridedSlice S5000x1 ![0, 0] D slices_S5000x4_S5000x1_0_0) shapeCasts_S5000x1_S5000
def colY1 : FVec Ideal S5000 .f32 := shapeCast S5000 (extractStridedSlice S5000x1 ![0, 1] D slices_S5000x4_S5000x1_0_1) shapeCasts_S5000x1_S5000
def colX2 : FVec Ideal S5000 .f32 := shapeCast S5000 (extractStridedSlice S5000x1 ![0, 2] D slices_S5000x4_S5000x1_0_2) shapeCasts_S5000x1_S5000
def colY2 : FVec Ideal S5000 .f32 := shapeCast S5000 (extractStridedSlice S5000x1 ![0, 3] D slices_S5000x4_S5000x1_0_3) shapeCasts_S5000x1_S5000
/-- The boxes' areas. -/
def areas : FVec Ideal S5000 .f32 := mulf (subf (colX2 D) (colX1 D)) (subf (colY2 D) (colY1 D))
/-- The constant zero everywhere. -/
def zeros : FVec Ideal S5000x5000 .f32 := broadcastInDim S5000x5000 ![] bcast_S_S5000x5000 (constant S_ .f32 0x00000000#32)
/-- The areas of the intersections. -/
def inters : FVec Ideal S5000x5000 .f32 :=
  mulf (maximumf zeros (subf (minimumf (bi (colX2 D)) (bj (colX2 D))) (maximumf (bi (colX1 D)) (bj (colX1 D)))))
    (maximumf zeros (subf (minimumf (bi (colY2 D)) (bj (colY2 D))) (maximumf (bi (colY1 D)) (bj (colY1 D)))))
/-- The matrix of overlaps. -/
def overlaps : FVec Ideal S5000x5000 .f32 :=
  Host.divf (inters D) (addf (subf (addf (bi (areas D)) (bj (areas D))) (inters D))
    (broadcastInDim S5000x5000 ![] bcast_S_S5000x5000 (constant S_ .f32 0x3089705F#32)))
theorem overlaps_val (i j : Fin 5000) : (overlaps D (ix2 i j) : EReal)
    = Nms.iou (D (ix2 i 0)) (D (ix2 i 1)) (D (ix2 i 2)) (D (ix2 i 3)) (D (ix2 j 0)) (D (ix2 j 1)) (D (ix2 j 2)) (D (ix2 j 3)) := by
  unfold overlaps inters zeros areas bi bj colX1 colY1 colX2 colY2
  pointwise
  rfl
end Overlap

section Lines
variable (W : Valuation τ sig (Elt Ideal))

/-- The lines up to the sorted boxes of class zero. -/
abbrev E0 : Valuation τ sig (Elt Ideal) := after a4 (after a3 (after a2 (after a1 (after a0 W))))
set_option maxHeartbeats 4000000 in
theorem E0_v0 : E0 W main_v0 = cands (W main_arg0) := by
  simp only [E0, a0, a1, a2, a3, a4]
  after_results_simp_entrywise
  rfl
set_option maxHeartbeats 4000000 in
theorem E0_v1 : E0 W main_v1 = boxes (W main_arg0) := by
  simp only [E0, a0, a1, a2, a3, a4]
  after_results_simp_entrywise
  rfl
set_option maxHeartbeats 4000000 in
theorem E0_v3 : E0 W main_v3 = scores (W main_arg0) := by
  simp only [E0, a0, a1, a2, a3, a4]
  after_results_simp_entrywise
  rfl
set_option maxHeartbeats 4000000 in
theorem E0_v5 : E0 W main_v5 = classes (W main_arg0) := by
  simp only [E0, a0, a1, a2, a3, a4]
  after_results_simp_entrywise
  rfl
set_option maxHeartbeats 4000000 in
theorem E0_v6 : E0 W main_v6 = iotaInDim S5000 32 0 := by
  simp only [E0, a0, a1, a2, a3, a4]
  after_results_simp_entrywise
set_option maxHeartbeats 4000000 in
theorem E0_v8 : E0 W main_v8 = ofClass (W main_arg0) 0x00000000#32 := by
  simp only [E0, a0, a1, a2, a3, a4]
  after_results_simp_entrywise
  rfl
set_option maxHeartbeats 4000000 in
theorem E0_v11 : E0 W main_v11 = byScore (classScores (W main_arg0) 0x00000000#32) := by
  simp only [E0, a0, a1, a2, a3, a4]
  after_results_simp_entrywise
  rfl
set_option maxHeartbeats 4000000 in
theorem E0_v18 : E0 W main_v18 = boxesBy (W main_arg0) (byScore (classScores (W main_arg0) 0x00000000#32)) := by
  simp only [E0, a0, a1, a2, a3, a4]
  after_results_simp_entrywise
  rfl
set_option maxHeartbeats 4000000 in
theorem E0_arg0 : E0 W main_arg0 = W main_arg0 := by
  simp only [E0, a0, a1, a2, a3, a4]
  after_results_simp_entrywise
/-- The lines of the overlaps of class zero. -/
abbrev E1 : Valuation τ sig (Elt Ideal) := after b0 (after a8 (after a7 (after a6 (after a5 W))))
set_option maxHeartbeats 4000000 in
theorem E1_v63 : E1 W main_v63 = overlaps (W main_v18) := by
  simp only [E1, a5, a6, a7, a8, b0]
  after_results_simp_entrywise
  rfl
set_option maxHeartbeats 4000000 in
theorem E1_v0 : E1 W main_v0 = W main_v0 := by
  simp only [E1, a5, a6, a7, a8, b0]
  after_results_simp_entrywise
set_option maxHeartbeats 4000000 in
theorem E1_v1 : E1 W main_v1 = W main_v1 := by
  simp only [E1, a5, a6, a7, a8, b0]
  after_results_simp_entrywise
set_option maxHeartbeats 4000000 in
theorem E1_v3 : E1 W main_v3 = W main_v3 := by
  simp only [E1, a5, a6, a7, a8, b0]
  after_results_simp_entrywise
set_option maxHeartbeats 4000000 in
theorem E1_v5 : E1 W main_v5 = W main_v5 := by
  simp only [E1, a5, a6, a7, a8, b0]
  after_results_simp_entrywise
set_option maxHeartbeats 4000000 in
theorem E1_v6 : E1 W main_v6 = W main_v6 := by
  simp only [E1, a5, a6, a7, a8, b0]
  after_results_simp_entrywise
set_option maxHeartbeats 4000000 in
theorem E1_v8 : E1 W main_v8 = W main_v8 := by
  simp only [E1, a5, a6, a7, a8, b0]
  after_results_simp_entrywise
set_option maxHeartbeats 4000000 in
theorem E1_v11 : E1 W main_v11 = W main_v11 := by
  simp only [E1, a5, a6, a7, a8, b0]
  after_results_simp_entrywise
set_option maxHeartbeats 4000000 in
theorem E1_arg0 : E1 W main_arg0 = W main_arg0 := by
  simp only [E1, a5, a6, a7, a8, b0]
  after_results_simp_entrywise
/-- The lines up to the sorted boxes of class one. -/
abbrev E2 : Valuation τ sig (Elt Ideal) := after b5 (after b4 (after b3 (after b2 (after b1 W))))
set_option maxHeartbeats 4000000 in
theorem E2_v65 (x : FVec Ideal S1x5000x6 .f32) (h3 : W main_v3 = scores x) (h5 : W main_v5 = classes x) : E2 W main_v65 = ofClass x 0x3F800000#32 := by
  simp only [E2, b1, b2, b3, b4, b5]
  after_results_simp_entrywise
  rw [h5]
  rfl
set_option maxHeartbeats 4000000 in
theorem E2_v68 (x : FVec Ideal S1x5000x6 .f32) (h3 : W main_v3 = scores x) (h5 : W main_v5 = classes x) : E2 W main_v68 = byScore (classScores x 0x3F800000#32) := by
  simp only [E2, b1, b2, b3, b4, b5]
  after_results_simp_entrywise
  rw [h3, h5]
  rfl
set_option maxHeartbeats 4000000 in
theorem E2_v75 (x : FVec Ideal S1x5000x6 .f32) (h3 : W main_v3 = scores x) (h5 : W main_v5 = classes x) (h1 : W main_v1 = boxes x) : E2 W main_v75 = boxesBy x (byScore (classScores x 0x3F800000#32)) := by
  simp only [E2, b1, b2, b3, b4, b5]
  after_results_simp_entrywise
  rw [h3, h5, h1]
  rfl
set_option maxHeartbeats 4000000 in
theorem E2_v0 : E2 W main_v0 = W main_v0 := by
  simp only [E2, b1, b2, b3, b4, b5]
  after_results_simp_entrywise
set_option maxHeartbeats 4000000 in
theorem E2_v3 : E2 W main_v3 = W main_v3 := by
  simp only [E2, b1, b2, b3, b4, b5]
  after_results_simp_entrywise
set_option maxHeartbeats 4000000 in
theorem E2_v6 : E2 W main_v6 = W main_v6 := by
  simp only [E2, b1, b2, b3, b4, b5]
  after_results_simp_entrywise
set_option maxHeartbeats 4000000 in
theorem E2_v8 : E2 W main_v8 = W main_v8 := by
  simp only [E2, b1, b2, b3, b4, b5]
  after_results_simp_entrywise
set_option maxHeartbeats 4000000 in
theorem E2_v11 : E2 W main_v11 = W main_v11 := by
  simp only [E2, b1, b2, b3, b4, b5]
  after_results_simp_entrywise
set_option maxHeartbeats 4000000 in
theorem E2_v63 : E2 W main_v63 = W main_v63 := by
  simp only [E2, b1, b2, b3, b4, b5]
  after_results_simp_entrywise
set_option maxHeartbeats 4000000 in
theorem E2_arg0 : E2 W main_arg0 = W main_arg0 := by
  simp only [E2, b1, b2, b3, b4, b5]
  after_results_simp_entrywise
/-- The lines of the overlaps of class one. -/
abbrev E3 : Valuation τ sig (Elt Ideal) := after c3 (after c2 (after c1 (after c0 (after b6 W))))
set_option maxHeartbeats 4000000 in
theorem E3_v120 : E3 W main_v120 = overlaps (W main_v75) := by
  simp only [E3, b6, c0, c1, c2, c3]
  after_results_simp_entrywise
  rfl
set_option maxHeartbeats 4000000 in
theorem E3_v0 : E3 W main_v0 = W main_v0 := by
  simp only [E3, b6, c0, c1, c2, c3]
  after_results_simp_entrywise
set_option maxHeartbeats 4000000 in
theorem E3_v3 : E3 W main_v3 = W main_v3 := by
  simp only [E3, b6, c0, c1, c2, c3]
  after_results_simp_entrywise
set_option maxHeartbeats 4000000 in
theorem E3_v6 : E3 W main_v6 = W main_v6 := by
  simp only [E3, b6, c0, c1, c2, c3]
  after_results_simp_entrywise
set_option maxHeartbeats 4000000 in
theorem E3_v8 : E3 W main_v8 = W main_v8 := by
  simp only [E3, b6, c0, c1, c2, c3]
  after_results_simp_entrywise
set_option maxHeartbeats 4000000 in
theorem E3_v11 : E3 W main_v11 = W main_v11 := by
  simp only [E3, b6, c0, c1, c2, c3]
  after_results_simp_entrywise
set_option maxHeartbeats 4000000 in
theorem E3_v63 : E3 W main_v63 = W main_v63 := by
  simp only [E3, b6, c0, c1, c2, c3]
  after_results_simp_entrywise
set_option maxHeartbeats 4000000 in
theorem E3_v65 : E3 W main_v65 = W main_v65 := by
  simp only [E3, b6, c0, c1, c2, c3]
  after_results_simp_entrywise
set_option maxHeartbeats 4000000 in
theorem E3_v68 : E3 W main_v68 = W main_v68 := by
  simp only [E3, b6, c0, c1, c2, c3]
  after_results_simp_entrywise
set_option maxHeartbeats 4000000 in
theorem E3_arg0 : E3 W main_arg0 = W main_arg0 := by
  simp only [E3, b6, c0, c1, c2, c3]
  after_results_simp_entrywise
/-- The lines that set up the loop. -/
abbrev E4 : Valuation τ sig (Elt Ideal) := after c4 W
set_option maxHeartbeats 4000000 in
theorem E4_v123_0 : E4 W main_v123_0 = W main_v63 := by
  simp only [E4, c4]
  after_results_simp_entrywise
  rfl
set_option maxHeartbeats 4000000 in
theorem E4_v123_1 : E4 W main_v123_1 = W main_v6 := by
  simp only [E4, c4]
  after_results_simp_entrywise
  rfl
set_option maxHeartbeats 4000000 in
theorem E4_v123_2 : E4 W main_v123_2 = W main_v120 := by
  simp only [E4, c4]
  after_results_simp_entrywise
  rfl
set_option maxHeartbeats 4000000 in
theorem E4_v123_5 : E4 W main_v123_5 = fun _ => 0#1 := by
  simp only [E4, c4]
  after_results_simp_entrywise
  rfl
set_option maxHeartbeats 4000000 in
theorem E4_v123_6 : E4 W main_v123_6 = fun _ => 0#1 := by
  simp only [E4, c4]
  after_results_simp_entrywise
  rfl
set_option maxHeartbeats 4000000 in
theorem E4_v0 : E4 W main_v0 = W main_v0 := by
  simp only [E4, c4]
  after_results_simp_entrywise
set_option maxHeartbeats 4000000 in
theorem E4_v3 : E4 W main_v3 = W main_v3 := by
  simp only [E4, c4]
  after_results_simp_entrywise
set_option maxHeartbeats 4000000 in
theorem E4_v8 : E4 W main_v8 = W main_v8 := by
  simp only [E4, c4]
  after_results_simp_entrywise
set_option maxHeartbeats 4000000 in
theorem E4_v11 : E4 W main_v11 = W main_v11 := by
  simp only [E4, c4]
  after_results_simp_entrywise
set_option maxHeartbeats 4000000 in
theorem E4_v65 : E4 W main_v65 = W main_v65 := by
  simp only [E4, c4]
  after_results_simp_entrywise
set_option maxHeartbeats 4000000 in
theorem E4_v68 : E4 W main_v68 = W main_v68 := by
  simp only [E4, c4]
  after_results_simp_entrywise
set_option maxHeartbeats 4000000 in
theorem E4_arg0 : E4 W main_arg0 = W main_arg0 := by
  simp only [E4, c4]
  after_results_simp_entrywise

set_option maxHeartbeats 4000000 in
/-- The lines after the loop leave the argument, -/
theorem last_arg : afterL postI W main_arg0 = W main_arg0 := by
  show after d2 (after d1 (after d0 (after c5 W))) main_arg0 = _
  simp only [c5, d0, d1, d2]
  after_results_simp_entrywise

set_option maxHeartbeats 4000000 in
/-- and select from what the loop's marks and the entry's values keep. -/
theorem last_160 (x : FVec Ideal S1x5000x6 .f32) (mk mk' : IVec S5000 1) (h5 : W main_v123_5 = mk) (h6 : W main_v123_6 = mk') (h0 : W main_v0 = cands x)
    (h3 : W main_v3 = scores x) (h8 : W main_v8 = ofClass x 0x00000000#32) (h65 : W main_v65 = ofClass x 0x3F800000#32)
    (h11 : W main_v11 = byScore (classScores x 0x00000000#32)) (h68 : W main_v68 = byScore (classScores x 0x3F800000#32)) :
    afterL postI W main_v160 = selected x (kept x mk mk') := by
  show after d2 (after d1 (after d0 (after c5 W))) main_v160 = _
  simp only [c5, d0, d1, d2]
  after_results_simp_entrywise
  rw [h5, h6, h0, h3, h8, h65, h11, h68]
  rfl
end Lines

end Cert.NmsRef
-- ==== Proof.RefResult.lean ====
module

public import proofs.«01_k».proof.Proof.RefVal
public import proofs.«01_k».proof.Proof.NmsKeep

/-! What the reference of the suppression program returns: the loop's invariant, that in each class's order a candidate
is marked exactly when a kept candidate before it suppresses it, and the selection from the two passes' marks. -/

@[expose] public section

set_option maxRecDepth 16384

noncomputable section

namespace Cert.NmsRef

open Idealize.ShloMosaic Idealize.ShloMosaic.TcCoe Idealize.SL.Sem
open Idealize.ShloMosaic.StableHlo (after held atTrip afterL CondSpec entryContents finalContents)
open Cert.Reference2Ideal Cert.Reference2Ideal.Gen

section Loop
variable (m : (ℓ : Loc nD τ sig) → Buf (Elt Ideal) ℓ) (c : Dev nD)

/-- The launch's argument. -/
abbrev argOf : FVec Ideal S1x5000x6 .f32 := StableHlo.launchContents m c main_arg0

theorem entry_eq : entryContents preI m c = E4 (E3 (E2 (E1 (E0 (StableHlo.launchContents m c))))) := rfl

/-- A buffer that no trip writes is before every trip what the entry put there. -/
theorem at_of (b : Ref sig .tc) (h0 : b ≠ main_while0c_c_34) (h1 : b ≠ main_while0c_v161)
    (hb : ∀ W : Valuation τ sig (Elt Ideal), afterL bodyI W b = W b) : ∀ k, at' m k c b = entryContents preI m c b
  | 0 => rfl
  | k + 1 => by rw [at_succ, hb, cond_keeps _ _ h0 h1, at_of b h0 h1 hb k]

/-- The order of one class's pass. -/
def classOrder (x : FVec Ideal S1x5000x6 .f32) (w : BitVec 32) : IVec S5000 32 := byScore (classScores x w)
/-- The sorted boxes of one class's pass. -/
def classBoxes (x : FVec Ideal S1x5000x6 .f32) (w : BitVec 32) : FVec Ideal S5000x4 .f32 := boxesBy x (classOrder x w)

theorem at_v0 (k : ℕ) : at' m k c main_v0 = cands (argOf m c) := by
  rw [at_of m c _ (by decide) (by decide) trip_v0 k, entry_eq, E4_v0, E3_v0, E2_v0, E1_v0, E0_v0]
theorem at_v3 (k : ℕ) : at' m k c main_v3 = scores (argOf m c) := by
  rw [at_of m c _ (by decide) (by decide) trip_v3 k, entry_eq, E4_v3, E3_v3, E2_v3, E1_v3, E0_v3]
theorem at_v8 (k : ℕ) : at' m k c main_v8 = ofClass (argOf m c) 0x00000000#32 := by
  rw [at_of m c _ (by decide) (by decide) trip_v8 k, entry_eq, E4_v8, E3_v8, E2_v8, E1_v8, E0_v8]
theorem at_v11 (k : ℕ) : at' m k c main_v11 = byScore (classScores (argOf m c) 0x00000000#32) := by
  rw [at_of m c _ (by decide) (by decide) trip_v11 k, entry_eq, E4_v11, E3_v11, E2_v11, E1_v11, E0_v11]
theorem at_v65 (k : ℕ) : at' m k c main_v65 = ofClass (argOf m c) 0x3F800000#32 := by
  rw [at_of m c _ (by decide) (by decide) trip_v65 k, entry_eq, E4_v65, E3_v65,
    E2_v65 _ (argOf m c) (by rw [E1_v3, E0_v3]) (by rw [E1_v5, E0_v5])]
theorem at_v68 (k : ℕ) : at' m k c main_v68 = byScore (classScores (argOf m c) 0x3F800000#32) := by
  rw [at_of m c _ (by decide) (by decide) trip_v68 k, entry_eq, E4_v68, E3_v68,
    E2_v68 _ (argOf m c) (by rw [E1_v3, E0_v3]) (by rw [E1_v5, E0_v5])]
theorem at_arg (k : ℕ) : at' m k c main_arg0 = argOf m c := by
  rw [at_of m c _ (by decide) (by decide) trip_arg0 k, entry_eq, E4_arg0, E3_arg0, E2_arg0, E1_arg0, E0_arg0]
theorem at_c0 (k : ℕ) : at' m k c main_v123_0 = overlaps (classBoxes (argOf m c) 0x00000000#32) := by
  rw [at_of m c _ (by decide) (by decide) trip_c0 k, entry_eq, E4_v123_0, E3_v63, E2_v63, E1_v63, E0_v18]; rfl
theorem at_c1 (k : ℕ) : at' m k c main_v123_1 = iotaInDim S5000 32 0 := by
  rw [at_of m c _ (by decide) (by decide) trip_c1 k, entry_eq, E4_v123_1, E3_v6, E2_v6, E1_v6, E0_v6]
theorem at_c2 (k : ℕ) : at' m k c main_v123_2 = overlaps (classBoxes (argOf m c) 0x3F800000#32) := by
  rw [at_of m c _ (by decide) (by decide) trip_c2 k, entry_eq, E4_v123_2, E3_v120,
    E2_v75 _ (argOf m c) (by rw [E1_v3, E0_v3]) (by rw [E1_v5, E0_v5]) (by rw [E1_v1, E0_v1])]; rfl

/-- Whether sorted box `i` overlaps box `j` too much. -/
def TR (D : FVec Ideal S5000x4 .f32) (i j : ℕ) : Prop :=
  ∃ h : i < 5000 ∧ j < 5000, Ideal.ofBits FTy.f32 0x3F333333#32
    < Nms.iou (D (ix2 ⟨i, h.1⟩ 0)) (D (ix2 ⟨i, h.1⟩ 1)) (D (ix2 ⟨i, h.1⟩ 2)) (D (ix2 ⟨i, h.1⟩ 3))
        (D (ix2 ⟨j, h.2⟩ 0)) (D (ix2 ⟨j, h.2⟩ 1)) (D (ix2 ⟨j, h.2⟩ 2)) (D (ix2 ⟨j, h.2⟩ 3))

/-- Suppression is decided classically. -/
instance (S : ℕ → ℕ → Prop) (b j : ℕ) : Decidable (Keep.supp S b j) := Classical.propDecidable _

/-- So is survival. -/
instance (S : ℕ → ℕ → Prop) (j : ℕ) : Decidable (Keep.keep S j) := Classical.propDecidable _

theorem not_ofBool (b : Bool) : (~~~ (BitVec.ofBool b) : BitVec 1) = BitVec.ofBool (!b) := by cases b <;> rfl
theorem ori_ofBool (a b : Bool) : IntOp.ori (BitVec.ofBool a) (BitVec.ofBool b) = BitVec.ofBool (a || b) := by cases a <;> cases b <;> rfl

/-- One more trip of a pass. -/
theorem step_val (D : FVec Ideal S5000x4 .f32) (k : ℕ) (hk : k < 5000) (j : Fin 5000) :
    IntOp.ori (BitVec.ofBool (decide (Keep.supp (TR D) k j.val)))
      (IntOp.andi (IntOp.andi (~~~ (BitVec.ofBool (decide (Keep.supp (TR D) k k))) : BitVec 1)
          (FloatOps.cmpf .ogt (overlaps D (ix2 ⟨k, hk⟩ j)) (FloatOps.ofBits .f32 0x3F333333#32 : Ideal .f32)))
        (IntOp.cmpi .sgt (iotaInDim S5000 32 0 (ix1 j)) (BitVec.ofNat 32 k)))
    = BitVec.ofBool (decide (Keep.supp (TR D) (k + 1) j.val)) := by
  have eo : (FloatOps.cmpf .ogt (overlaps D (ix2 ⟨k, hk⟩ j)) (FloatOps.ofBits .f32 0x3F333333#32 : Ideal .f32))
      = BitVec.ofBool (decide (Ideal.ofBits FTy.f32 0x3F333333#32 < (overlaps D (ix2 ⟨k, hk⟩ j) : EReal))) := rfl
  have es : IntOp.cmpi .sgt (iotaInDim S5000 32 0 (ix1 j)) (BitVec.ofNat 32 k) = BitVec.ofBool (decide (k < j.val)) :=
    Nms.sgt_ofNat (i := k) (j := j.val) (by omega) (by omega)
  rw [not_ofBool, eo, es, overlaps_val]
  simp only [Nms.andi_ofBool, ori_ofBool]
  congr 1
  rw [Bool.eq_iff_iff]
  simp only [Bool.or_eq_true, Bool.and_eq_true, Bool.not_eq_true', decide_eq_true_eq, decide_eq_false_iff_not]
  rw [Keep.supp_succ, Keep.supp_iff_not_keep _ (le_refl k), not_not]
  constructor
  · rintro (h | ⟨⟨h1, h2⟩, h4⟩)
    · exact Or.inl h
    · exact Or.inr ⟨h4, h1, ⟨hk, j.2⟩, h2⟩
  · rintro (h | ⟨h4, h1, _, h2⟩)
    · exact Or.inl h
    · exact Or.inr ⟨⟨h1, h2⟩, h4⟩

theorem marks (k : ℕ) (hk : k ≤ 5000) (j : Fin 5000) :
    at' m k c main_v123_5 (ix1 j) = BitVec.ofBool (decide (Keep.supp (TR (classBoxes (argOf m c) 0x00000000#32)) k j.val)) := by
  induction k generalizing j with
  | zero =>
    rw [show at' m 0 c main_v123_5 = fun _ => 0#1 from E4_v123_5 _, decide_eq_false (Keep.supp_zero _ _)]
    rfl
  | succ k ih =>
    have hk' : k < 5000 := hk
    have e4 : after condOps (at' m k c) main_v123_4 = fun _ => BitVec.ofNat 32 k :=
      (cond_keeps _ _ (by decide) (by decide)).trans (at_count' m c k)
    rw [at_succ, body_supp _ k hk' e4, cond_keeps _ main_v123_5 (by decide) (by decide), cond_keeps _ main_v123_0 (by decide) (by decide),
      cond_keeps _ main_v123_1 (by decide) (by decide), at_c0, at_c1, ih (by omega), ih (by omega)]
    exact step_val _ k hk' j

theorem marks' (k : ℕ) (hk : k ≤ 5000) (j : Fin 5000) :
    at' m k c main_v123_6 (ix1 j) = BitVec.ofBool (decide (Keep.supp (TR (classBoxes (argOf m c) 0x3F800000#32)) k j.val)) := by
  induction k generalizing j with
  | zero =>
    rw [show at' m 0 c main_v123_6 = fun _ => 0#1 from E4_v123_6 _, decide_eq_false (Keep.supp_zero _ _)]
    rfl
  | succ k ih =>
    have hk' : k < 5000 := hk
    have e4 : after condOps (at' m k c) main_v123_4 = fun _ => BitVec.ofNat 32 k :=
      (cond_keeps _ _ (by decide) (by decide)).trans (at_count' m c k)
    rw [at_succ, body_supp' _ k hk' e4, cond_keeps _ main_v123_6 (by decide) (by decide), cond_keeps _ main_v123_2 (by decide) (by decide),
      cond_keeps _ main_v123_1 (by decide) (by decide), at_c2, at_c1, ih (by omega), ih (by omega)]
    exact step_val _ k hk' j

/-- The marks that one class's pass ends with. -/
def endsOf (x : FVec Ideal S1x5000x6 .f32) (w : BitVec 32) : IVec S5000 1 :=
  fun y => BitVec.ofBool (decide (¬ Keep.keep (TR (classBoxes x w)) (y 0).val))

theorem ends_0 : at' m 5000 c main_v123_5 = endsOf (argOf m c) 0x00000000#32 := by
  funext y
  obtain ⟨j, rfl⟩ : ∃ j : Fin 5000, y = ix1 j := ⟨y 0, eq_ix1 y⟩
  refine (marks m c 5000 (le_refl _) j).trans (congrArg BitVec.ofBool ?_)
  exact decide_eq_decide.2 (Keep.supp_iff_not_keep _ (by omega))
theorem ends_1 : at' m 5000 c main_v123_6 = endsOf (argOf m c) 0x3F800000#32 := by
  funext y
  obtain ⟨j, rfl⟩ : ∃ j : Fin 5000, y = ix1 j := ⟨y 0, eq_ix1 y⟩
  refine (marks' m c 5000 (le_refl _) j).trans (congrArg BitVec.ofBool ?_)
  exact decide_eq_decide.2 (Keep.supp_iff_not_keep _ (by omega))

theorem result_eq : finalContents condOps preI bodyI postI 5000 m c main_v160
    = selected (argOf m c) (kept (argOf m c) (endsOf (argOf m c) 0x00000000#32) (endsOf (argOf m c) 0x3F800000#32)) :=
  last_160 (after condOps (at' m 5000 c)) _ _ _
    ((cond_keeps _ _ (by decide) (by decide)).trans (ends_0 m c)) ((cond_keeps _ _ (by decide) (by decide)).trans (ends_1 m c))
    ((cond_keeps _ _ (by decide) (by decide)).trans (at_v0 m c 5000)) ((cond_keeps _ _ (by decide) (by decide)).trans (at_v3 m c 5000))
    ((cond_keeps _ _ (by decide) (by decide)).trans (at_v8 m c 5000)) ((cond_keeps _ _ (by decide) (by decide)).trans (at_v65 m c 5000))
    ((cond_keeps _ _ (by decide) (by decide)).trans (at_v11 m c 5000)) ((cond_keeps _ _ (by decide) (by decide)).trans (at_v68 m c 5000))

theorem result_arg : finalContents condOps preI bodyI postI 5000 m c main_arg0 = argOf m c :=
  (last_arg (after condOps (at' m 5000 c))).trans ((cond_keeps _ _ (by decide) (by decide)).trans (at_arg m c 5000))

end Loop

end Cert.NmsRef
-- ==== Proof.NmsSort.lean ====
module

public import Idealize.ShloMosaic.Lib.SortFacts
public import proofs.«01_k».proof.Proof.NmsKeep
public import Mathlib.Data.EReal.Basic

/-! A stable sort of positions by a key, as an order of the positions, and why greedy suppression of all candidates
within classes is greedy suppression of each class on its own. -/

@[expose] public section

namespace Cert.Keep

open Idealize.ShloMosaic

variable {n : ℕ}

/-- Key first, then position. -/
def lexBefore (K : Fin n → EReal) (a b : Fin n) : Prop := K a < K b ∨ (K a = K b ∧ a < b)

theorem lexBefore_irrefl (K : Fin n → EReal) (a : Fin n) : ¬ lexBefore K a a := by
  rintro (h | ⟨_, h⟩)
  · exact lt_irrefl _ h
  · exact lt_irrefl _ h

theorem lexBefore_asymm {K : Fin n → EReal} {a b : Fin n} (h : lexBefore K a b) : ¬ lexBefore K b a := by
  rintro (g | ⟨e, g⟩) <;> rcases h with h | ⟨e', h⟩
  · exact lt_asymm h g
  · exact absurd g (by rw [e']; exact lt_irrefl _)
  · exact absurd h (by rw [e]; exact lt_irrefl _)
  · exact lt_asymm h g

theorem lexBefore_total (K : Fin n → EReal) {a b : Fin n} (h : a ≠ b) : lexBefore K a b ∨ lexBefore K b a := by
  rcases lt_trichotomy (K a) (K b) with g | g | g
  · exact Or.inl (Or.inl g)
  · rcases lt_or_gt_of_ne h with k | k
    · exact Or.inl (Or.inr ⟨g, k⟩)
    · exact Or.inr (Or.inr ⟨g.symm, k⟩)
  · exact Or.inr (Or.inl g)

theorem lexBefore_trans {K : Fin n → EReal} {a b c : Fin n} (h : lexBefore K a b) (g : lexBefore K b c) : lexBefore K a c := by
  rcases h with h | ⟨e, h⟩ <;> rcases g with g | ⟨e', g⟩
  · exact Or.inl (lt_trans h g)
  · exact Or.inl (e' ▸ h)
  · exact Or.inl (e ▸ g)
  · exact Or.inr ⟨e.trans e', lt_trans h g⟩

/-- A stable sort only compares a later position with an earlier one, so position may break ties. -/
theorem stableSort_lex (K : Fin n → EReal) (R : Fin n → Fin n → Bool) (hR : ∀ a b, R a b = true ↔ lexBefore K a b)
    (l : List (Fin n)) (hl : l.Pairwise (· < ·)) : stableSort (fun a b => decide (K a < K b)) l = stableSort R l := by
  induction l with
  | nil => rfl
  | cons a l ih =>
    rw [List.pairwise_cons] at hl
    unfold stableSort
    rw [ih hl.2]
    refine insertBefore_congr _ _ a _ fun b hb => ?_
    have hb' : b ∈ l := (perm_stableSort R l).mem_iff.mp hb
    have hab : a < b := hl.1 b hb'
    rw [Bool.eq_iff_iff, decide_eq_true_eq, hR]
    constructor
    · exact Or.inl
    · rintro (h | ⟨_, h⟩)
      · exact h
      · exact absurd h (lt_asymm hab)

/-- An order of the positions: each once, and by key first, then position. -/
structure Ordered (K : Fin n → EReal) (σ : Fin n → Fin n) : Prop where
  inj : Function.Injective σ
  surj : Function.Surjective σ
  lex : ∀ i j, i < j → lexBefore K (σ i) (σ j)

/-- The sort's permutation is that order. -/
theorem ordered_sort (K : Fin n → EReal) : Ordered K (sortedFrom fun a b => decide (K a < K b)) := by
  classical
  have e : (sortedFrom fun a b => decide (K a < K b)) = sortedFrom fun a b => decide (lexBefore K a b) := by
    funext k
    unfold sortedFrom
    have e : sortPositions n (fun a b => decide (K a < K b)) = sortPositions n fun a b => decide (lexBefore K a b) :=
      stableSort_lex K (fun a b => decide (lexBefore K a b)) (fun a b => decide_eq_true_iff) _ (List.pairwise_lt_finRange n)
    rw [List.get_of_eq e]
    rfl
  rw [e]
  refine ⟨sortedFrom_injective _, sortedFrom_surjective _, fun i j hij => ?_⟩
  have h := sortedFrom_noInversion (fun a b => decide (lexBefore K a b)) (fun a b => decide (lexBefore K a b))
    (fun a b h => decide_eq_false (lexBefore_asymm (of_decide_eq_true h))) (fun _ _ h => h)
    (fun a b c h g => by
      have h := of_decide_eq_false h
      have g := of_decide_eq_false g
      refine decide_eq_false fun k => ?_
      by_cases hab : a = b
      · exact g (hab ▸ k)
      · rcases lexBefore_total K hab with q | q
        · exact h q
        · exact g (lexBefore_trans q k)) i j hij
  have h := of_decide_eq_false h
  rcases lexBefore_total K (fun q => absurd (sortedFrom_injective _ q) (ne_of_lt hij)) with q | q
  · exact q
  · exact absurd q h

theorem Ordered.lt_of {K : Fin n → EReal} {σ : Fin n → Fin n} (h : Ordered K σ) {i j : Fin n} (k : lexBefore K (σ i) (σ j)) : i < j := by
  rcases lt_trichotomy i j with g | g | g
  · exact g
  · exact absurd (g ▸ k) (lexBefore_irrefl _ _)
  · exact absurd k (lexBefore_asymm (h.lex _ _ g))

/-- Greedy suppression within classes over all candidates, and over the candidates ordered with another class's keys
replaced by a last key `M`: a candidate of the class whose key comes before `M` survives in both or in neither. -/
theorem keep_class {K Kc : Fin n → EReal} {σ τ : Fin n → Fin n} (hσ : Ordered K σ) (hτ : Ordered Kc τ)
    (C : Fin n → Prop) (M : EReal) (hC : ∀ q, C q → Kc q = K q) (hN : ∀ q, ¬ C q → Kc q = M)
    (H G : Fin n → Fin n → Prop) (hG : ∀ p q, C q → (G p q ↔ C p))
    (S T : ℕ → ℕ → Prop) (hS : ∀ i j : Fin n, S i.val j.val ↔ (H (σ i) (σ j) ∧ G (σ i) (σ j)))
    (hT : ∀ i j : Fin n, T i.val j.val ↔ H (τ i) (τ j)) :
    ∀ (k : ℕ) (a b : Fin n), a.val = k → σ a = τ b → C (σ a) → K (σ a) < M → (keep S a.val ↔ keep T b.val) := by
  intro k
  induction k using Nat.strong_induction_on with
  | _ k ih =>
    intro a b hak hab hc hm
    rw [keep_iff, keep_iff]
    constructor
    · intro h i hi hk hs
      obtain ⟨b', rfl⟩ : ∃ b' : Fin n, b'.val = i := ⟨⟨i, by omega⟩, rfl⟩
      have hl := hτ.lex b' b hi
      rw [← hab] at hl
      have hle : Kc (τ b') ≤ K (σ a) := by
        rw [← hC _ hc]
        rcases hl with l | ⟨l, _⟩
        · exact le_of_lt l
        · exact le_of_eq l
      have hcb : C (τ b') := by
        by_contra g
        rw [hN _ g] at hle
        exact absurd hle (not_le.2 hm)
      obtain ⟨a', ha'⟩ := hσ.surj (τ b')
      have hlt : a' < a := hσ.lt_of (by
        unfold lexBefore at hl ⊢
        rw [ha']; rw [hC _ hcb, hC _ hc] at hl
        exact hl)
      have hm' : K (σ a') < M := by rw [ha', ← hC _ hcb]; exact lt_of_le_of_lt hle hm
      have hca : C (σ a') := by rw [ha']; exact hcb
      refine h a'.val hlt ((ih a'.val (by have := Fin.lt_def.1 hlt; omega) a' b' rfl ha' hca hm').2 hk) ?_
      rw [hS, ha']
      rw [hT, ← hab] at hs
      exact ⟨hs, (hG _ _ hc).2 hcb⟩
    · intro h i hi hk hs
      obtain ⟨a', rfl⟩ : ∃ a' : Fin n, a'.val = i := ⟨⟨i, by omega⟩, rfl⟩
      rw [hS] at hs
      have hca : C (σ a') := (hG _ _ hc).1 hs.2
      have hl := hσ.lex a' a hi
      have hle : K (σ a') ≤ K (σ a) := by
        rcases hl with l | ⟨l, _⟩
        · exact le_of_lt l
        · exact le_of_eq l
      obtain ⟨b', hb'⟩ := hτ.surj (σ a')
      have hlt : b' < b := hτ.lt_of (by
        unfold lexBefore at hl ⊢
        rw [hb', ← hab, hC _ hca, hC _ hc]
        exact hl)
      refine h b'.val hlt ((ih a'.val (by have := Fin.lt_def.1 hi; omega) a' b' rfl hb'.symm hca (lt_of_le_of_lt hle hm)).1 hk) ?_
      rw [hT, hb', ← hab]
      exact hs.1

end Cert.Keep
-- ==== Proof.NmsBody.lean ====
module

public import proofs.«01_k».proof.Proof.NmsFold
public import proofs.«01_k».proof.Proof.Gen.Kernel2Ideal.Launch
public import proofs.«01_k».proof.Proof.Gen.Kernel2Ideal.Points
public import Idealize.ShloMosaic.Lib.Tactic

/-! The suppression kernel's body, run: the fixed-point loop's label by a specification proved by
induction on the trips left, the two counted loops by an invariant each. -/

@[expose] public section

set_option maxRecDepth 16384

noncomputable section

namespace Cert.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The fixed-point loop's specification: whatever it returns, the first component is `R`. -/
def spec (R : FVec F S1x256 .f32) : sWPT 𝕄 (FVec F S1x256 .f32 × FVec F S1x256 .f32 × BitVec 32) := do
  let r ← sWPT.arbitrary
  sWPT.assume (r.1 = R)
  pure r

theorem spec_apply (R : FVec F S1x256 .f32) (K : FVec F S1x256 .f32 × FVec F S1x256 .f32 × BitVec 32 → sProp 𝕄) :
    spec R K = iprop(∀ r : FVec F S1x256 .f32 × FVec F S1x256 .f32 × BitVec 32, ⌜r.1 = R⌝ -∗ K r) := rfl

theorem slt_258 (j : ℕ) (h : j < 258) : Scalar.cmpi .slt (BitVec.ofNat 32 j) 258#32 = 1#1 := by
  have : ∀ j : Fin 258, Scalar.cmpi .slt (BitVec.ofNat 32 j.val) 258#32 = 1#1 := by decide
  exact this ⟨j, h⟩

theorem spec_le (c : Dev nD) (E : Set ℕ) (t : Fin k0_t1_loop.trips) (C : FVec F S256x256 .f32) (valid : FVec F S1x256 .f32) :
    ∀ k j, j + k = 258 → ∀ (K Kp : FVec F S1x256 .f32) Q, spec (whileN C valid k K Kp) Q
      ⊢ wp frame (wpE (defs₀ (F := F)) Variants.nat (c : Thread nD τ) (some k)) E
          (defs₀ (F := F) .tc 1 ⟨t, C, valid, K, Kp, BitVec.ofNat 32 j⟩) Q := by
  intro k
  induction k with
  | zero =>
    intro j hj K Kp Q
    rw [spec_apply]
    show _ ⊢ wp frame (wpE (defs₀ (F := F)) Variants.nat (c : Thread nD τ) (some 0)) E
      (cc0_while1 t C valid K Kp (BitVec.ofNat 32 j)) Q
    obtain rfl : j = 258 := by omega
    simp only [cc0_while1_eq_skeleton]; unfold cc0_while1_skel
    have htest : ¬ Scalar.andi (Scalar.cmpi .slt (BitVec.ofNat 32 258) 258#32)
        (Scalar.cmpf .ogt (k0_pay5 K Kp) (Scalar.ofBits .f32 0x00000000#32 : F .f32)) = 1#1 := by
      rw [show Scalar.cmpi .slt (BitVec.ofNat 32 258) 258#32 = 0#1 from by decide]
      generalize Scalar.cmpf .ogt (k0_pay5 K Kp) (Scalar.ofBits .f32 0x00000000#32 : F .f32) = b
      revert b; decide
    simp only [htest, ↓reduceIte, Prog.pure_eq_ret]
    iintro Hk
    rw [wp_ret]; imodintro
    iapply Hk
    ipureintro; rfl
  | succ k ih =>
    intro j hj K Kp Q
    rw [spec_apply]
    show _ ⊢ wp frame (wpE (defs₀ (F := F)) Variants.nat (c : Thread nD τ) (some (k + 1))) E
      (cc0_while1 t C valid K Kp (BitVec.ofNat 32 j)) Q
    simp only [cc0_while1_eq_skeleton]; unfold cc0_while1_skel
    rw [whileN]
    by_cases hc : Scalar.cmpf .ogt (k0_pay5 K Kp) (Scalar.ofBits .f32 0x00000000#32 : F .f32) = 1#1
    · simp only [slt_258 j (by omega), hc, show Scalar.andi (1#1) (1#1) = 1#1 from by decide, ↓reduceIte, Prog.lift, Prog.pure_eq_ret]
      rw [show Scalar.addi (BitVec.ofNat 32 j) 1#32 = BitVec.ofNat 32 (j + 1) from by
        show BitVec.ofNat 32 j + 1#32 = _; rw [BitVec.ofNat_add]]
      iintro Hk
      iapply (wp_call_spec Variants.nat (c : Thread nD τ) (some (k + 1)) E (spec (whileN C valid k (k0_pay6 C valid K) K)) k
        (fun u hu => by cases hu; exact Nat.lt_succ_self k) (ih (j + 1) (by omega) (k0_pay6 C valid K) K))
      rw [spec_apply]
      iintro %r %hr
      rw [wp_ret]; imodintro
      iapply Hk
      ipureintro; exact hr
    · have h0 : Scalar.cmpf .ogt (k0_pay5 K Kp) (Scalar.ofBits .f32 0x00000000#32 : F .f32) = 0#1 := by
        revert hc; generalize Scalar.cmpf .ogt (k0_pay5 K Kp) (Scalar.ofBits .f32 0x00000000#32 : F .f32) = b; revert b; decide
      simp only [h0, slt_258 j (by omega), show ¬ Scalar.andi (1#1) (0#1) = 1#1 from by decide, show ¬ (0#1 : BitVec 1) = 1#1 from by decide, ↓reduceIte, Prog.pure_eq_ret]
      iintro Hk
      rw [wp_ret]; imodintro
      iapply Hk
      ipureintro; rfl

section Buffers
variable (c : Dev nD) (f0 : RowsT F) (f1 : ColsT F)

/-- The operands' buffers and the scratch, held whole. -/
def held (s : SuppT F) : sProp 𝕄 :=
  iprop((((c : Thread nD τ).loc cc0_stg0_0) ↦{fullShare} (f0 : Buf (Elt F) ((c : Thread nD τ).loc cc0_stg0_0)))
    ∗ (((c : Thread nD τ).loc cc0_stg1_0) ↦{fullShare} (f1 : Buf (Elt F) ((c : Thread nD τ).loc cc0_stg1_0)))
    ∗ (((c : Thread nD τ).loc cc0_scratch0) ↦{fullShare} (s : Buf (Elt F) ((c : Thread nD τ).loc cc0_scratch0))))

/-- One trip of the loop over later blocks. -/
theorem cross_trip (k : Fin k0_t1_loop.trips) (K : FVec F S1x256 .f32) (k2 : Fin (k0_t2_loop k).trips) (s : SuppT F) :
    held c f0 f1 s ⊢ wp frame (wpE (defs₀ (F := F)) Variants.nat (c : Thread nD τ) none) Set.univ
      (k0_t2_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) k
        (Scf.iv 0#32 1#32 k) (Scalar.muli (Scf.iv 0#32 1#32 k) 256#32)
        (k0_pay15 (rd1 (k0_off1 k) (k0_off1_inb k) f1)) (k0_pay16 (rd1 (k0_off2 k) (k0_off2_inb k) f1))
        (k0_pay17 (rd1 (k0_off3 k) (k0_off3_inb k) f1)) (k0_pay18 (rd1 (k0_off4 k) (k0_off4_inb k) f1))
        (k0_pay19 (rd1 (k0_off5 k) (k0_off5_inb k) f1))
        (k0_pay20 (rd1 (k0_off1 k) (k0_off1_inb k) f1) (rd1 (k0_off2 k) (k0_off2_inb k) f1) (rd1 (k0_off3 k) (k0_off3_inb k) f1) (rd1 (k0_off4 k) (k0_off4_inb k) f1))
        K 1#32 k2 ())
      (fun _ => held c f0 f1 (crossStep k f0 f1 K k2 s)) := by
  unfold k0_t2_body
  simp only [k0_part1_eq_skeleton]; unfold k0_part1_skel
  simp only [Prog.lift, Prog.bind_op, Prog.bind_ret, Prog.pure_eq_ret]
  unfold held
  iintro ⟨H0, H1, H3⟩
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_scratch0) (Finset.subset_univ _)) $$ H3; iintro H3
  iapply (wp_load Variants.nat (c : Thread nD τ) none Set.univ (m := Memref.whole cc0_scratch0) (Finset.subset_univ _)) $$ H3; iintro H3
  iapply (wp_store Variants.nat (c : Thread nD τ) none Set.univ (m := Memref.whole cc0_scratch0) (r := Rect.unit (s := S1x5120) (k0_off17 k k2) S1x256.size (k0_off17_inb k k2)) (Mk := Finset.univ) (Finset.subset_univ _)) $$ H3; iintro H3
  rw [wp_ret]; imodintro
  isplitl [H0]; · iexact H0
  isplitl [H1]; · iexact H1
  unfold crossStep
  iexact H3

theorem t3_none : ∀ k : Fin k0_t1_loop.trips, (k0_t3_loop k).trips = 0 := by decide

/-- One trip of the loop over blocks. -/
theorem outer_trip (k : Fin k0_t1_loop.trips) (s : SuppT F) :
    held c f0 f1 s ⊢ wp frame (wpE (defs₀ (F := F)) Variants.nat (c : Thread nD τ) none) Set.univ
      (k0_t1_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) k ())
      (fun _ => held c f0 f1 (outerStep k f0 f1 s)) := by
  unfold k0_t1_body
  simp only [k0_part3_eq_skeleton, k0_part4_eq_skeleton]; unfold k0_part3_skel k0_part4_skel
  simp only [Prog.lift, Prog.bind_op, Prog.bind_ret, Prog.pure_eq_ret]
  conv_lhs => unfold held
  iintro ⟨H0, H1, H3⟩
  iapply (wp_load Variants.nat (c : Thread nD τ) none Set.univ (m := Memref.whole cc0_stg1_0) (Finset.subset_univ _)) $$ H1; iintro H1
  iapply (wp_load Variants.nat (c : Thread nD τ) none Set.univ (m := Memref.whole cc0_stg1_0) (Finset.subset_univ _)) $$ H1; iintro H1
  iapply (wp_load Variants.nat (c : Thread nD τ) none Set.univ (m := Memref.whole cc0_stg1_0) (Finset.subset_univ _)) $$ H1; iintro H1
  iapply (wp_load Variants.nat (c : Thread nD τ) none Set.univ (m := Memref.whole cc0_stg1_0) (Finset.subset_univ _)) $$ H1; iintro H1
  iapply (wp_load Variants.nat (c : Thread nD τ) none Set.univ (m := Memref.whole cc0_stg1_0) (Finset.subset_univ _)) $$ H1; iintro H1
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_stg0_0) (Finset.subset_univ _)) $$ H0; iintro H0
  iapply (wp_load Variants.nat (c : Thread nD τ) none Set.univ (m := Memref.whole cc0_scratch0) (Finset.subset_univ _)) $$ H3; iintro H3
  have hT := spec_le (F := F) c Set.univ k (selfC k f0 f1) (validK k s) 258 0 rfl (validK k s) (k0_pay34 (rd3 (k0_off11 k) (k0_off11_inb k) s))
  iapply (wp_call_spec Variants.nat (c : Thread nD τ) none Set.univ (spec (kept k f0 f1 s)) 258 (fun u hu => nomatch hu) hT)
  rw [spec_apply]
  iintro %r %hr
  iapply (wp_load Variants.nat (c : Thread nD τ) none Set.univ (m := Memref.whole cc0_scratch0) (Finset.subset_univ _)) $$ H3; iintro H3
  iapply (wp_store Variants.nat (c : Thread nD τ) none Set.univ (m := Memref.whole cc0_scratch0) (r := Rect.unit (s := S1x5120) (k0_off11 k) S1x256.size (k0_off11_inb k)) (Mk := Finset.univ) (Finset.subset_univ _)) $$ H3; iintro H3
  obtain ⟨r0, r1, r2⟩ := r
  subst hr
  ihave H : held c f0 f1 (crossN k f0 f1 (kept k f0 f1 s) (selfStep k f0 f1 s) 0) $$ [H0 H1 H3]
  · unfold held crossN selfStep
    isplitl [H0]; · iexact H0
    isplitl [H1]; · iexact H1
    iexact H3
  iapply (Scf.wp_for_bind _ _ _ (k0_t2_loop k).lb (k0_t2_loop k).ub (k0_t2_loop k).st (k0_t2_ok k) () _
    (fun n _ => held c f0 f1 (crossN k f0 f1 (kept k f0 f1 s) (selfStep k f0 f1 s) n))
    (fun k2 acc => by
      have h := cross_trip c f0 f1 k (kept k f0 f1 s) k2 (crossN k f0 f1 (kept k f0 f1 s) (selfStep k f0 f1 s) k2.val)
      rw [show crossN k f0 f1 (kept k f0 f1 s) (selfStep k f0 f1 s) (k2.val + 1)
          = crossStep k f0 f1 (kept k f0 f1 s) k2 (crossN k f0 f1 (kept k f0 f1 s) (selfStep k f0 f1 s) k2.val) from by
        rw [crossN, dif_pos k2.isLt]]
      exact h)) $$ H
  iintro %acc H
  iapply (Scf.wp_for0_bind _ _ _ (k0_t3_loop k).lb (k0_t3_loop k).ub (k0_t3_loop k).st (k0_t3_ok k) _ (t3_none k) _ _
    (held c f0 f1 (outerStep k f0 f1 s)) (by rw [wp_ret]; iintro H; imodintro; iexact H))
  unfold outerStep
  iexact H

theorem write_whole_s (f w : SuppT F) :
    ((Memref.whole cc0_scratch0 : Memref sig .tc _ _ _).access (Rect.unit (s := S1x5120) ![0, 0] S1x5120.size inb_S1x5120_S1x5120_0_0)).write (Elt F) f w Finset.univ = w :=
  Memref.write_access_unit_zero_univ (Elt F) cc0_scratch0 (funext fun a => by fin_cases a <;> rfl) _ f w

theorem write_whole_o (f w : (cc0_stg2_0 : Ref sig .tc).ty.Contents (Elt F)) :
    ((Memref.whole cc0_stg2_0 : Memref sig .tc _ _ _).access (Rect.unit (s := S1x5120) ![0, 0] S1x5120.size inb_S1x5120_S1x5120_0_0)).write (Elt F) f w Finset.univ = w :=
  Memref.write_access_unit_zero_univ (Elt F) cc0_stg2_0 (funext fun a => by fin_cases a <;> rfl) _ f w

theorem read_whole_s (f : SuppT F) :
    (Memref.whole cc0_scratch0 : Memref sig .tc _ _ _).view.readAt (Elt F) (Rect.unit (s := S1x5120) ![0, 0] S1x5120.size inb_S1x5120_S1x5120_0_0).toLoadRect f = f :=
  Memref.readAt_unit_zero (Elt F) cc0_scratch0 (funext fun a => by fin_cases a <;> rfl) _ f

/-- The body: the operands' buffers come back as they were, the result's buffer holds `nmsOut`. -/
theorem sound_kernel (o : (cc0_stg2_0 : Ref sig .tc).ty.Contents (Elt F)) (s : SuppT F) (Q : PUnit → sProp 𝕄) :
    iprop(held c f0 f1 s ∗ (((c : Thread nD τ).loc cc0_stg2_0) ↦{fullShare} (o : Buf (Elt F) ((c : Thread nD τ).loc cc0_stg2_0)))
      ∗ ((held c f0 f1 (suppN f0 f1 k0_t1_loop.trips)
        ∗ (((c : Thread nD τ).loc cc0_stg2_0) ↦{fullShare} (nmsOut f0 f1 : Buf (Elt F) ((c : Thread nD τ).loc cc0_stg2_0)))) -∗ Q ⟨⟩))
    ⊢ wp frame (wpE (defs₀ (F := F)) Variants.nat (c : Thread nD τ) none) Set.univ
      (cc0__nms_kernel (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)) Q := by
  simp only [cc0__nms_kernel_eq_skeleton]; unfold cc0__nms_kernel_skel
  simp only [Prog.lift, Prog.bind_op, Prog.bind_ret, Prog.pure_eq_ret]
  unfold held
  iintro ⟨⟨H0, H1, H3⟩, H2, Hk⟩
  iapply (wp_load Variants.nat (c : Thread nD τ) none Set.univ (m := Memref.whole cc0_scratch0) (Finset.subset_univ _)) $$ H3; iintro H3
  iapply (wp_store Variants.nat (c : Thread nD τ) none Set.univ (m := Memref.whole cc0_scratch0) (r := Rect.unit (s := S1x5120) ![0, 0] S1x5120.size inb_S1x5120_S1x5120_0_0) (Mk := Finset.univ) (Finset.subset_univ _)) $$ H3; iintro H3
  rw [write_whole_s]
  ihave H : held c f0 f1 (suppN f0 f1 0) $$ [H0 H1 H3]
  · unfold held suppN
    isplitl [H0]; · iexact H0
    isplitl [H1]; · iexact H1
    iexact H3
  iapply (Scf.wp_for_bind _ _ _ k0_t1_loop.lb k0_t1_loop.ub k0_t1_loop.st k0_t1_ok () _
    (fun n _ => held c f0 f1 (suppN f0 f1 n))
    (fun k acc => by
      have h := outer_trip c f0 f1 k (suppN f0 f1 k.val)
      rw [show suppN f0 f1 (k.val + 1) = outerStep k f0 f1 (suppN f0 f1 k.val) from by rw [suppN, dif_pos k.isLt]]
      exact h)) $$ H
  iintro %acc H
  unfold held
  icases H with ⟨H0, H1, H3⟩
  iapply (wp_load Variants.nat (c : Thread nD τ) none Set.univ (m := Memref.whole cc0_stg0_0) (Finset.subset_univ _)) $$ H0; iintro H0
  iapply (wp_load Variants.nat (c : Thread nD τ) none Set.univ (m := Memref.whole cc0_scratch0) (Finset.subset_univ _)) $$ H3; iintro H3
  iapply (wp_load Variants.nat (c : Thread nD τ) none Set.univ (m := Memref.whole cc0_stg2_0) (Finset.subset_univ _)) $$ H2; iintro H2
  iapply (wp_store Variants.nat (c : Thread nD τ) none Set.univ (m := Memref.whole cc0_stg2_0) (r := Rect.unit (s := S1x5120) ![0, 0] S1x5120.size inb_S1x5120_S1x5120_0_0) (Mk := Finset.univ) (Finset.subset_univ _)) $$ H2; iintro H2
  rw [write_whole_o, read_whole_s]
  rw [wp_ret]; imodintro
  iapply Hk
  isplitl [H0 H1 H3]
  · isplitl [H0]; · iexact H0
    isplitl [H1]; · iexact H1
    iexact H3
  unfold nmsOut
  iexact H2

end Buffers

end Cert.Nms
-- ==== Proof.NmsRun.lean ====
module

public import proofs.«01_k».proof.Proof.NmsBody
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.WordCmp

/-! The suppression program, launched: the host lines before the region, the region on its body's
triple, the host lines after it. -/

@[expose] public section

set_option maxRecDepth 16384

noncomputable section

namespace Cert.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of core `c`'s buffers when the region is entered. -/
abbrev V0 (c : Dev nD) : Valuation τ sig (Elt F) :=
  StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor

/-- The lines after the region. -/
abbrev tail : List (List (HloOp τ sig (Elt F))) := [hostOps1, hostOps1_1, hostOps1_2]

theorem around (𝒱₀ : Variants) : Pipeline.HMainK (Ix := Unit) (Name := ℕ) (U := UR sig nD τ) (Lvl := ℕ) cfgs 0 defs₀ 𝒱₀ m (main (F := F)) (V m)
      (fun _ => Pipeline.chain (tail.map StableHlo.seq)) :=
  Pipeline.hmain_around cfgs 0 defs₀ 𝒱₀ m main [hostOps0, hostOps0_1, hostOps0_2] tail
    (by simp only [List.Forall]; exact ⟨hostOps0_sub, hostOps0_1_sub, hostOps0_2_sub⟩)
    (by simp only [List.Forall]; exact ⟨fresh0, fresh0_1, fresh0_2⟩) main_chain

theorem tail_sub : ∀ ops ∈ (tail : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh1) op hop
  · exact (List.forall_iff_forall_mem.mp fresh1_1) op hop
  · exact (List.forall_iff_forall_mem.mp fresh1_2) op hop

/-- The lines after the region leave a buffer they do not write: the check over each list. -/
theorem tail_keeps : ∀ ops ∈ (tail : List (List (HloOp τ sig (Elt F)))), ∀ op ∈ ops,
    ∀ w, Proc.devRef .tc (Pipeline.arrRef spec0 w) ∉ op.writes := by
  intro ops hops op hop w
  have key : ∀ w, (tail : List (List (HloOp τ sig (Elt F)))).Forall fun ops =>
      ops.Forall fun op => Proc.devRef .tc (Pipeline.arrRef spec0 w) ∉ op.writes := by
    intro w
    fin_cases w <;>
    · simp only [List.Forall, StableHlo.nullary_writes, StableHlo.unary_writes, StableHlo.binary_writes, StableHlo.ternary_writes, StableHlo.quaternary_writes, StableHlo.reshape_writes, StableHlo.binaryIndexed_writes,
        Finset.mem_singleton]
      repeat' apply And.intro
      all_goals exact StableHlo.devRef_ne_of_ne (by decide)
  exact (List.forall_iff_forall_mem.mp ((List.forall_iff_forall_mem.mp (key w)) ops hops)) op hop

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes,
      Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs (F := F) p) c) (c : Dev nD) :
    Pipeline.afterTail₀ (cfgs (F := F)) dats 0 (V0 m) tail c main_arg0 = m ((c : Thread nD τ).loc main_arg0) := by
  unfold Pipeline.afterTail₀
  rw [StableHlo.after_of_forall_not_mem (b := Proc.devRef .tc main_arg0) _ _ (List.forall_iff_forall_mem.mp (by
      simp only [tail, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes,
        Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Window `w`'s block as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data: the operands' blocks stay, the result's block is `nmsOut` of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => nmsOut (iblk m c 0 t) (iblk m c 1 t)
    | ⟨_ + 3, h⟩ => absurd h (Nat.not_lt.2 (Nat.le_add_left _ _))
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]
theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = nmsOut (iblk m c 0 t) (iblk m c 1 t) := by dsimp only [dats]; rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- A whole buffer owned at `X`. -/
theorem owns_whole (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin (cfg0 (F := F)).N) :
    bodyPre m c t ⊢ wp frame (wpE (defs₀ (F := F)) Variants.nat c none) Set.univ (bodyAt0 t) (fun _ => bodyPost m c t) := by
  rw [fin_N0 t]
  unfold bodyPre bodyPost bodyAt0
  simp only [before_0, before_1]
  rw [show (dats m 0 c).Φ t0_0.succ = Pipeline.ΦA spec0 c from rfl, show (dats m 0 c).Φ t0_0.castSucc = Pipeline.ΦA spec0 c from rfl,
    show (dats m 0 c).owesAt () t0_0.succ = (dats m 0 c).owesAt () t0_0.castSucc from rfl,
    after_0, after_1, after_2]
  unfold Pipeline.ΦA
  rw [scopedRest0_eq]
  have e0 : (owns (Ix := Unit) (Name := ℕ) (U := UR sig nD τ) (Lvl := ℕ) (c : Thread nD τ) (st0_0 (F := F) t0_0) fullShare (iblk m c 0 t0_0) : sProp 𝕄) = _ := owns_whole (F := F) c cc0_stg0_0 (iblk m c 0 t0_0)
  have e1 : (owns (Ix := Unit) (Name := ℕ) (U := UR sig nD τ) (Lvl := ℕ) (c : Thread nD τ) (st0_1 (F := F) t0_0) fullShare (iblk m c 1 t0_0) : sProp 𝕄) = _ := owns_whole (F := F) c cc0_stg1_0 (iblk m c 1 t0_0)
  have e2 : ∀ d, (owns (Ix := Unit) (Name := ℕ) (U := UR sig nD τ) (Lvl := ℕ) (c : Thread nD τ) (st0_2 (F := F) t0_0) fullShare ((dats m 0 c).before 2 t0_0 d) : sProp 𝕄) = _ := fun d => owns_whole (F := F) c cc0_stg2_0 ((dats m 0 c).before 2 t0_0 d)
  have e3 : (owns (Ix := Unit) (Name := ℕ) (U := UR sig nD τ) (Lvl := ℕ) (c : Thread nD τ) (st0_2 (F := F) t0_0) fullShare (nmsOut (iblk m c 0 t0_0) (iblk m c 1 t0_0)) : sProp 𝕄) = _ := owns_whole (F := F) c cc0_stg2_0 (nmsOut (iblk m c 0 t0_0) (iblk m c 1 t0_0))
  rw [e0, e1, e3]
  simp only [e2]
  iintro ⟨⟨⟨%s, Hs⟩, Hp⟩, Ho, ⟨%d0, %x0, %h0, H0⟩, ⟨%d1, %x1, %h1, H1⟩, ⟨%d2, %x2, %h2, H2⟩⟩
  subst h0 h1
  iapply (sound_kernel (F := F) c (iblk m c 0 t0_0) (iblk m c 1 t0_0) x2 s)
  unfold held
  isplitl [H0 H1 Hs]
  · isplitl [H0]; · iexact H0
    isplitl [H1]; · iexact H1
    iexact Hs
  isplitl [H2]; · iexact H2
  iintro ⟨⟨H0, H1, Hs⟩, H2⟩
  isplitl [Hs Hp]
  · isplitl [Hs]
    · iexists _; iexact Hs
    iexact Hp
  isplitl [Ho]; · iexact Ho
  isplitl [H0]
  · iexists _; isplitr; · (ipureintro; rfl)
    iexact H0
  isplitl [H1]
  · iexists _; isplitr; · (ipureintro; rfl)
    iexact H1
  iexists _; isplitr; · (ipureintro; rfl)
  iexact H2

theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, row]
  exact triple_restated (sound_body m c t) rfl .rfl fun _ => .rfl

set_option backward.isDefEq.respectTransparency.types false in
set_option maxHeartbeats 800000 in
/-- The run: the pipeline's arrays at what the proof data say, every other buffer as the later lines leave it, every
    semaphore at zero. -/
theorem run : θ_run defs (onTc (τ := τ) (main (F := F))) (s₀ m ρ) (fun r => (Pipeline.FramePost cfgs (dats m) 0 (Pipeline.afterTail₀ cfgs (dats m) 0 (V0 m) tail)) r ∧ r.2.sem = fun _ => 0) :=
  Pipeline.θ_run_frame_around (Q' := _) cfgs (dats m) (0 : Fin 1) launch0 defs₀ Variants.nat m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := around m Variants.nat) (hA := A_eq m) (hΦ := fun _ _ => rfl)

/-- The frame: the argument ends as launched and every semaphore at zero; and the result is what the later lines leave. -/
theorem run_result : θ_run defs (onTc (τ := τ) (main (F := F))) ⟨m, fun _ => 0, ρ⟩ (fun r => ∀ c : Dev nD,
      r.2.mem ((c.tc : Thread nD τ).loc main_v62) = Pipeline.afterTail₀ cfgs (dats m) 0 (V0 m) tail c main_v62) :=
  (θ_run defs _ _).mono (fun _ h c => (h.1 c).2 main_v62 (Pipeline.mem_restRefs_of main_v62 (by decide) (by exact (by decide : ∀ w, Pipeline.arrRef spec0 w ≠ main_v62)))) (run m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (by exact (by decide : ∀ w, Pipeline.arrRef spec0 w ≠ main_arg0)))).trans (W_main_arg0 m (dats m) c), h.2⟩) (run m ρ)

end Cert.Nms
-- ==== Proof.NmsOrder.lean ====
module

public import proofs.«01_k».proof.Proof.RefResult
public import proofs.«01_k».proof.Proof.NmsSort
public import proofs.«01_k».proof.Proof.NmsRun
public import Idealize.ShloMosaic.Lib.Routing.OpsSet

/-! The orders by falling score that the suppression program and its reference work in: what the sort, the gather and
the scatter by such an order read. -/

@[expose] public section

set_option maxRecDepth 16384

noncomputable section

namespace Cert.NmsRef

open Idealize.ShloMosaic Idealize.ShloMosaic.TcCoe Idealize.SL.Sem
open Cert.Reference2Ideal Cert.Reference2Ideal.Gen

/-- All candidates' numbers by falling score. -/
def order (x : FVec Ideal S1x5000x6 .f32) : IVec S5000 32 := byScore (scores x)
/-- The candidates in that order. -/
def sorted (x : FVec Ideal S1x5000x6 .f32) : FVec Ideal S5000x6 .f32 :=
  Host.gather Cert.Kernel2Ideal.gather_S5000x6_S5000x1_S5000x6_1_0_n_n_0_1_16 (cands x) (places (order x))
/-- Marks of the candidates in that order, brought back to their own order. -/
def unsorted (x : FVec Ideal S1x5000x6 .f32) (kp : IVec S5000 1) : IVec S5000 1 := bring (order x) kp

/-- Whether sorted candidate `i` overlaps `j` too much within one class. -/
def SR (D : FVec Ideal S5000x6 .f32) (i j : ℕ) : Prop :=
  ∃ h : i < 5000 ∧ j < 5000, Nms.hit (D (ix2 ⟨i, h.1⟩ 0)) (D (ix2 ⟨i, h.1⟩ 1)) (D (ix2 ⟨i, h.1⟩ 2)) (D (ix2 ⟨i, h.1⟩ 3)) (D (ix2 ⟨i, h.1⟩ 5))
    (D (ix2 ⟨j, h.2⟩ 0)) (D (ix2 ⟨j, h.2⟩ 1)) (D (ix2 ⟨j, h.2⟩ 2)) (D (ix2 ⟨j, h.2⟩ 3)) (D (ix2 ⟨j, h.2⟩ 5))

/-- What the sort compares. -/
def keyOf (s : FVec Ideal S5000 .f32) (i : Fin 5000) : EReal := (Host.negf s (ix1 i) : EReal)
theorem keyOf_eq (s : FVec Ideal S5000 .f32) (i : Fin 5000) : keyOf s i = -(s (ix1 i) : EReal) := rfl
/-- The candidate at each place of the order. -/
def orderOf (s : FVec Ideal S5000 .f32) : Fin 5000 → Fin 5000 := sortedFrom fun a b => decide (keyOf s a < keyOf s b)

theorem ordered (s : FVec Ideal S5000 .f32) : Keep.Ordered (keyOf s) (orderOf s) := Keep.ordered_sort _

/-- The comparator is the order of the keys. -/
theorem comparator_lt (a b : Ideal .f32 × BitVec 32) :
    (comparator_f32_i32_d0 (F := Ideal) a b == 1#1) = decide ((a.1 : EReal) < b.1) := by
  have key : ∀ u : EReal, Scalar.select (FloatOps.cmpf (F := Ideal) (φ := .f32) .une u u) (FloatOps.ofBits .f32 0x7FC00000#32 : Ideal .f32)
      (Scalar.select (FloatOps.cmpf (F := Ideal) (φ := .f32) .oeq u (FloatOps.ofBits .f32 0x00000000#32 : Ideal .f32)) (FloatOps.ofBits .f32 0x00000000#32 : Ideal .f32) u) = u := by
    intro u
    have e1 : FloatOps.cmpf (F := Ideal) (φ := .f32) .une u u = 0#1 := by
      show BitVec.ofBool (decide (u ≠ u)) = 0#1
      simp
    rw [WordCmp.select_of_eq_zero e1]
    by_cases h : u = Ideal.ofBits .f32 0x00000000#32
    · have e2 : FloatOps.cmpf (F := Ideal) (φ := .f32) .oeq u (FloatOps.ofBits .f32 0x00000000#32 : Ideal .f32) = 1#1 := by
        show BitVec.ofBool (decide (u = Ideal.ofBits .f32 0x00000000#32)) = 1#1
        simp [h]
      rw [WordCmp.select_of_eq_one e2]
      exact h.symm
    · have e2 : FloatOps.cmpf (F := Ideal) (φ := .f32) .oeq u (FloatOps.ofBits .f32 0x00000000#32 : Ideal .f32) = 0#1 := by
        show BitVec.ofBool (decide (u = Ideal.ofBits .f32 0x00000000#32)) = 0#1
        simp only [h, decide_false]; rfl
      rw [WordCmp.select_of_eq_zero e2]
  unfold comparator_f32_i32_d0
  dsimp only
  rw [key a.1, key b.1]
  show (BitVec.ofBool (decide ((a.1 : EReal) < b.1)) == 1#1) = _
  by_cases h : (a.1 : EReal) < b.1 <;> simp [h]

variable (s : FVec Ideal S5000 .f32) (x : FVec Ideal S1x5000x6 .f32)

theorem byScore_val (r : Fin 5000) : byScore s (ix1 r) = BitVec.ofNat 32 (orderOf s r).val := by
  have hd : 0 < S5000.rank := Nat.zero_lt_one
  have e : ∀ (j : S5000.Idx) (c : Fin 5000), j.along (⟨0, hd⟩ : Fin S5000.rank) c = ix1 c := fun j c =>
    (Shape.Idx.along_rank1 j c).trans (Routing.ofFin_eq_ix1 c)
  have hb : (fun k k' : Fin 5000 => comparator_f32_i32_d0 (F := Ideal)
        (Host.negf s ((ix1 r : S5000.Idx).along ⟨0, hd⟩ k), iotaInDim S5000 32 0 ((ix1 r : S5000.Idx).along ⟨0, hd⟩ k))
        (Host.negf s ((ix1 r : S5000.Idx).along ⟨0, hd⟩ k'), iotaInDim S5000 32 0 ((ix1 r : S5000.Idx).along ⟨0, hd⟩ k')) == 1#1)
      = fun k k' => decide (keyOf s k < keyOf s k') := by
    funext k k'
    rw [comparator_lt, e, e]
    rfl
  unfold byScore Host.sort2
  rw [dif_pos hd]
  refine (congrArg (fun f : Fin 5000 → Fin 5000 → Bool => iotaInDim S5000 32 0 ((ix1 r : S5000.Idx).along ⟨0, hd⟩ (sortedFrom f r))) hb).trans ?_
  exact (congrArg (iotaInDim S5000 32 0) (e _ _)).trans rfl

theorem places_val (r : Fin 5000) (z : Fin 1) : places (byScore s) (ix2 r z) = BitVec.ofNat 32 (orderOf s r).val := by
  have h : places (byScore s) (ix2 r z) = Scalar.select (IntOp.cmpi .slt (byScore s (ix1 r)) 0#32) (byScore s (ix1 r) + 5000#32) (byScore s (ix1 r)) := by
    unfold places
    pointwise
    rfl
  have hlt := (orderOf s r).isLt
  have e0 : IntOp.cmpi .slt (BitVec.ofNat 32 (orderOf s r).val) 0#32 = 0#1 :=
    (WordCmp.cmpi_slt_ofNat_eq_zero_iff (w := 32) (a := (orderOf s r).val) (b := 0) (by omega) (by omega)).2 (by omega)
  rw [h, byScore_val, WordCmp.select_of_eq_zero e0]

theorem boxesBy_val (r : Fin 5000) (k : Fin 4) : boxesBy x (byScore s) (ix2 r k) = cands x (ix2 (orderOf s r) ⟨k.val, by omega⟩) := by
  unfold boxesBy
  refine (Routing.gather_row gather_S5000x4_S5000x1_S5000x4_1_0_n_n_0_1_14 rfl rfl rfl rfl rfl (boxes x) _ r k (orderOf s r) (places_val s r 0) (by decide)).trans ?_
  unfold boxes
  pointwise

theorem sorted_val (r : Fin 5000) (k : Fin 6) : sorted x (ix2 r k) = cands x (ix2 (orderOf (scores x) r) k) :=
  Routing.gather_row Cert.Kernel2Ideal.gather_S5000x6_S5000x1_S5000x6_1_0_n_n_0_1_16 rfl rfl rfl rfl rfl (cands x) _ r k (orderOf (scores x) r)
    (places_val (scores x) r 0) (by decide)

theorem bring_val (kp : IVec S5000 1) (r : Fin 5000) : bring (byScore s) kp (ix1 (orderOf s r)) = kp (ix1 r) := by
  have h := Routing.scatter_set scatter_S5000_S5000x1_S5000_n_0_0_1 rfl rfl rfl none' (places (byScore s)) kp
    (fun i => if h : i < 5000 then (orderOf s ⟨i, h⟩).val else 0)
    (fun i => by rw [dif_pos i.isLt]; exact places_val s i 0)
    (fun i => by rw [dif_pos i.isLt]; have := (orderOf s i).isLt; omega)
    (orderOf s r) (kp (ix1 r))
    (fun i hi => by
      rw [dif_pos i.isLt] at hi
      have : i = r := (ordered s).inj (Fin.ext hi)
      rw [this]; rfl)
  exact h.1 ⟨r, by rw [dif_pos r.isLt]⟩

end Cert.NmsRef
-- ==== Proof.NmsEntry.lean ====
module

public import proofs.«01_k».proof.Proof.NmsOrder
public import proofs.«01_k».proof.Proof.NmsRun
public import Idealize.ShloMosaic.Lib.Routing.OpsOne

/-! The host lines around the suppression kernel: the two operands it is handed hold, at each sorted candidate, that
candidate's box, class and score; and from its result the lines after it select as the reference's do. -/

@[expose] public section

set_option maxRecDepth 16384

noncomputable section

/-! ## A run of a row, and a block, set at a pair of index words -/

namespace Cert.RowSet

open Idealize.ShloMosaic hiding ix1 ix2 eq_ix1 eq_ix2
open Idealize.ShloMosaic.Routing Idealize.ShloMosaic.ValueIdx

variable {R C U T : Nat}

theorem lands_run (d : ScatterDims (shape2 R C) (shape1 2) (shape1 U)) (hiw : d.insertedWindowDims = [0]) (hsd : d.scatterDimsToOperandDims = [0, 1])
    (hivd : d.indexVectorDim = 0) (idx : IVec (shape1 2) 32) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have w1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have w0 : d.window (ix1 k) 0 = 0 := by
    unfold ScatterDims.window
    rw [dif_neg fun h => (of_decide_eq_true (List.mem_filter.1 h).2) (by rw [hiw]; simp)]
  rw [resultIdx?_ix2, start_pair d hsd hivd, start_pair d hsd hivd, w0, w1]
  omega

theorem run_hit (d : ScatterDims (shape2 R C) (shape1 2) (shape1 U)) (hiw : d.insertedWindowDims = [0]) (hsd : d.scatterDimsToOperandDims = [0, 1])
    (hivd : d.indexVectorDim = 0) (x : (shape2 R C).Idx → EReal) (idx : IVec (shape1 2) 32) (u : (shape1 U).Idx → EReal) (r : Fin R) (c : Fin C) (k : Fin U)
    (h0 : (idx (ix1 (0 : Fin 2))).toInt = r.val) (h1 : (idx (ix1 (1 : Fin 2))).toInt + (k.val : Int) = c.val) :
    Host.scatter d (fun _ b => b) x idx u (ix2 r c) = u (ix1 k) := by
  refine scatter_set_hit d x idx u _ _ (fun k' hk' => ?_) (ix1 k) ((lands_run d hiw hsd hivd idx k r c).2 ⟨h0, h1⟩)
  have e := (lands_run d hiw hsd hivd idx (k' 0) r c).1 ((congrArg (fun t => d.resultIdx? t idx) (eq_ix1 k').symm).trans hk')
  rw [eq_ix1 k']
  exact congrArg (fun t => u (ix1 t)) (Fin.ext (show (k' 0).val = k.val by omega))

theorem run_miss (d : ScatterDims (shape2 R C) (shape1 2) (shape1 U)) (hiw : d.insertedWindowDims = [0]) (hsd : d.scatterDimsToOperandDims = [0, 1])
    (hivd : d.indexVectorDim = 0) (x : (shape2 R C).Idx → EReal) (idx : IVec (shape1 2) 32) (u : (shape1 U).Idx → EReal) (r : Fin R) (c : Fin C)
    (h : (idx (ix1 (0 : Fin 2))).toInt ≠ r.val ∨ (c.val : Int) < (idx (ix1 (1 : Fin 2))).toInt) :
    Host.scatter d (fun _ b => b) x idx u (ix2 r c) = x (ix2 r c) := by
  refine scatter_set_miss d x idx u _ fun k' hk' => ?_
  have e := (lands_run d hiw hsd hivd idx (k' 0) r c).1 ((congrArg (fun t => d.resultIdx? t idx) (eq_ix1 k').symm).trans hk')
  rcases h with h | h
  · exact h e.1
  · have := e.2; omega

theorem lands_block (d : ScatterDims (shape2 R C) (shape1 2) (shape2 T U)) (hiw : d.insertedWindowDims = []) (huw : d.updateWindowDims = [0, 1])
    (hsd : d.scatterDimsToOperandDims = [0, 1]) (hivd : d.indexVectorDim = 0) (idx : IVec (shape1 2) 32) (i : Fin T) (k : Fin U) (r : Fin R) (c : Fin C) :
    d.resultIdx? (ix2 i k) idx = some (ix2 r c)
      ↔ (idx (ix1 (0 : Fin 2))).toInt + (i.val : Int) = r.val ∧ (idx (ix1 (1 : Fin 2))).toInt + (k.val : Int) = c.val := by
  have hk : d.sKept = [0, 1] := by
    show (shape2 R C).kept d.insertedWindowDims = _
    rw [hiw]
    rfl
  have at_ : ∀ (l : List (Fin 2)) (n : ℕ) (h : n < l.length) (q : Fin 2), l = [0, 1] → n = q.val → l[n]'h = q := by
    intro l n h q hl hn
    subst hl
    subst hn
    fin_cases q <;> rfl
  have w : ∀ q : Fin 2, d.window (ix2 i k) q = ((ix2 i k : (shape2 T U).Idx) q).val := fun q => by
    unfold ScatterDims.window
    rw [dif_pos (by rw [hk]; fin_cases q <;> simp)]
    exact congrArg (fun t => ((ix2 i k : (shape2 T U).Idx) t).val) (at_ _ _ _ q huw (by rw [hk]; fin_cases q <;> rfl))
  rw [resultIdx?_ix2, start_pair d hsd hivd, start_pair d hsd hivd, w, w]
  rfl

theorem block_hit (d : ScatterDims (shape2 R C) (shape1 2) (shape2 T U)) (hiw : d.insertedWindowDims = []) (huw : d.updateWindowDims = [0, 1])
    (hsd : d.scatterDimsToOperandDims = [0, 1]) (hivd : d.indexVectorDim = 0) (x : (shape2 R C).Idx → EReal) (idx : IVec (shape1 2) 32)
    (u : (shape2 T U).Idx → EReal) (r : Fin R) (c : Fin C) (i : Fin T) (k : Fin U)
    (h0 : (idx (ix1 (0 : Fin 2))).toInt + (i.val : Int) = r.val) (h1 : (idx (ix1 (1 : Fin 2))).toInt + (k.val : Int) = c.val) :
    Host.scatter d (fun _ b => b) x idx u (ix2 r c) = u (ix2 i k) := by
  refine scatter_set_hit d x idx u _ _ (fun k' hk' => ?_) (ix2 i k) ((lands_block d hiw huw hsd hivd idx i k r c).2 ⟨h0, h1⟩)
  have e := (lands_block d hiw huw hsd hivd idx (k' 0) (k' 1) r c).1 ((congrArg (fun t => d.resultIdx? t idx) (eq_ix2 k').symm).trans hk')
  rw [eq_ix2 k']
  exact congrArg₂ (fun s t => u (ix2 s t)) (Fin.ext (show (k' 0).val = i.val by omega)) (Fin.ext (show (k' 1).val = k.val by omega))

end Cert.RowSet

namespace Cert.Nms

open Idealize.ShloMosaic Idealize.ShloMosaic.TcCoe Idealize.ShloMosaic.Tactic Idealize.SL.Sem
open Cert.RowSet
open Idealize.ShloMosaic.StableHlo (after)
open Cert.Kernel2Ideal Cert.Kernel2Ideal.Gen

/-! ## The operands -/

section Rows
variable (D : FVec Ideal S5000x6 .f32)

/-- A pair of index words. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0
theorem pair_0 (a b : BitVec 32) : pair a b (ValueIdx.ix1 (0 : Fin 2)) = a := by
  show pair a b (ix1 (0 : Fin 2)) = a
  unfold pair; pointwise
theorem pair_1 (a b : BitVec 32) : pair a b (ValueIdx.ix1 (1 : Fin 2)) = b := by
  show pair a b (ix1 (1 : Fin 2)) = b
  unfold pair; pointwise

/-- The boxes, a coordinate a row. -/
def boxes : FVec Ideal S4x5000 .f32 := transpose S4x5000 [1, 0] (extractStridedSlice S5000x4 ![0, 0] D slices_S5000x6_S5000x4_0_0) transposes_S5000x4_S4x5000_1_0
theorem boxes_val (r : Fin 4) (i : Fin 5000) : boxes D (ix2 r i) = D (ix2 i ⟨r.val, by omega⟩) := by
  unfold boxes
  pointwise
/-- The classes, -/
def clsCol : FVec Ideal S5000 .f32 := shapeCast S5000 (extractStridedSlice S5000x1 ![0, 5] D slices_S5000x6_S5000x1_0_5) shapeCasts_S5000x1_S5000
theorem clsCol_val (i : Fin 5000) : clsCol D (ix1 i) = D (ix2 i 5) := by
  unfold clsCol
  pointwise
/-- and the scores. -/
def scoreCol : FVec Ideal S5000 .f32 := shapeCast S5000 (extractStridedSlice S5000x1 ![0, 4] D slices_S5000x6_S5000x1_0_4) shapeCasts_S5000x1_S5000
theorem scoreCol_val (i : Fin 5000) : scoreCol D (ix1 i) = D (ix2 i 4) := by
  unfold scoreCol
  pointwise

/-- The operand as its rows are set one after another. -/
def rows1 : FVec Ideal S8x5120 .f32 :=
  Host.scatter scatter_S8x5120_S2_S4x5000_01_n_01_0 (fun _ b => b) (broadcastInDim S8x5120 ![] bcast_S_S8x5120 (constant S_ .f32 0x00000000#32)) (pair 0#32 0#32) (boxes D)
def rows2 : FVec Ideal S8x5120 .f32 := Host.scatter scatter_S8x5120_S2_S5000_0_0_01_0 (fun _ b => b) (rows1 D) (pair 4#32 0#32) (clsCol D)
def rows3 : FVec Ideal S8x5120 .f32 :=
  Host.scatter scatter_S8x5120_S2_S120_0_0_01_0 (fun _ b => b) (rows2 D) (pair 4#32 5000#32) (broadcastInDim S120 ![] bcast_S_S120 (constant S_ .f32 0xBF800000#32))
def rows4 : FVec Ideal S8x5120 .f32 := Host.scatter scatter_S8x5120_S2_S5000_0_0_01_0 (fun _ b => b) (rows3 D) (pair 5#32 0#32) (scoreCol D)
def rowsOf : FVec Ideal S8x5120 .f32 :=
  Host.scatter scatter_S8x5120_S2_S120_0_0_01_0 (fun _ b => b) (rows4 D) (pair 5#32 5000#32) (broadcastInDim S120 ![] bcast_S_S120 (constant S_ .f32 0xCE6E6B28#32))
/-- The other operand is its transpose. -/
def colsOf : FVec Ideal S5120x8 .f32 := transpose S5120x8 [1, 0] (rowsOf D) transposes_S8x5120_S5120x8_1_0
theorem colsOf_val (i : Fin 5120) (r : Fin 8) : colsOf D (ix2 i r) = rowsOf D (ix2 r i) := by
  unfold colsOf
  pointwise

theorem rows_last (r : Fin 8) (i : Fin 5120) (hi : i.val < 5000) : rowsOf D (ix2 r i) = rows4 D (ix2 r i) :=
  run_miss scatter_S8x5120_S2_S120_0_0_01_0 rfl rfl rfl _ _ _ r i (Or.inr (by rw [pair_1]; show (i.val : Int) < 5000; omega))
theorem rows_pad (r : Fin 8) (i : Fin 5120) (hi : i.val < 5000) : rows3 D (ix2 r i) = rows2 D (ix2 r i) :=
  run_miss scatter_S8x5120_S2_S120_0_0_01_0 rfl rfl rfl _ _ _ r i (Or.inr (by rw [pair_1]; show (i.val : Int) < 5000; omega))

theorem row_score (i : Fin 5120) (hi : i.val < 5000) : rowsOf D (ix2 5 i) = D (ix2 ⟨i.val, hi⟩ 4) := by
  rw [rows_last D _ i hi]
  refine (run_hit scatter_S8x5120_S2_S5000_0_0_01_0 rfl rfl rfl _ _ _ 5 i ⟨i.val, hi⟩ (by rw [pair_0]; rfl) (by rw [pair_1]; show (0 : Int) + i.val = i.val; omega)).trans ?_
  exact scoreCol_val D _
theorem row_low (r : Fin 8) (hr : r.val < 5) (i : Fin 5120) (hi : i.val < 5000) : rowsOf D (ix2 r i) = rows2 D (ix2 r i) := by
  rw [rows_last D _ i hi]
  refine (run_miss scatter_S8x5120_S2_S5000_0_0_01_0 rfl rfl rfl _ _ _ r i (Or.inl (by rw [pair_0]; show (5 : Int) ≠ r.val; omega))).trans ?_
  exact rows_pad D r i hi
theorem row_class (i : Fin 5120) (hi : i.val < 5000) : rowsOf D (ix2 4 i) = D (ix2 ⟨i.val, hi⟩ 5) := by
  rw [row_low D 4 (by decide) i hi]
  refine (run_hit scatter_S8x5120_S2_S5000_0_0_01_0 rfl rfl rfl _ _ _ 4 i ⟨i.val, hi⟩ (by rw [pair_0]; rfl) (by rw [pair_1]; show (0 : Int) + i.val = i.val; omega)).trans ?_
  exact clsCol_val D _
theorem row_box (r : Fin 8) (hr : r.val < 4) (i : Fin 5120) (hi : i.val < 5000) : rowsOf D (ix2 r i) = D (ix2 ⟨i.val, hi⟩ ⟨r.val, by omega⟩) := by
  rw [row_low D r (by omega) i hi]
  refine (run_miss scatter_S8x5120_S2_S5000_0_0_01_0 rfl rfl rfl _ _ _ r i (Or.inl (by rw [pair_0]; show (4 : Int) ≠ r.val; omega))).trans ?_
  refine (block_hit scatter_S8x5120_S2_S4x5000_01_n_01_0 rfl rfl rfl rfl _ _ _ r i ⟨r.val, hr⟩ ⟨i.val, hi⟩ (by rw [pair_0]; show (0 : Int) + r.val = r.val; omega)
    (by rw [pair_1]; show (0 : Int) + i.val = i.val; omega)).trans ?_
  exact boxes_val D _ _
end Rows

/-! ## The lines -/

section Lines
variable (W : Valuation τ sig (Elt Ideal))

/-- The contents after the lines before the launch. -/
abbrev entry : Valuation τ sig (Elt Ideal) := after hostOps0_2 (after hostOps0_1 (after hostOps0 W))

set_option maxHeartbeats 4000000 in
theorem entry_v0 : entry W main_v0 = NmsRef.cands (W main_arg0) := by
  simp only [entry, hostOps0_2, hostOps0_1, hostOps0]
  after_results_simp_entrywise
  rfl
set_option maxHeartbeats 4000000 in
theorem entry_v2 : entry W main_v2 = NmsRef.scores (W main_arg0) := by
  simp only [entry, hostOps0_2, hostOps0_1, hostOps0]
  after_results_simp_entrywise
  rfl
set_option maxHeartbeats 4000000 in
theorem entry_v4 : entry W main_v4 = NmsRef.order (W main_arg0) := by
  simp only [entry, hostOps0_2, hostOps0_1, hostOps0]
  after_results_simp_entrywise
  rfl
set_option maxHeartbeats 4000000 in
theorem entry_v40 : entry W main_v40 = rowsOf (NmsRef.sorted (W main_arg0)) := by
  simp only [entry, hostOps0_2, hostOps0_1, hostOps0]
  after_results_simp_entrywise
  rfl
set_option maxHeartbeats 4000000 in
theorem entry_v41 : entry W main_v41 = colsOf (NmsRef.sorted (W main_arg0)) := by
  simp only [entry, hostOps0_2, hostOps0_1, hostOps0]
  after_results_simp_entrywise
  rfl

/-- The candidates that the kernel's result marks. -/
def marked (z : FVec Ideal S1x5120 .f32) : IVec S5000 1 :=
  cmpf .ogt (shapeCast S5000 (extractStridedSlice S1x5000 ![0, 0] z slices_S1x5120_S1x5000_0_0) shapeCasts_S1x5000_S5000 : FVec Ideal S5000 .f32)
    (broadcastInDim S5000 ![] bcast_S_S5000 (constant S_ .f32 0x3F000000#32))

/-- The reference's steps once more, over this program's constants. -/
def placesK (o : IVec S5000 32) : IVec S5000x1 32 :=
  broadcastInDim S5000x1 ![0] bcast_S5000_S5000x1_0
    (select (cmpi .slt o (broadcastInDim S5000 ![] bcast_S_S5000 (constantI S_ 32 0#32)))
      (addi o (broadcastInDim S5000 ![] bcast_S_S5000 (constantI S_ 32 5000#32))) o)
def unsortedK (o : IVec S5000 32) (kp : IVec S5000 1) : IVec S5000 1 :=
  Host.scatter scatter_S5000_S5000x1_S5000_n_0_0_1 (fun _ b => b) (broadcastInDim S5000 ![] bcast_S_S5000 (constantI S_ 1 0#1)) (placesK o) kp
def bestK (s : FVec Ideal S5000 .f32) (kp : IVec S5000 1) : IVec S100 32 :=
  (Host.topK S100 0 (FloatOps.cmpfTotal .gt)
    (select kp s (broadcastInDim S5000 ![] bcast_S_S5000 (constant S_ .f32 0xCE6E6B28#32)) : FVec Ideal S5000 .f32) sliceFits_S5000_S100).2
def selectedK (d : FVec Ideal S5000x6 .f32) (b : IVec S100 32) : FVec Ideal S100x6 .f32 :=
  Host.gather gather_S5000x6_S100x1_S100x6_1_0_n_n_0_1_16 d
    (broadcastInDim S100x1 ![0] bcast_S100_S100x1_0
      (select (cmpi .slt b (broadcastInDim S100 ![] bcast_S_S100 (constantI S_ 32 0#32)))
        (addi b (broadcastInDim S100 ![] bcast_S_S100 (constantI S_ 32 5000#32))) b))

theorem placesK_eq (o : IVec S5000 32) : placesK o = NmsRef.places o := rfl
theorem unsortedK_eq (x : FVec Ideal S1x5000x6 .f32) (kp : IVec S5000 1) : unsortedK (NmsRef.order x) kp = NmsRef.unsorted x kp := by
  unfold unsortedK NmsRef.unsorted NmsRef.bring
  rw [placesK_eq]
  rfl
theorem bestK_eq (x : FVec Ideal S1x5000x6 .f32) (kp : IVec S5000 1) : bestK (NmsRef.scores x) kp = NmsRef.best x kp := by
  unfold bestK NmsRef.best
  rfl
theorem selectedK_eq (x : FVec Ideal S1x5000x6 .f32) (kp : IVec S5000 1) : selectedK (NmsRef.cands x) (NmsRef.best x kp) = NmsRef.selected x kp := by
  unfold selectedK NmsRef.selected
  generalize NmsRef.best x kp = b
  rfl

set_option maxHeartbeats 4000000 in
theorem mid_v54 : after hostOps1 W main_v54 = unsortedK (W main_v4) (marked (W main_v42)) := by
  simp only [hostOps1]
  after_results_simp_entrywise
  rfl
set_option maxHeartbeats 4000000 in
theorem mid_v2 : after hostOps1 W main_v2 = W main_v2 := by
  simp only [hostOps1]
  after_results_simp_entrywise
set_option maxHeartbeats 4000000 in
theorem mid_v0 : after hostOps1 W main_v0 = W main_v0 := by
  simp only [hostOps1]
  after_results_simp_entrywise
set_option maxHeartbeats 4000000 in
theorem mid_17 : after hostOps1 W main_cst_17 = (constant S_ .f32 0xCE6E6B28#32 : FVec Ideal S_ .f32) := by
  simp only [hostOps1]
  after_results_simp_entrywise

set_option maxHeartbeats 4000000 in
theorem end_v62 (h17 : W main_cst_17 = (constant S_ .f32 0xCE6E6B28#32 : FVec Ideal S_ .f32)) :
    after hostOps1_2 (after hostOps1_1 W) main_v62 = selectedK (W main_v0) (bestK (W main_v2) (W main_v54)) := by
  simp only [hostOps1_1, hostOps1_2]
  after_results_simp_entrywise
  rw [h17]
  rfl

theorem tail_v62 (x : FVec Ideal S1x5000x6 .f32) (z : FVec Ideal S1x5120 .f32) (h0 : W main_v0 = NmsRef.cands x) (h2 : W main_v2 = NmsRef.scores x)
    (h4 : W main_v4 = NmsRef.order x) (h42 : W main_v42 = z) :
    after hostOps1_2 (after hostOps1_1 (after hostOps1 W)) main_v62 = NmsRef.selected x (NmsRef.unsorted x (marked z)) := by
  rw [end_v62 _ (mid_17 W), mid_v0, mid_v2, mid_v54, h0, h2, h4, h42, unsortedK_eq, bestK_eq, selectedK_eq]
end Lines

end Cert.Nms
-- ==== Proof.NmsClasses.lean ====
module

public import proofs.«01_k».proof.Proof.NmsOrder
public import Idealize.ShloMosaic.Lib.IdealHost

/-! One pass over all candidates within classes keeps what one pass for each class keeps. -/

@[expose] public section

set_option maxRecDepth 16384

noncomputable section

namespace Cert.NmsRef

open Idealize.ShloMosaic Idealize.ShloMosaic.TcCoe Idealize.SL.Sem
open Cert.Reference2Ideal Cert.Reference2Ideal.Gen
open Cert.Keep (keep keep_class)

theorem far_neg : (Ideal.ofBits FTy.f32 0xCE6E6B28#32 : EReal) ≤ 0 := by
  have e : (Ideal.ofBits FTy.f32 0xCE6E6B28#32 : EReal) = ((-1000000000 : ℝ) : EReal) := by
    simp [Ideal.ofBits, Ideal.ieee, -EReal.coe_mul, -EReal.coe_neg]; norm_num
  rw [e]
  exact EReal.coe_nonpos.mpr (by norm_num)
theorem threshold_pos : (0 : EReal) < Ideal.ofBits FTy.f32 0x3D4CCCCD#32 := by
  have e : (Ideal.ofBits FTy.f32 0x3D4CCCCD#32 : EReal) = ((13421773 / 268435456 : ℝ) : EReal) := by
    simp [Ideal.ofBits, Ideal.ieee, -EReal.coe_mul]; norm_num
  rw [e]
  exact EReal.coe_pos.mpr (by norm_num)

variable (x : FVec Ideal S1x5000x6 .f32)

theorem scores_val (q : Fin 5000) : scores x (ix1 q) = cands x (ix2 q 4) := by
  unfold scores
  pointwise
theorem classes_val (q : Fin 5000) : classes x (ix1 q) = cands x (ix2 q 5) := by
  unfold classes
  pointwise
theorem ofClass_val (w : BitVec 32) (q : Fin 5000) :
    ofClass x w (ix1 q) = BitVec.ofBool (decide ((classes x (ix1 q) : EReal) = Ideal.ofBits FTy.f32 w)) := rfl
theorem above_val (q : Fin 5000) :
    above x (ix1 q) = BitVec.ofBool (decide (Ideal.ofBits FTy.f32 0x3D4CCCCD#32 < (scores x (ix1 q) : EReal))) := rfl
theorem classScores_val (w : BitVec 32) (q : Fin 5000) :
    classScores x w (ix1 q) = Scalar.select (ofClass x w (ix1 q)) (scores x (ix1 q)) (Ideal.ofBits FTy.f32 0xCE6E6B28#32) := rfl

theorem key_of_class (w : BitVec 32) (q : Fin 5000) (h : (classes x (ix1 q) : EReal) = Ideal.ofBits FTy.f32 w) :
    keyOf (classScores x w) q = keyOf (scores x) q := by
  rw [keyOf_eq, keyOf_eq, classScores_val, WordCmp.select_of_eq_one (by rw [ofClass_val, decide_eq_true h]; rfl)]
theorem key_of_other (w : BitVec 32) (q : Fin 5000) (h : ¬ (classes x (ix1 q) : EReal) = Ideal.ofBits FTy.f32 w) :
    keyOf (classScores x w) q = -(Ideal.ofBits FTy.f32 0xCE6E6B28#32 : EReal) := by
  rw [keyOf_eq, classScores_val, WordCmp.select_of_eq_zero (by rw [ofClass_val, decide_eq_false h]; rfl)]

/-- Whether candidate `p`'s box overlaps candidate `q`'s too much. -/
def over (p q : Fin 5000) : Prop := Ideal.ofBits FTy.f32 0x3F333333#32
  < Nms.iou (cands x (ix2 p 0)) (cands x (ix2 p 1)) (cands x (ix2 p 2)) (cands x (ix2 p 3))
      (cands x (ix2 q 0)) (cands x (ix2 q 1)) (cands x (ix2 q 2)) (cands x (ix2 q 3))

theorem SR_iff (i j : Fin 5000) : SR (sorted x) i.val j.val
    ↔ (over x (orderOf (scores x) i) (orderOf (scores x) j)
      ∧ (cands x (ix2 (orderOf (scores x) i) 5) : EReal) = cands x (ix2 (orderOf (scores x) j) 5)) := by
  unfold SR Nms.hit over
  simp only [Fin.eta, sorted_val]
  exact ⟨fun ⟨_, h⟩ => h, fun h => ⟨⟨i.isLt, j.isLt⟩, h⟩⟩
theorem TR_iff (w : BitVec 32) (i j : Fin 5000) : TR (classBoxes x w) i.val j.val
    ↔ over x (orderOf (classScores x w) i) (orderOf (classScores x w) j) := by
  unfold TR over classBoxes classOrder
  simp only [Fin.eta, boxesBy_val]
  exact ⟨fun ⟨_, h⟩ => h, fun h => ⟨⟨i.isLt, j.isLt⟩, h⟩⟩

/-- A candidate of a class whose score is above the threshold survives the pass over all candidates within classes
exactly when it survives its class's pass. -/
theorem keep_pass (w : BitVec 32) (a b : Fin 5000) (hab : orderOf (scores x) a = orderOf (classScores x w) b)
    (hc : (classes x (ix1 (orderOf (scores x) a)) : EReal) = Ideal.ofBits FTy.f32 w)
    (hm : Ideal.ofBits FTy.f32 0x3D4CCCCD#32 < (scores x (ix1 (orderOf (scores x) a)) : EReal)) :
    keep (SR (sorted x)) a.val ↔ keep (TR (classBoxes x w)) b.val :=
  keep_class (ordered (scores x)) (ordered (classScores x w)) (fun q => (classes x (ix1 q) : EReal) = Ideal.ofBits FTy.f32 w)
    (-(Ideal.ofBits FTy.f32 0xCE6E6B28#32 : EReal)) (key_of_class x w) (key_of_other x w) (over x)
    (fun p q => (cands x (ix2 p 5) : EReal) = cands x (ix2 q 5))
    (fun p q hq => by
      rw [← classes_val, ← classes_val]
      constructor
      · intro h; exact h.trans hq
      · intro h; exact h.trans hq.symm)
    _ _ (SR_iff x) (TR_iff x w) a.val a b rfl hab hc
    (by rw [keyOf_eq]; exact EReal.neg_lt_neg_iff.2 (lt_of_le_of_lt (far_neg.trans (le_of_lt threshold_pos)) hm))

theorem keptOf_val (w : BitVec 32) (b : Fin 5000) :
    keptOf x w (endsOf x w) (ix1 (orderOf (classScores x w) b))
      = BitVec.ofBool (decide (keep (TR (classBoxes x w)) b.val)
          && decide ((classes x (ix1 (orderOf (classScores x w) b)) : EReal) = Ideal.ofBits FTy.f32 w)
          && decide (Ideal.ofBits FTy.f32 0x3D4CCCCD#32 < (scores x (ix1 (orderOf (classScores x w) b)) : EReal))) := by
  have e : noti (endsOf x w) (ix1 b) = BitVec.ofBool (decide (keep (TR (classBoxes x w)) b.val)) := by
    show (~~~ (BitVec.ofBool (decide (¬ keep (TR (classBoxes x w)) b.val))) : BitVec 1) = _
    rw [not_ofBool, decide_not, Bool.not_not]
  show IntOp.andi (IntOp.andi (bring (byScore (classScores x w)) (noti (endsOf x w)) (ix1 (orderOf (classScores x w) b)))
    (ofClass x w (ix1 (orderOf (classScores x w) b)))) (above x (ix1 (orderOf (classScores x w) b))) = _
  rw [bring_val, e, ofClass_val, above_val, Nms.andi_ofBool, Nms.andi_ofBool]

theorem kept_val (mk mk' : IVec S5000 1) (y : S5000.Idx) : kept x mk mk' y
    = IntOp.ori (IntOp.ori (BitVec.ofBool false) (keptOf x 0x00000000#32 mk y)) (keptOf x 0x3F800000#32 mk' y) := rfl

/-- Where every candidate has one of the two classes, the pass over all candidates within classes keeps, above the
threshold, what the two passes keep. -/
theorem kept_eq (hp : ∀ q : Fin 5000, (classes x (ix1 q) : EReal) = Ideal.ofBits FTy.f32 0x00000000#32 ∨ (classes x (ix1 q) : EReal) = Ideal.ofBits FTy.f32 0x3F800000#32)
    (mk : IVec S5000 1)
    (hmk : ∀ j : Fin 5000, mk (ix1 j) = BitVec.ofBool (decide (keep (SR (sorted x)) j.val)
      && decide (Ideal.ofBits FTy.f32 0x3D4CCCCD#32 < (sorted x (ix2 j 4) : EReal)))) :
    unsorted x mk = kept x (endsOf x 0x00000000#32) (endsOf x 0x3F800000#32) := by
  funext y
  obtain ⟨p, rfl⟩ : ∃ p : Fin 5000, y = ix1 p := ⟨y 0, eq_ix1 y⟩
  obtain ⟨a, rfl⟩ := (ordered (scores x)).surj p
  obtain ⟨b, hb⟩ := (ordered (classScores x 0x00000000#32)).surj (orderOf (scores x) a)
  obtain ⟨b', hb'⟩ := (ordered (classScores x 0x3F800000#32)).surj (orderOf (scores x) a)
  have l : unsorted x mk (ix1 (orderOf (scores x) a)) = mk (ix1 a) := bring_val (scores x) mk a
  have r : kept x (endsOf x 0x00000000#32) (endsOf x 0x3F800000#32) (ix1 (orderOf (scores x) a))
      = IntOp.ori (IntOp.ori (BitVec.ofBool false) (keptOf x 0x00000000#32 (endsOf x 0x00000000#32) (ix1 (orderOf (scores x) a))))
        (keptOf x 0x3F800000#32 (endsOf x 0x3F800000#32) (ix1 (orderOf (scores x) a))) :=
    kept_val x _ _ _
  have k0 := keptOf_val x 0x00000000#32 b
  have k1 := keptOf_val x 0x3F800000#32 b'
  rw [hb] at k0
  rw [hb'] at k1
  have m := hmk a
  rw [sorted_val, ← scores_val] at m
  rw [k0, k1, ori_ofBool, ori_ofBool] at r
  refine (l.trans m).trans (Eq.trans (congrArg BitVec.ofBool ?_) r.symm)
  have q0 := keep_pass x 0x00000000#32 a b hb.symm
  have q1 := keep_pass x 0x3F800000#32 a b' hb'.symm
  have hc := hp (orderOf (scores x) a)
  rw [Bool.eq_iff_iff]
  simp only [Bool.and_eq_true, Bool.or_eq_true, Bool.false_eq_true, false_or, decide_eq_true_eq]
  constructor
  · rintro ⟨h, hm⟩
    rcases hc with hc | hc
    · exact Or.inl ⟨⟨(q0 hc hm).1 h, hc⟩, hm⟩
    · exact Or.inr ⟨⟨(q1 hc hm).1 h, hc⟩, hm⟩
  · rintro (⟨⟨h, hc⟩, hm⟩ | ⟨⟨h, hc⟩, hm⟩)
    · exact ⟨(q0 hc hm).2 h, hm⟩
    · exact ⟨(q1 hc hm).2 h, hm⟩

end Cert.NmsRef
-- ==== Proof.NmsRead.lean ====
module

public import proofs.«01_k».proof.Proof.NmsPay

/-! Where the suppression kernel's loads and stores fall. -/

@[expose] public section

set_option maxRecDepth 16384

noncomputable section

namespace Cert.Nms

open Idealize.ShloMosaic Idealize.ShloMosaic.TcCoe Idealize.SL.Sem
open Cert.Kernel2Ideal Cert.Kernel2Ideal.Gen

theorem iv_zero (k : ℕ) : Scf.iv 0#32 1#32 k = BitVec.ofNat 32 k := by
  unfold Scf.iv; simp
theorem iv_add (a k : ℕ) : Scf.iv (BitVec.ofNat 32 a) 1#32 k = BitVec.ofNat 32 (a + k) := by
  unfold Scf.iv; simp [BitVec.ofNat_add]
theorem times256 (a : ℕ) : Scalar.muli (BitVec.ofNat 32 a) 256#32 = BitVec.ofNat 32 (256 * a) := by
  show BitVec.ofNat 32 a * BitVec.ofNat 32 256 = _
  rw [← BitVec.ofNat_mul, Nat.mul_comm]

theorem trips1 : k0_t1_loop.trips = 20 := by decide
theorem trips2 (k : Fin k0_t1_loop.trips) : (k0_t2_loop k).trips = 20 - k.val := by
  have : ∀ k : Fin k0_t1_loop.trips, (k0_t2_loop k).trips = 20 - k.val := by decide
  exact this k

theorem lt1 (k : Fin k0_t1_loop.trips) : k.val < 20 := k.2.trans_eq trips1
theorem lt2 (k : Fin k0_t1_loop.trips) (k2 : Fin (k0_t2_loop k).trips) : k.val + k2.val < 20 := by
  have := k2.2.trans_eq (trips2 k); have := lt1 k; omega

theorem base1 (k : Fin k0_t1_loop.trips) :
    (Scalar.indexCast (Scalar.muli (Scf.iv 0#32 1#32 k) 256#32) : Index).toNat = 256 * k.val := by
  rw [iv_zero, times256]
  have := lt1 k
  show (BitVec.ofNat 32 (256 * k.val)).toNat = _
  rw [BitVec.toNat_ofNat, Nat.mod_eq_of_lt (by omega)]
theorem base2 (k : Fin k0_t1_loop.trips) (k2 : Fin (k0_t2_loop k).trips) :
    (Scalar.indexCast (Scalar.muli (Scf.iv (Scf.iv 0#32 1#32 k) 1#32 k2) 256#32) : Index).toNat = 256 * (k.val + k2.val) := by
  rw [iv_zero, iv_add, times256]
  have := lt2 k k2
  show (BitVec.ofNat 32 (256 * (k.val + k2.val))).toNat = _
  rw [BitVec.toNat_ofNat, Nat.mod_eq_of_lt (by omega)]

theorem col_val (f1 : ColsT Ideal) (off : Fin 2 → ℕ) (inb) (b r : ℕ) (e : off = ![b, r]) (hr : r < 8) (hb : b + 256 ≤ 5120) (i : Fin 256) :
    rd1 off inb f1 (ix2 i 0) = f1 (ix2 ⟨b + i, by omega⟩ ⟨r, hr⟩) := by
  subst e
  unfold rd1
  rw [View.readAt_apply]
  show f1 _ = f1 _
  congr 1
  funext a; apply Fin.ext
  match a with
  | ⟨0, _⟩ => show b + 1 * i.val = b + i.val; omega
  | ⟨1, _⟩ => show r + 1 * 0 = r; omega
theorem row_val (f0 : RowsT Ideal) (off : Fin 2 → ℕ) (inb) (b r : ℕ) (e : off = ![r, b]) (hr : r < 8) (hb : b + 256 ≤ 5120) (i : Fin 256) :
    rd0 off inb f0 (ix2 0 i) = f0 (ix2 ⟨r, hr⟩ ⟨b + i, by omega⟩) := by
  subst e
  unfold rd0
  rw [View.readAt_apply]
  show f0 _ = f0 _
  congr 1
  funext a; apply Fin.ext
  match a with
  | ⟨0, _⟩ => show r + 1 * 0 = r; omega
  | ⟨1, _⟩ => show b + 1 * i.val = b + i.val; omega
theorem supp_val (s : SuppT Ideal) (off : Fin 2 → ℕ) (inb) (b : ℕ) (e : off = ![0, b]) (hb : b + 256 ≤ 5120) (i : Fin 256) :
    rd3 off inb s (ix2 0 i) = s (ix2 0 ⟨b + i, by omega⟩) := by
  subst e
  unfold rd3
  rw [View.readAt_apply]
  show s _ = s _
  congr 1
  funext a; apply Fin.ext
  match a with
  | ⟨0, _⟩ => rfl
  | ⟨1, _⟩ => show b + 1 * i.val = b + i.val; omega
theorem store_val (s : SuppT Ideal) (w : Vec Ideal S1x256 .f32) (off : Fin 2 → ℕ) (inb) (b : ℕ) (e : off = ![0, b]) (hb : b + 256 ≤ 5120) (x : Fin 5120) :
    wr3 off inb s w (ix2 0 x) = if h : b ≤ x.val ∧ x.val < b + 256 then w (ix2 0 ⟨x.val - b, by omega⟩) else s (ix2 0 x) := by
  subst e
  have := View.write_whole_slice_unit (Val := Elt Ideal) cc0_scratch0 ![0, b] S1x256.size inb s w
  refine (congrFun this (ix2 0 x)).trans ?_
  unfold updateSlice
  by_cases h : b ≤ x.val ∧ x.val < b + 256
  · rw [dif_pos h, dif_pos]
    · congr 1
      funext a; apply Fin.ext
      match a with
      | ⟨0, _⟩ => rfl
      | ⟨1, _⟩ => rfl
    · intro a
      match a with
      | ⟨0, _⟩ => exact ⟨le_refl 0, Nat.zero_lt_one⟩
      | ⟨1, _⟩ => exact h
  · rw [dif_neg h, dif_neg]
    intro hall
    exact h (hall (1 : Fin 2))

end Cert.Nms
-- ==== Proof.NmsValue.lean ====
module

public import proofs.«01_k».proof.Proof.NmsRead

/-! What the suppression kernel leaves in its result: a candidate's place holds one exactly when it survives the greedy
suppression and scores above the threshold. -/

@[expose] public section

set_option maxRecDepth 16384

noncomputable section

namespace Cert.Nms

open Idealize.ShloMosaic Idealize.ShloMosaic.TcCoe Idealize.SL.Sem
open Cert.Kernel2Ideal Cert.Kernel2Ideal.Gen
open Cert.Keep
open scoped Classical

variable (f0 : RowsT Ideal) (f1 : ColsT Ideal)

/-- Candidate `i`, from the column-wise operand, conflicts with candidate `j`, from the row-wise one. -/
def S (i j : ℕ) : Prop := ∃ h : i < 5120 ∧ j < 5120,
  hit (f1 (ix2 ⟨i, h.1⟩ ⟨0, by decide⟩)) (f1 (ix2 ⟨i, h.1⟩ ⟨1, by decide⟩)) (f1 (ix2 ⟨i, h.1⟩ ⟨2, by decide⟩))
    (f1 (ix2 ⟨i, h.1⟩ ⟨3, by decide⟩)) (f1 (ix2 ⟨i, h.1⟩ ⟨4, by decide⟩))
    (f0 (ix2 ⟨0, by decide⟩ ⟨j, h.2⟩)) (f0 (ix2 ⟨1, by decide⟩ ⟨j, h.2⟩)) (f0 (ix2 ⟨2, by decide⟩ ⟨j, h.2⟩))
    (f0 (ix2 ⟨3, by decide⟩ ⟨j, h.2⟩)) (f0 (ix2 ⟨4, by decide⟩ ⟨j, h.2⟩))

/-- The scratch holds the truth values of `P`. -/
def Holds (s : SuppT Ideal) (P : ℕ → Prop) : Prop := ∀ x : Fin 5120, s (ix2 0 x) = ind (P x.val)

theorem two_of_eq {a b c d : ℕ} (h : a = c) (h' : b = d) : (![a, b] : Fin 2 → ℕ) = ![c, d] := by rw [h, h']

section Trip
variable (k : Fin k0_t1_loop.trips)

theorem hit_self (i j : Fin 256) :
    hitAt (rd1 (k0_off1 k) (k0_off1_inb k) f1) (rd1 (k0_off2 k) (k0_off2_inb k) f1) (rd1 (k0_off3 k) (k0_off3_inb k) f1)
      (rd1 (k0_off4 k) (k0_off4_inb k) f1) (rd1 (k0_off5 k) (k0_off5_inb k) f1)
      (rd0 (k0_off6 k) (k0_off6_inb k) f0) (rd0 (k0_off7 k) (k0_off7_inb k) f0) (rd0 (k0_off8 k) (k0_off8_inb k) f0)
      (rd0 (k0_off9 k) (k0_off9_inb k) f0) (rd0 (k0_off10 k) (k0_off10_inb k) f0) i j
      ↔ S f0 f1 (256 * k.val + i.val) (256 * k.val + j.val) := by
  have hk := lt1 k
  unfold hitAt
  rw [col_val f1 (k0_off1 k) _ (256 * k.val) 0 (two_of_eq (base1 k) rfl) (by decide) (by omega),
    col_val f1 (k0_off2 k) _ (256 * k.val) 1 (two_of_eq (base1 k) rfl) (by decide) (by omega),
    col_val f1 (k0_off3 k) _ (256 * k.val) 2 (two_of_eq (base1 k) rfl) (by decide) (by omega),
    col_val f1 (k0_off4 k) _ (256 * k.val) 3 (two_of_eq (base1 k) rfl) (by decide) (by omega),
    col_val f1 (k0_off5 k) _ (256 * k.val) 4 (two_of_eq (base1 k) rfl) (by decide) (by omega),
    row_val f0 (k0_off6 k) _ (256 * k.val) 0 (two_of_eq rfl (base1 k)) (by decide) (by omega),
    row_val f0 (k0_off7 k) _ (256 * k.val) 1 (two_of_eq rfl (base1 k)) (by decide) (by omega),
    row_val f0 (k0_off8 k) _ (256 * k.val) 2 (two_of_eq rfl (base1 k)) (by decide) (by omega),
    row_val f0 (k0_off9 k) _ (256 * k.val) 3 (two_of_eq rfl (base1 k)) (by decide) (by omega),
    row_val f0 (k0_off10 k) _ (256 * k.val) 4 (two_of_eq rfl (base1 k)) (by decide) (by omega)]
  exact ⟨fun h => ⟨⟨by omega, by omega⟩, h⟩, fun ⟨_, h⟩ => h⟩

theorem hit_cross (k2 : Fin (k0_t2_loop k).trips) (i j : Fin 256) :
    hitAt (rd1 (k0_off1 k) (k0_off1_inb k) f1) (rd1 (k0_off2 k) (k0_off2_inb k) f1) (rd1 (k0_off3 k) (k0_off3_inb k) f1)
      (rd1 (k0_off4 k) (k0_off4_inb k) f1) (rd1 (k0_off5 k) (k0_off5_inb k) f1)
      (rd0 (k0_off12 k k2) (k0_off12_inb k k2) f0) (rd0 (k0_off13 k k2) (k0_off13_inb k k2) f0) (rd0 (k0_off14 k k2) (k0_off14_inb k k2) f0)
      (rd0 (k0_off15 k k2) (k0_off15_inb k k2) f0) (rd0 (k0_off16 k k2) (k0_off16_inb k k2) f0) i j
      ↔ S f0 f1 (256 * k.val + i.val) (256 * (k.val + k2.val) + j.val) := by
  have hk := lt1 k
  have hk2 := lt2 k k2
  unfold hitAt
  rw [col_val f1 (k0_off1 k) _ (256 * k.val) 0 (two_of_eq (base1 k) rfl) (by decide) (by omega),
    col_val f1 (k0_off2 k) _ (256 * k.val) 1 (two_of_eq (base1 k) rfl) (by decide) (by omega),
    col_val f1 (k0_off3 k) _ (256 * k.val) 2 (two_of_eq (base1 k) rfl) (by decide) (by omega),
    col_val f1 (k0_off4 k) _ (256 * k.val) 3 (two_of_eq (base1 k) rfl) (by decide) (by omega),
    col_val f1 (k0_off5 k) _ (256 * k.val) 4 (two_of_eq (base1 k) rfl) (by decide) (by omega),
    row_val f0 (k0_off12 k k2) _ (256 * (k.val + k2.val)) 0 (two_of_eq rfl (base2 k k2)) (by decide) (by omega),
    row_val f0 (k0_off13 k k2) _ (256 * (k.val + k2.val)) 1 (two_of_eq rfl (base2 k k2)) (by decide) (by omega),
    row_val f0 (k0_off14 k k2) _ (256 * (k.val + k2.val)) 2 (two_of_eq rfl (base2 k k2)) (by decide) (by omega),
    row_val f0 (k0_off15 k k2) _ (256 * (k.val + k2.val)) 3 (two_of_eq rfl (base2 k k2)) (by decide) (by omega),
    row_val f0 (k0_off16 k k2) _ (256 * (k.val + k2.val)) 4 (two_of_eq rfl (base2 k k2)) (by decide) (by omega)]
  exact ⟨fun h => ⟨⟨by omega, by omega⟩, h⟩, fun ⟨_, h⟩ => h⟩

theorem kept_val (s : SuppT Ideal) (hs : Holds s (supp (S f0 f1) (256 * k.val))) (j : Fin 256) :
    kept k f0 f1 s (ix2 0 j) = ind (keep (S f0 f1) (256 * k.val + j.val)) := by
  have hk := lt1 k
  have hr : ∀ j : Fin 256, rd3 (k0_off11 k) (k0_off11_inb k) s (ix2 0 j) = ind (supp (S f0 f1) (256 * k.val) (256 * k.val + j.val)) := fun j => by
    rw [supp_val s (k0_off11 k) _ (256 * k.val) (two_of_eq rfl (base1 k)) (by omega)]
    exact hs _
  have hv : ∀ j : Fin 256, validK k s (ix2 0 j) = ind (¬ supp (S f0 f1) (256 * k.val) (256 * k.val + j.val)) :=
    fun j => valid_val _ j _ (hr j)
  refine whileN_val (selfC k f0 f1) (validK k s) (fun i j => S f0 f1 (256 * k.val + i.val) (256 * k.val + j.val) ∧ i < j) _
    (fun j => keep (S f0 f1) (256 * k.val + j.val)) (fun i j => ?_) hv (fun i j h => h.2)
    (keep_next (S f0 f1) (256 * k.val) 256) 258 0 _ _ _ (by decide) hv (fun j h => absurd h (Nat.not_lt_zero _)) (fun he => ?_) j
  · exact (self_val _ _ _ _ _ _ _ _ _ _ i j).trans (ind_congr (and_congr (hit_self f0 f1 k i j) Iff.rfl))
  · exfalso
    have := he ⟨0, by decide⟩
    rw [hv, prev_val _ _ _ (hr _)] at this
    exact ind_sub_one_ne _ this.symm

/-- What is suppressed while block `k` is passed over the later ones: places from the block's first up to `b` are done. -/
def lev (b x : ℕ) : Prop :=
  if 256 * k.val ≤ x ∧ x < b then supp (S f0 f1) (256 * (k.val + 1)) x else supp (S f0 f1) (256 * k.val) x

theorem self_holds (s : SuppT Ideal) (hs : Holds s (supp (S f0 f1) (256 * k.val))) :
    Holds (selfStep k f0 f1 s) (lev f0 f1 k (256 * (k.val + 1))) := by
  have hk := lt1 k
  intro x
  unfold selfStep
  rw [store_val s _ (k0_off11 k) _ (256 * k.val) (two_of_eq rfl (base1 k)) (by omega)]
  unfold lev
  by_cases h : 256 * k.val ≤ x.val ∧ x.val < 256 * k.val + 256
  · rw [dif_pos h, if_pos ⟨h.1, by omega⟩, drop_val _ _ _ (kept_val f0 f1 k s hs _)]
    refine ind_congr ?_
    rw [supp_iff_not_keep _ (by omega)]
    show ¬ keep _ (256 * k.val + (x.val - 256 * k.val)) ↔ _
    rw [show 256 * k.val + (x.val - 256 * k.val) = x.val by omega]
  · rw [dif_neg h, if_neg (fun q => h ⟨q.1, by omega⟩)]
    exact hs x

theorem cross_holds (K : FVec Ideal S1x256 .f32) (hK : ∀ j : Fin 256, K (ix2 0 j) = ind (keep (S f0 f1) (256 * k.val + j.val)))
    (k2 : Fin (k0_t2_loop k).trips) (s : SuppT Ideal) (hs : Holds s (lev f0 f1 k (max (256 * (k.val + 1)) (256 * (k.val + k2.val))))) :
    Holds (crossStep k f0 f1 K k2 s) (lev f0 f1 k (max (256 * (k.val + 1)) (256 * (k.val + (k2.val + 1))))) := by
  have hk := lt1 k
  have hk2 := lt2 k k2
  intro x
  unfold crossStep
  rw [store_val s _ (k0_off17 k k2) _ (256 * (k.val + k2.val)) (two_of_eq rfl (base2 k k2)) (by omega)]
  by_cases h : 256 * (k.val + k2.val) ≤ x.val ∧ x.val < 256 * (k.val + k2.val) + 256
  · have hx : 256 * (k.val + k2.val) + (x.val - 256 * (k.val + k2.val)) = x.val := by omega
    rw [dif_pos h]
    rw [cross_val _ _ _ _ _ _ _ _ _ _ K _ _ _ _ (fun j => keep (S f0 f1) (256 * k.val + j.val))
      (fun j => lev f0 f1 k (max (256 * (k.val + 1)) (256 * (k.val + k2.val))) (256 * (k.val + k2.val) + j.val))
      (256 * k.val) (256 * (k.val + k2.val)) (by omega) (by omega) hK]
    · refine ind_congr ?_
      simp only [hit_cross f0 f1 k k2, hx]
      have e := supp_add (S f0 f1) (256 * k.val) 256 x.val
      have e' : (∃ i : Fin 256, keep (S f0 f1) (256 * k.val + i.val) ∧ S f0 f1 (256 * k.val + i.val) x.val ∧ 256 * k.val + i.val < x.val)
          ↔ ∃ i, i < 256 ∧ 256 * k.val + i < x.val ∧ keep (S f0 f1) (256 * k.val + i) ∧ S f0 f1 (256 * k.val + i) x.val :=
        ⟨fun ⟨i, a, b, c⟩ => ⟨i.val, i.2, c, a, b⟩, fun ⟨i, hi, c, a, b⟩ => ⟨⟨i, hi⟩, a, b, c⟩⟩
      rw [e']
      rw [show 256 * k.val + 256 = 256 * (k.val + 1) by omega] at e
      unfold lev
      rw [if_pos (c := 256 * k.val ≤ x.val ∧ x.val < max (256 * (k.val + 1)) (256 * (k.val + (k2.val + 1)))) (by omega)]
      split
      · rw [e]; tauto
      · exact e.symm
    · rw [supp_val s (k0_off17 k k2) _ (256 * (k.val + k2.val)) (two_of_eq rfl (base2 k k2)) (by omega)]
      exact hs _
    · intro i
      unfold k0_pay9
      pointwise
      rw [iv_zero, times256]
      show BitVec.ofNat 32 _ + BitVec.ofNat 32 _ = _
      rw [← BitVec.ofNat_add]
    · intro i
      unfold k0_pay10
      pointwise
      rw [iv_zero, iv_add, times256]
      show BitVec.ofNat 32 _ + BitVec.ofNat 32 _ = _
      rw [← BitVec.ofNat_add]
  · rw [dif_neg h, hs x]
    refine ind_congr ?_
    unfold lev
    by_cases g : 256 * k.val ≤ x.val ∧ x.val < max (256 * (k.val + 1)) (256 * (k.val + k2.val))
    · rw [if_pos g, if_pos (by omega)]
    · rw [if_neg g, if_neg (by omega)]

theorem crossN_holds (K : FVec Ideal S1x256 .f32) (hK : ∀ j : Fin 256, K (ix2 0 j) = ind (keep (S f0 f1) (256 * k.val + j.val)))
    (s : SuppT Ideal) (hs : Holds s (lev f0 f1 k (256 * (k.val + 1)))) (n : ℕ) (hn : n ≤ (k0_t2_loop k).trips) :
    Holds (crossN k f0 f1 K s n) (lev f0 f1 k (max (256 * (k.val + 1)) (256 * (k.val + n)))) := by
  induction n with
  | zero => rw [crossN, max_eq_left (by omega)]; exact hs
  | succ n ih =>
    rw [crossN, dif_pos (by omega)]
    exact cross_holds f0 f1 k K hK ⟨n, by omega⟩ _ (ih (by omega))

theorem outer_holds (s : SuppT Ideal) (hs : Holds s (supp (S f0 f1) (256 * k.val))) :
    Holds (outerStep k f0 f1 s) (supp (S f0 f1) (256 * (k.val + 1))) := by
  have hk := lt1 k
  have h := crossN_holds f0 f1 k _ (kept_val f0 f1 k s hs) _ (self_holds f0 f1 k s hs) (k0_t2_loop k).trips le_rfl
  intro x
  refine (h x).trans (ind_congr ?_)
  rw [trips2]
  unfold lev
  split
  · rfl
  · next g => rw [supp_iff_not_keep _ (by omega), supp_iff_not_keep _ (by omega)]

end Trip

theorem suppN_holds (n : ℕ) (hn : n ≤ k0_t1_loop.trips) : Holds (suppN f0 f1 n) (supp (S f0 f1) (256 * n)) := by
  induction n with
  | zero =>
    intro x
    rw [suppN, ind_false (supp_zero _ _)]
    unfold k0_pay1
    pointwise
  | succ n ih =>
    rw [suppN, dif_pos (by omega)]
    exact outer_holds f0 f1 ⟨n, by omega⟩ _ (ih (by omega))

/-- The kernel's result. -/
theorem nmsOut_val (x : Fin 5120) :
    nmsOut f0 f1 (ix2 0 x) = ind (keep (S f0 f1) x.val ∧ Ideal.ofBits FTy.f32 0x3D4CCCCD#32 < (f0 (ix2 ⟨5, by decide⟩ x) : EReal)) := by
  have h := suppN_holds f0 f1 k0_t1_loop.trips le_rfl x
  have hx := x.2
  unfold nmsOut
  rw [out_val _ _ x _ h]
  refine ind_congr (and_congr ?_ ?_)
  · rw [supp_iff_not_keep _ (by rw [trips1]; omega), not_not]
  · refine iff_of_eq (congrArg _ ?_)
    rw [View.readAt_apply]
    show f0 _ = f0 _
    congr 1
    funext a; apply Fin.ext
    match a with
    | ⟨0, _⟩ => rfl
    | ⟨1, _⟩ => show 0 + 1 * x.val = x.val; omega

end Cert.Nms
-- ==== Proof.NmsEqual.lean ====
module

public import proofs.«01_k».proof.Proof.NmsEntry
public import proofs.«01_k».proof.Proof.NmsClasses
public import proofs.«01_k».proof.Proof.NmsValue
public import proofs.«01_k».proof.Proof.Gen.Pre_two_classes
public import Idealize.ShloMosaic.Lib.Pipeline.ValueKit
public import Idealize.ShloMosaic.Lib.ReduceAll

/-! The suppression program's result is its reference's. -/

@[expose] public section

set_option maxRecDepth 16384

noncomputable section

namespace Cert.Nms

open Idealize.ShloMosaic Idealize.ShloMosaic.TcCoe Idealize.SL.Sem
open Idealize.ShloMosaic.StableHlo (after)
open Cert.Kernel2Ideal Cert.Kernel2Ideal.Gen
open Cert.Keep

/-! ## The marks -/

section Marks
variable (D : FVec Ideal S5000x6 .f32)

/-- On the sorted candidates the kernel's conflicts are the reference's. -/
theorem conflict_iff (i j : ℕ) (hi : i < 5000) (hj : j < 5000) : S (rowsOf D) (colsOf D) i j ↔ NmsRef.SR D i j := by
  have e : ∀ (k : ℕ) (hk : k < 5000) (r : Fin 8) (hr : r.val < 4), rowsOf D (ix2 r ⟨k, by omega⟩) = D (ix2 ⟨k, hk⟩ ⟨r.val, by omega⟩) :=
    fun k hk r hr => row_box D r hr ⟨k, by omega⟩ hk
  have e4 : ∀ (k : ℕ) (hk : k < 5000), rowsOf D (ix2 4 ⟨k, by omega⟩) = D (ix2 ⟨k, hk⟩ 5) := fun k hk => row_class D ⟨k, by omega⟩ hk
  have main : ∀ (h : i < 5120 ∧ j < 5120) (h' : i < 5000 ∧ j < 5000),
      hit (colsOf D (ix2 ⟨i, h.1⟩ ⟨0, by decide⟩)) (colsOf D (ix2 ⟨i, h.1⟩ ⟨1, by decide⟩)) (colsOf D (ix2 ⟨i, h.1⟩ ⟨2, by decide⟩))
        (colsOf D (ix2 ⟨i, h.1⟩ ⟨3, by decide⟩)) (colsOf D (ix2 ⟨i, h.1⟩ ⟨4, by decide⟩))
        (rowsOf D (ix2 ⟨0, by decide⟩ ⟨j, h.2⟩)) (rowsOf D (ix2 ⟨1, by decide⟩ ⟨j, h.2⟩)) (rowsOf D (ix2 ⟨2, by decide⟩ ⟨j, h.2⟩))
        (rowsOf D (ix2 ⟨3, by decide⟩ ⟨j, h.2⟩)) (rowsOf D (ix2 ⟨4, by decide⟩ ⟨j, h.2⟩))
      ↔ hit (D (ix2 ⟨i, h'.1⟩ 0)) (D (ix2 ⟨i, h'.1⟩ 1)) (D (ix2 ⟨i, h'.1⟩ 2)) (D (ix2 ⟨i, h'.1⟩ 3)) (D (ix2 ⟨i, h'.1⟩ 5))
        (D (ix2 ⟨j, h'.2⟩ 0)) (D (ix2 ⟨j, h'.2⟩ 1)) (D (ix2 ⟨j, h'.2⟩ 2)) (D (ix2 ⟨j, h'.2⟩ 3)) (D (ix2 ⟨j, h'.2⟩ 5)) := by
    intro h h'
    rw [colsOf_val, colsOf_val, colsOf_val, colsOf_val, colsOf_val,
      e i h'.1 ⟨0, by decide⟩ (by decide), e i h'.1 ⟨1, by decide⟩ (by decide), e i h'.1 ⟨2, by decide⟩ (by decide), e i h'.1 ⟨3, by decide⟩ (by decide),
      e j h'.2 ⟨0, by decide⟩ (by decide), e j h'.2 ⟨1, by decide⟩ (by decide), e j h'.2 ⟨2, by decide⟩ (by decide), e j h'.2 ⟨3, by decide⟩ (by decide)]
    have a := e4 i h'.1
    have b := e4 j h'.2
    rw [show (⟨4, by decide⟩ : Fin 8) = 4 from rfl, a, b]
    exact Iff.rfl
  constructor
  · rintro ⟨h, k⟩
    exact ⟨⟨hi, hj⟩, (main h ⟨hi, hj⟩).1 k⟩
  · rintro ⟨h, k⟩
    exact ⟨⟨by omega, by omega⟩, (main ⟨by omega, by omega⟩ h).2 k⟩

end Marks

section Result
variable (x : FVec Ideal S1x5000x6 .f32)

/-- What the kernel leaves in its result. -/
def kernelOut : FVec Ideal S1x5120 .f32 :=
  nmsOut (F := Ideal) (rowsOf (NmsRef.sorted x)) (colsOf (NmsRef.sorted x))

theorem half_is : (FloatOps.ofBits .f32 0x3F000000#32 : Ideal .f32) = Ideal.ofBits FTy.f32 0x3F000000#32 := rfl

theorem marked_val (z : FVec Ideal S1x5120 .f32) (j : Fin 5000) :
    marked z (ix1 j) = BitVec.ofBool (decide (Ideal.ofBits FTy.f32 0x3F000000#32 < (z (ix2 0 ⟨j.val, by omega⟩) : EReal))) := by
  unfold marked
  pointwise

/-- The kernel marks the sorted candidates that one pass within classes and the threshold leave. -/
theorem marks_val (j : Fin 5000) : marked (kernelOut x) (ix1 j)
    = BitVec.ofBool (decide (keep (NmsRef.SR (NmsRef.sorted x)) j.val)
      && decide (Ideal.ofBits FTy.f32 0x3D4CCCCD#32 < (NmsRef.sorted x (ix2 j 4) : EReal))) := by
  rw [marked_val, kernelOut, nmsOut_val]
  congr 1
  rw [Bool.eq_iff_iff]
  simp only [Bool.and_eq_true, decide_eq_true_eq]
  rw [half_lt_ind, keep_congr (n := 5000) (fun i j hij hj => conflict_iff _ i j (by omega) hj) j.val j.2]
  have e5 : rowsOf (NmsRef.sorted x) (ix2 ⟨5, by decide⟩ ⟨j.val, by omega⟩) = NmsRef.sorted x (ix2 j 4) := row_score _ ⟨j.val, by omega⟩ j.2
  rw [e5]

end Result

/-! ## The launch -/

section Launch
variable (m : (ℓ : Loc nD τ sig) → Buf (Elt Ideal) ℓ) (ρ : Dev nD → PrngReg) (c : Dev nD)

theorem V0_eq : V0 m c = entry (fun b => m (c, b)) := rfl
theorem V_eq (b : Ref sig .tc) : V m c b = entry (fun b => m (c, b)) b := rfl

theorem index_0 : ∀ t : Fin grid0.N, win0_0.index t 0 = 0 ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel

/-- The suppression kernel's operand of rows is handed over whole, and so is the one of columns. -/
theorem iblk_0 (t : Fin grid0.N) : iblk m c 0 t = rowsOf (NmsRef.sorted (m ((c : Thread nD τ).loc main_arg0))) := by
  rw [← entry_v40 (fun b => m (c, b))]
  have h := index_0 t
  funext y
  idx_vars y
  have e : (win0_0.blk t).view.emb (ix2 y0 y1) = ix2 y0 y1 := by blk_ext [h]
  exact congrArg (V m c main_v40) e
theorem iblk_1 (t : Fin grid0.N) : iblk m c 1 t = colsOf (NmsRef.sorted (m ((c : Thread nD τ).loc main_arg0))) := by
  have h := index_1 t
  have e : ∀ (y0 : Fin 5120) (y1 : Fin 8), (win0_1.blk t).view.emb (ix2 y0 y1) = ix2 y0 y1 := fun y0 y1 => by blk_ext [h]
  funext y
  idx_vars y
  refine (congrArg (V m c main_v41) (e y0 y1)).trans ?_
  exact congrFun (entry_v41 (fun b => m (c, b))) (ix2 y0 y1)

/-- The whole array of the result's window. -/
theorem out_arr : (dats m 0 c).arrAt 2 (cfg0 (F := Ideal)).N = kernelOut (m ((c : Thread nD τ).loc main_arg0)) := by
  refine (dats m 0 c).arrAt_eq_of_covers 2 _ (by decide +kernel) fun t hfl y => ?_
  have h := index_2 t
  rw [after_2, iblk_0, iblk_1]
  idx_vars y
  have e : (win0_2.blk t).view.emb (ix2 y0 y1) = ix2 y0 y1 := by blk_ext [h]
  refine Eq.trans ?_ (congrArg (kernelOut (m ((c : Thread nD τ).loc main_arg0))) e).symm
  rfl

theorem left_v42 : Pipeline.withArrays (cfgs (F := Ideal) 0).spec c (V0 m c) (fun w => (dats m 0 c).arrAt w (cfgs (F := Ideal) 0).N)
    (Proc.devRef .tc main_v42) = kernelOut (m ((c : Thread nD τ).loc main_arg0)) :=
  (Pipeline.withArrays_arr (cfgs (F := Ideal) 0).spec (launch0 (F := Ideal)).win.arr_inj c (V0 m c) _ 2).trans (out_arr m c)
theorem left_v0 : Pipeline.withArrays (cfgs (F := Ideal) 0).spec c (V0 m c) (fun w => (dats m 0 c).arrAt w (cfgs (F := Ideal) 0).N)
    (Proc.devRef .tc main_v0) = NmsRef.cands (m ((c : Thread nD τ).loc main_arg0)) :=
  (Pipeline.withArrays_of_ne _ c (V0 m c) _ main_v0 (by exact (by decide : ∀ w, Pipeline.arrRef spec0 w ≠ main_v0))).trans
    (entry_v0 (fun b => m (c, b)))
theorem left_v2 : Pipeline.withArrays (cfgs (F := Ideal) 0).spec c (V0 m c) (fun w => (dats m 0 c).arrAt w (cfgs (F := Ideal) 0).N)
    (Proc.devRef .tc main_v2) = NmsRef.scores (m ((c : Thread nD τ).loc main_arg0)) :=
  (Pipeline.withArrays_of_ne _ c (V0 m c) _ main_v2 (by exact (by decide : ∀ w, Pipeline.arrRef spec0 w ≠ main_v2))).trans
    (entry_v2 (fun b => m (c, b)))
theorem left_v4 : Pipeline.withArrays (cfgs (F := Ideal) 0).spec c (V0 m c) (fun w => (dats m 0 c).arrAt w (cfgs (F := Ideal) 0).N)
    (Proc.devRef .tc main_v4) = NmsRef.order (m ((c : Thread nD τ).loc main_arg0)) :=
  (Pipeline.withArrays_of_ne _ c (V0 m c) _ main_v4 (by exact (by decide : ∀ w, Pipeline.arrRef spec0 w ≠ main_v4))).trans
    (entry_v4 (fun b => m (c, b)))

theorem tail_split (W : Valuation τ sig (Elt Ideal)) :
    after (List.flatten (tail (F := Ideal))) W = after hostOps1_2 (after hostOps1_1 (after hostOps1 W)) := rfl

/-- The program's result, from what its kernel leaves. -/
theorem result_val : Pipeline.afterTail₀ (cfgs (F := Ideal)) (dats m) 0 (V0 m) tail c main_v62
    = NmsRef.selected (m ((c : Thread nD τ).loc main_arg0))
        (NmsRef.unsorted (m ((c : Thread nD τ).loc main_arg0)) (marked (kernelOut (m ((c : Thread nD τ).loc main_arg0))))) := by
  unfold Pipeline.afterTail₀
  rw [tail_split]
  exact tail_v62 _ _ _ (left_v0 m c) (left_v2 m c) (left_v4 m c) (left_v42 m c)

end Launch

/-! ## The precondition -/

section Classes
variable (x : FVec Ideal S1x5000x6 .f32)

theorem class_val (j : Fin 5000) : NmsRef.classes x (ix1 j)
    = shapeCast S5000 (extractStridedSlice Cert.Pre_two_classes.S1x5000x1 ![0, 0, 5] x Cert.Pre_two_classes.Facts.slices_S1x5000x6_S1x5000x1_0_0_5)
        Cert.Pre_two_classes.Facts.shapeCasts_S1x5000x1_S5000 (ix1 j) := by
  unfold NmsRef.classes NmsRef.cands
  pointwise

/-- Under the precondition every candidate has a class the reference goes over. -/
theorem known_of_pre (h : Cert.Pre_two_classes.fn (F := Ideal) x = fun _ => 1#1) (j : Fin 5000) :
    (NmsRef.classes x (ix1 j) : EReal) = Ideal.ofBits FTy.f32 0x00000000#32
      ∨ (NmsRef.classes x (ix1 j) : EReal) = Ideal.ofBits FTy.f32 0x3F800000#32 := by
  have : Subsingleton Cert.Pre_two_classes.S_.Idx := ⟨fun a b => funext fun i => i.elim0⟩
  have e := Host.reduce_andi_all _ _ _ _ _ (congrFun h (fun a => a.elim0)) (ix1 j)
  have e' : IntOp.ori (BitVec.ofBool (decide ((NmsRef.classes x (ix1 j) : EReal) = Ideal.ofBits FTy.f32 0x00000000#32)))
      (BitVec.ofBool (decide ((NmsRef.classes x (ix1 j) : EReal) = Ideal.ofBits FTy.f32 0x3F800000#32))) = 1#1 := by
    refine Eq.trans ?_ e
    rw [class_val]
    rfl
  rw [NmsRef.ori_ofBool] at e'
  by_contra hn
  rw [not_or] at hn
  rw [decide_eq_false hn.1, decide_eq_false hn.2] at e'
  exact absurd e' (by decide)

end Classes

/-! ## The two runs -/

section Runs
open Cert.NmsRef (argOf)
variable (m : (ℓ : Loc nD τ sig) → Buf (Elt Ideal) ℓ) (ρ : Dev nD → PrngReg)
variable (m' : (ℓ : Loc Cert.Reference2Ideal.nD Cert.Reference2Ideal.τ Cert.Reference2Ideal.sig) → Buf (Elt Ideal) ℓ)
  (ρ' : Dev Cert.Reference2Ideal.nD → PrngReg)

/-- What both programs end with. -/
def answer (x : FVec Ideal S1x5000x6 .f32) : FVec Ideal S100x6 .f32 := NmsRef.selected x (NmsRef.unsorted x (marked (kernelOut x)))

theorem reference_answer (c : Dev Cert.Reference2Ideal.nD) (h : Cert.Pre_two_classes.fn (F := Ideal) (argOf m' c) = fun _ => 1#1) :
    StableHlo.finalContents Cert.NmsRef.condOps Cert.NmsRef.preI Cert.NmsRef.bodyI Cert.NmsRef.postI 5000 m' c
      (Proc.devRef .tc Cert.Reference2Ideal.main_v160) = answer (argOf m' c) := by
  rw [NmsRef.result_eq, answer, NmsRef.kept_eq _ (known_of_pre _ h) _ (marks_val _)]

theorem kernel_run : θ_run defs (onTc (τ := τ) (main (F := Ideal))) ⟨m, fun _ => 0, ρ⟩ (fun r => ∀ c : Dev nD,
      r.2.mem ((c.tc : Thread nD τ).loc main_v62) = answer (m ((c.tc : Thread nD τ).loc main_arg0))
      ∧ r.2.mem ((c.tc : Thread nD τ).loc main_arg0) = m ((c.tc : Thread nD τ).loc main_arg0)) :=
  (θ_run defs _ _).mono (fun _ h c => ⟨(h.1 c).trans (result_val m c), h.2.1 c⟩) (θ_run_and (run_result m ρ) (frame m ρ))

theorem reference_frame : θ_run (Cert.Reference2Ideal.defs (F := Ideal)) (onTc (τ := Cert.Reference2Ideal.τ) (Cert.Reference2Ideal.main (F := Ideal)))
    ⟨m', fun _ => 0, ρ'⟩ (fun r => ∀ c : Dev Cert.Reference2Ideal.nD,
      r.2.mem ((c.tc : Thread Cert.Reference2Ideal.nD Cert.Reference2Ideal.τ).loc Cert.Reference2Ideal.main_arg0) = argOf m' c) :=
  (θ_run _ _ _).mono (fun _ h c => (h c Cert.Reference2Ideal.main_arg0 rfl).trans (NmsRef.result_arg m' c)) (NmsRef.run m' ρ')

theorem reference_run (hp : ∀ c, Cert.Pre_two_classes.fn (F := Ideal) (argOf m' c) = fun _ => 1#1) :
    θ_run (Cert.Reference2Ideal.defs (F := Ideal)) (onTc (τ := Cert.Reference2Ideal.τ) (Cert.Reference2Ideal.main (F := Ideal)))
    ⟨m', fun _ => 0, ρ'⟩ (fun r => ∀ c : Dev Cert.Reference2Ideal.nD,
      r.2.mem ((c.tc : Thread Cert.Reference2Ideal.nD Cert.Reference2Ideal.τ).loc Cert.Reference2Ideal.main_v160) = answer (argOf m' c)
      ∧ r.2.mem ((c.tc : Thread Cert.Reference2Ideal.nD Cert.Reference2Ideal.τ).loc Cert.Reference2Ideal.main_arg0) = argOf m' c) :=
  (θ_run _ _ _).mono (fun _ h c => ⟨(h c Cert.Reference2Ideal.main_v160 rfl).trans (reference_answer m' c (hp c)),
    (h c Cert.Reference2Ideal.main_arg0 rfl).trans (NmsRef.result_arg m' c)⟩) (NmsRef.run m' ρ')

end Runs

end Cert.Nms
-- ==== Proof.lean ====
/- The proof of every claim: frames, the pairing of the kernel with its ideal form, and the equality of the
   ideal kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_boxes
public import proofs.«01_k».proof.Proof.Gen.Kernel2
public import proofs.«01_k».proof.Proof.Gen.Kernel2Ideal
public import proofs.«01_k».proof.Proof.Gen.Reference2Ideal
public import proofs.«01_k».proof.Proof.Gen.Pre_two_classes
public import proofs.«01_k».proof.Proof.Equal
public import proofs.«01_k».proof.Proof.NmsBitsRun
public import proofs.«01_k».proof.Proof.NmsEqual
public import Idealize.ShloMosaic.Adequacy
public import Idealize.ShloMosaic.Init

@[expose] public section

noncomputable section

namespace Cert.Proof

open Idealize.ShloMosaic Idealize.SL.Sem

theorem frame : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_boxes :=
  fun m ρ _ => Cert.KernelIdeal.Gen.frame m ρ

theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem frame_reference_pre : Cert.quiescent_ReferenceIdeal_pre_finite_boxes := fun m ρ _ =>
  frame_reference m ρ trivial

theorem equal : Cert.algebraic_KernelIdeal_ReferenceIdeal_pre_finite_boxes := by
  intro m ρ m' ρ' hpre hagree
  have hf : ∀ c : Dev Cert.KernelIdeal.nD, Cert.Head.Finite
      (m ((c.tc : Thread Cert.KernelIdeal.nD Cert.KernelIdeal.τ).loc Cert.KernelIdeal.main_arg0)) :=
    fun c => Cert.Head.finite_of_pre _ _ _ _ _ _ _ _ _ _ _ _ _ _ _ _ _ _ (hpre c)
  refine ⟨fun c => Cert.Head.heatV m c, fun c => Cert.Head.sizeV m c, Cert.Head.run_values m ρ hf, ?_⟩
  refine (θ_run _ _ _).mono (fun _ h c => ?_) (Cert.ReferenceIdeal.Value.run (F := Ideal) m' ρ')
  exact ⟨(h c).1.trans (Cert.Head.ref_heat m m' c (hagree c)),
    (h c).2.1.trans (Cert.Head.ref_size m m' c (hagree c)), (h c).2.2⟩

/-! ## The suppression -/

theorem frame2 : Cert.quiescent_Kernel2 := fun m ρ _ => Cert.NmsBits.frame m ρ

theorem frame2_ideal : Cert.quiescent_Kernel2Ideal := fun m ρ _ => Cert.Nms.frame m ρ

theorem frame2_ideal_pre : Cert.quiescent_Kernel2Ideal_pre_two_classes := fun m ρ _ => Cert.Nms.frame m ρ

theorem frame2_reference : Cert.quiescent_Reference2Ideal := fun m ρ _ =>
  (θ_run Cert.Reference2Ideal.defs _ _).mono
    (fun r h => ⟨h, Idealize.ShloMosaic.sem_eq_zero_of_no_sems (by decide) r.2⟩)
    (Cert.Nms.reference_frame m ρ)

theorem frame2_reference_pre : Cert.quiescent_Reference2Ideal_pre_two_classes := fun m ρ _ => frame2_reference m ρ trivial

theorem equal2 : Cert.algebraic_Kernel2Ideal_Reference2Ideal_pre_two_classes := by
  intro m ρ m' ρ' hpre hagree
  have hp : ∀ c : Dev Cert.Reference2Ideal.nD, Cert.Pre_two_classes.fn (F := Ideal) (Cert.NmsRef.argOf m' c) = fun _ => 1#1 :=
    fun c => (congrArg (Cert.Pre_two_classes.fn (F := Ideal)) (hagree c)).trans (hpre c)
  refine ⟨fun c => Cert.Nms.answer (m ((c.tc : Thread Cert.Kernel2Ideal.nD Cert.Kernel2Ideal.τ).loc Cert.Kernel2Ideal.main_arg0)),
    Cert.Nms.kernel_run m ρ, ?_⟩
  refine (θ_run _ _ _).mono (fun _ h c => ?_) (Cert.Nms.reference_run m' ρ' hp)
  exact ⟨(h c).1.trans (congrArg Cert.Nms.answer (hagree c)), (h c).2⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite_boxes.Gen.facts, Cert.Pre_two_classes.Gen.facts,
    frame, frame_ideal, frame_ideal_pre, frame_reference, frame_reference_pre,
    frame2, frame2_ideal, frame2_ideal_pre, frame2_reference, frame2_reference_pre, trivial, equal, trivial, equal2⟩

end Cert.Proof

end
